-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Experts [hPre_table_ranges : Cert.Pre_table_ranges.Facts] (m : (ℓ : Loc Cert.Experts.nD Cert.Experts.τ Cert.Experts.sig) → Buf (Elt Bits) ℓ) : Prop :=
  ∀ c : Dev Cert.Experts.nD,
    (Cert.Pre_table_ranges.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_table_ranges.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.1 = (fun _ => 1#1)
    ∧ (Cert.Pre_table_ranges.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.2 = (fun _ => 1#1)

def Pre_ExpertsIdeal [hPre_table_ranges : Cert.Pre_table_ranges.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_table_ranges.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_table_ranges.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.1 = (fun _ => 1#1)
    ∧ (Cert.Pre_table_ranges.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_table_ranges [hPre_table_ranges : Cert.Pre_table_ranges.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_table_ranges.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).1 = (fun _ => 1#1)
    ∧ (Cert.Pre_table_ranges.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2.1 = (fun _ => 1#1)
    ∧ (Cert.Pre_table_ranges.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2.2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Dilated (m : (ℓ : Loc Cert.Dilated.nD Cert.Dilated.τ Cert.Dilated.sig) → Buf (Elt Bits) ℓ) : Prop :=
  True

def Pre_DilatedIdeal (m : (ℓ : Loc Cert.DilatedIdeal.nD Cert.DilatedIdeal.τ Cert.DilatedIdeal.sig) → Buf (Elt Ideal) ℓ) : Prop :=
  True

def Pre_DilatedReferenceIdeal (m : (ℓ : Loc Cert.DilatedReferenceIdeal.nD Cert.DilatedReferenceIdeal.τ Cert.DilatedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_table_ranges : Cert.Pre_table_ranges.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_table_ranges : Cert.Pre_table_ranges.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_table_ranges [hExpertsReferenceIdeal : Cert.ExpertsReferenceIdeal.Facts] [hPre_table_ranges : Cert.Pre_table_ranges.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_table_ranges m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8)
      ∧ r.2.mem ((c.tc : Thread Cert.Dense.nD Cert.Dense.τ).loc Cert.Dense.main_arg9) = m ((c.tc : Thread Cert.Dense.nD Cert.Dense.τ).loc Cert.Dense.main_arg9))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8)
      ∧ r.2.mem ((c.tc : Thread Cert.DenseReferenceIdeal.nD Cert.DenseReferenceIdeal.τ).loc Cert.DenseReferenceIdeal.main_arg9) = m ((c.tc : Thread Cert.DenseReferenceIdeal.nD Cert.DenseReferenceIdeal.τ).loc Cert.DenseReferenceIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Dilated [hDilated : Cert.Dilated.Facts] : Prop :=
  ∀ (m : (ℓ : Loc Cert.Dilated.nD Cert.Dilated.τ Cert.Dilated.sig) → Buf (Elt Bits) ℓ) (g : Dev Cert.Dilated.nD → PrngReg), Pre_Dilated m →
    θ_run (Cert.Dilated.defs (F := Bits)) (onTc (τ := Cert.Dilated.τ) (Cert.Dilated.main (F := Bits))) ⟨m, fun _ => 0, g⟩ (fun r => (∀ c : Dev Cert.Dilated.nD,
      r.2.mem ((c.tc : Thread Cert.Dilated.nD Cert.Dilated.τ).loc Cert.Dilated.main_arg0) = m ((c.tc : Thread Cert.Dilated.nD Cert.Dilated.τ).loc Cert.Dilated.main_arg0)
      ∧ r.2.mem ((c.tc : Thread Cert.Dilated.nD Cert.Dilated.τ).loc Cert.Dilated.main_arg1) = m ((c.tc : Thread Cert.Dilated.nD Cert.Dilated.τ).loc Cert.Dilated.main_arg1))
      ∧ r.2.sem = fun _ => 0)

def quiescent_DilatedIdeal [hDilatedIdeal : Cert.DilatedIdeal.Facts] : Prop :=
  ∀ (m : (ℓ : Loc Cert.DilatedIdeal.nD Cert.DilatedIdeal.τ Cert.DilatedIdeal.sig) → Buf (Elt Ideal) ℓ) (g : Dev Cert.DilatedIdeal.nD → PrngReg), Pre_DilatedIdeal m →
    θ_run (Cert.DilatedIdeal.defs (F := Ideal)) (onTc (τ := Cert.DilatedIdeal.τ) (Cert.DilatedIdeal.main (F := Ideal))) ⟨m, fun _ => 0, g⟩ (fun r => (∀ c : Dev Cert.DilatedIdeal.nD,
      r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
      ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1))
      ∧ r.2.sem = fun _ => 0)

def quiescent_DilatedReferenceIdeal [hDilatedReferenceIdeal : Cert.DilatedReferenceIdeal.Facts] : Prop :=
  ∀ (m : (ℓ : Loc Cert.DilatedReferenceIdeal.nD Cert.DilatedReferenceIdeal.τ Cert.DilatedReferenceIdeal.sig) → Buf (Elt Ideal) ℓ) (g : Dev Cert.DilatedReferenceIdeal.nD → PrngReg), Pre_DilatedReferenceIdeal m →
    θ_run (Cert.DilatedReferenceIdeal.defs (F := Ideal)) (onTc (τ := Cert.DilatedReferenceIdeal.τ) (Cert.DilatedReferenceIdeal.main (F := Ideal))) ⟨m, fun _ => 0, g⟩ (fun r => (∀ c : Dev Cert.DilatedReferenceIdeal.nD,
      r.2.mem ((c.tc : Thread Cert.DilatedReferenceIdeal.nD Cert.DilatedReferenceIdeal.τ).loc Cert.DilatedReferenceIdeal.main_arg0) = m ((c.tc : Thread Cert.DilatedReferenceIdeal.nD Cert.DilatedReferenceIdeal.τ).loc Cert.DilatedReferenceIdeal.main_arg0)
      ∧ r.2.mem ((c.tc : Thread Cert.DilatedReferenceIdeal.nD Cert.DilatedReferenceIdeal.τ).loc Cert.DilatedReferenceIdeal.main_arg1) = m ((c.tc : Thread Cert.DilatedReferenceIdeal.nD Cert.DilatedReferenceIdeal.τ).loc Cert.DilatedReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_table_ranges : Cert.Pre_table_ranges.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v33) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)
      ∧ m' ((c.tc : Thread Cert.DenseReferenceIdeal.nD Cert.DenseReferenceIdeal.τ).loc Cert.DenseReferenceIdeal.main_arg8) = m ((c.tc : Thread Cert.DenseIdeal.nD Cert.DenseIdeal.τ).loc Cert.DenseIdeal.main_arg8)
      ∧ m' ((c.tc : Thread Cert.DenseReferenceIdeal.nD Cert.DenseReferenceIdeal.τ).loc Cert.DenseReferenceIdeal.main_arg9) = m ((c.tc : Thread Cert.DenseIdeal.nD Cert.DenseIdeal.τ).loc Cert.DenseIdeal.main_arg9)) →
    ∃ (v0 : (c : Dev Cert.DenseIdeal.nD) → Buf (Elt Ideal) ((c.tc : Thread Cert.DenseIdeal.nD Cert.DenseIdeal.τ).loc Cert.DenseIdeal.main_v2_0)) (v1 : (c : Dev Cert.DenseIdeal.nD) → Buf (Elt Ideal) ((c.tc : Thread Cert.DenseIdeal.nD Cert.DenseIdeal.τ).loc Cert.DenseIdeal.main_v2_1)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v2_0) = v0 c
          ∧ r.2.mem ((c.tc : Thread Cert.DenseIdeal.nD Cert.DenseIdeal.τ).loc Cert.DenseIdeal.main_v2_1) = v1 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v34) = v0 c
          ∧ r.2.mem ((c.tc : Thread Cert.DenseReferenceIdeal.nD Cert.DenseReferenceIdeal.τ).loc Cert.DenseReferenceIdeal.main_v48) = v1 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7)
          ∧ r.2.mem ((c.tc : Thread Cert.DenseReferenceIdeal.nD Cert.DenseReferenceIdeal.τ).loc Cert.DenseReferenceIdeal.main_arg8) = m' ((c.tc : Thread Cert.DenseReferenceIdeal.nD Cert.DenseReferenceIdeal.τ).loc Cert.DenseReferenceIdeal.main_arg8)
          ∧ r.2.mem ((c.tc : Thread Cert.DenseReferenceIdeal.nD Cert.DenseReferenceIdeal.τ).loc Cert.DenseReferenceIdeal.main_arg9) = m' ((c.tc : Thread Cert.DenseReferenceIdeal.nD Cert.DenseReferenceIdeal.τ).loc Cert.DenseReferenceIdeal.main_arg9))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v28) = v0 c
          ∧ r.2.mem ((c.tc : Thread Cert.MergeReferenceIdeal.nD Cert.MergeReferenceIdeal.τ).loc Cert.MergeReferenceIdeal.main_v42) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Dilated_DilatedIdeal : Prop :=
  True

def algebraic_DilatedIdeal_DilatedReferenceIdeal [hDilatedIdeal : Cert.DilatedIdeal.Facts] [hDilatedReferenceIdeal : Cert.DilatedReferenceIdeal.Facts] : Prop :=
  ∀ (m : (ℓ : Loc Cert.DilatedIdeal.nD Cert.DilatedIdeal.τ Cert.DilatedIdeal.sig) → Buf (Elt Ideal) ℓ) (g : Dev Cert.DilatedIdeal.nD → PrngReg)
    (m' : (ℓ : Loc Cert.DilatedReferenceIdeal.nD Cert.DilatedReferenceIdeal.τ Cert.DilatedReferenceIdeal.sig) → Buf (Elt Ideal) ℓ) (g' : Dev Cert.DilatedReferenceIdeal.nD → PrngReg), Pre_DilatedIdeal m →
    (∀ c : Dev Cert.DilatedIdeal.nD,
      m' ((c.tc : Thread Cert.DilatedReferenceIdeal.nD Cert.DilatedReferenceIdeal.τ).loc Cert.DilatedReferenceIdeal.main_arg0) = m ((c.tc : Thread Cert.DilatedIdeal.nD Cert.DilatedIdeal.τ).loc Cert.DilatedIdeal.main_arg0)
      ∧ m' ((c.tc : Thread Cert.DilatedReferenceIdeal.nD Cert.DilatedReferenceIdeal.τ).loc Cert.DilatedReferenceIdeal.main_arg1) = m ((c.tc : Thread Cert.DilatedIdeal.nD Cert.DilatedIdeal.τ).loc Cert.DilatedIdeal.main_arg1)) →
    ∃ (v0 : (c : Dev Cert.DilatedIdeal.nD) → Buf (Elt Ideal) ((c.tc : Thread Cert.DilatedIdeal.nD Cert.DilatedIdeal.τ).loc Cert.DilatedIdeal.main_v0)),
      θ_run (Cert.DilatedIdeal.defs (F := Ideal)) (onTc (τ := Cert.DilatedIdeal.τ) (Cert.DilatedIdeal.main (F := Ideal))) ⟨m, fun _ => 0, g⟩ (fun r => ∀ c : Dev Cert.DilatedIdeal.nD,
          r.2.mem ((c.tc : Thread Cert.DilatedIdeal.nD Cert.DilatedIdeal.τ).loc Cert.DilatedIdeal.main_v0) = v0 c
          ∧ r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
          ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1))
      ∧ θ_run (Cert.DilatedReferenceIdeal.defs (F := Ideal)) (onTc (τ := Cert.DilatedReferenceIdeal.τ) (Cert.DilatedReferenceIdeal.main (F := Ideal))) ⟨m', fun _ => 0, g'⟩ (fun r => ∀ c : Dev Cert.DilatedReferenceIdeal.nD,
          r.2.mem ((c.tc : Thread Cert.DilatedReferenceIdeal.nD Cert.DilatedReferenceIdeal.τ).loc Cert.DilatedReferenceIdeal.main_v7) = v0 c
          ∧ r.2.mem ((c.tc : Thread Cert.DilatedReferenceIdeal.nD Cert.DilatedReferenceIdeal.τ).loc Cert.DilatedReferenceIdeal.main_arg0) = m' ((c.tc : Thread Cert.DilatedReferenceIdeal.nD Cert.DilatedReferenceIdeal.τ).loc Cert.DilatedReferenceIdeal.main_arg0)
          ∧ r.2.mem ((c.tc : Thread Cert.DilatedReferenceIdeal.nD Cert.DilatedReferenceIdeal.τ).loc Cert.DilatedReferenceIdeal.main_arg1) = m' ((c.tc : Thread Cert.DilatedReferenceIdeal.nD Cert.DilatedReferenceIdeal.τ).loc Cert.DilatedReferenceIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts) (hMerge : Cert.Merge.Facts) (hMergeIdeal : Cert.MergeIdeal.Facts) (hMergeReferenceIdeal : Cert.MergeReferenceIdeal.Facts) (hDilated : Cert.Dilated.Facts) (hDilatedIdeal : Cert.DilatedIdeal.Facts) (hDilatedReferenceIdeal : Cert.DilatedReferenceIdeal.Facts) (hPre_finite_scores : Cert.Pre_finite_scores.Facts) (hPre_table_ranges : Cert.Pre_table_ranges.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_table_ranges := hPre_table_ranges)
    ∧ quiescent_ExpertsIdeal (hExpertsIdeal := hExpertsIdeal) (hPre_table_ranges := hPre_table_ranges)
    ∧ quiescent_ExpertsReferenceIdeal (hExpertsReferenceIdeal := hExpertsReferenceIdeal)
    ∧ quiescent_ExpertsReferenceIdeal_pre_table_ranges (hExpertsReferenceIdeal := hExpertsReferenceIdeal) (hPre_table_ranges := hPre_table_ranges)
    ∧ quiescent_Dense (hDense := hDense)
    ∧ quiescent_DenseIdeal (hDenseIdeal := hDenseIdeal)
    ∧ quiescent_DenseReferenceIdeal (hDenseReferenceIdeal := hDenseReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Dilated (hDilated := hDilated)
    ∧ quiescent_DilatedIdeal (hDilatedIdeal := hDilatedIdeal)
    ∧ quiescent_DilatedReferenceIdeal (hDilatedReferenceIdeal := hDilatedReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal (hExpertsIdeal := hExpertsIdeal) (hExpertsReferenceIdeal := hExpertsReferenceIdeal) (hPre_table_ranges := hPre_table_ranges)
    ∧ preserves_Dense_DenseIdeal
    ∧ algebraic_DenseIdeal_DenseReferenceIdeal (hDenseIdeal := hDenseIdeal) (hDenseReferenceIdeal := hDenseReferenceIdeal)
    ∧ preserves_Merge_MergeIdeal
    ∧ algebraic_MergeIdeal_MergeReferenceIdeal (hMergeIdeal := hMergeIdeal) (hMergeReferenceIdeal := hMergeReferenceIdeal)
    ∧ preserves_Dilated_DilatedIdeal
    ∧ algebraic_DilatedIdeal_DilatedReferenceIdeal (hDilatedIdeal := hDilatedIdeal) (hDilatedReferenceIdeal := hDilatedReferenceIdeal)
-- ==== Pre_finite_scores.lean ====
abbrev S8x2048x8x64 : Shape := ⟨4, ![8, 2048, 8, 64]⟩
abbrev S8x2048x8x32 : Shape := ⟨4, ![8, 2048, 8, 32]⟩
abbrev S8x2048x32 : Shape := ⟨3, ![8, 2048, 32]⟩
abbrev S_ : Shape := ⟨0, ![]⟩

class Facts : Prop where
  bcast_S_S8x2048x8x64 : S_.BroadcastsInDim S8x2048x8x64 (![] : Fin 0 → Fin S8x2048x8x64.rank)
  bcast_S_S8x2048x8x32 : S_.BroadcastsInDim S8x2048x8x32 (![] : Fin 0 → Fin S8x2048x8x32.rank)
  bcast_S_S8x2048x32 : S_.BroadcastsInDim S8x2048x32 (![] : Fin 0 → Fin S8x2048x32.rank)

variable [Facts]

def fn {F : FTy → Type} [FloatOps F] (main_arg0 : FVec F S8x2048x8x64 .f32) (main_arg1 : FVec F S8x2048x8x32 .f32) (main_arg2 : FVec F S8x2048x8x64 .f32) (main_arg3 : FVec F S8x2048x32 .f32) (main_arg4 : FVec F S8x2048x8x64 .f32) : IVec S8x2048x8x64 1 × IVec S8x2048x8x32 1 × IVec S8x2048x8x64 1 × IVec S8x2048x32 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_v3 : FVec F S8x2048x8x32 .f32 := Host.absf main_arg1
  let main_cst_0 : FVec F S_ .f32 := constant S_ .f32 0x7F800000#32
  let main_v4 : FVec F S8x2048x8x32 .f32 := broadcastInDim S8x2048x8x32 ![] bcast_S_S8x2048x8x32 main_cst_0
  let main_v5 : IVec S8x2048x8x32 1 := cmpf .olt main_v3 main_v4
  let main_v6 : FVec F S8x2048x8x64 .f32 := Host.absf main_arg2
  let main_cst_1 : FVec F S_ .f32 := constant S_ .f32 0x7F800000#32
  let main_v7 : FVec F S8x2048x8x64 .f32 := broadcastInDim S8x2048x8x64 ![] bcast_S_S8x2048x8x64 main_cst_1
  let main_v8 : IVec S8x2048x8x64 1 := cmpf .olt main_v6 main_v7
  let main_v9 : FVec F S8x2048x32 .f32 := Host.absf main_arg3
  let main_cst_2 : FVec F S_ .f32 := constant S_ .f32 0x7F800000#32
  let main_v10 : FVec F S8x2048x32 .f32 := broadcastInDim S8x2048x32 ![] bcast_S_S8x2048x32 main_cst_2
  let main_v11 : IVec S8x2048x32 1 := cmpf .olt main_v9 main_v10
  (main_v2, main_v5, main_v8, main_v11)
-- ==== Pre_table_ranges.lean ====
abbrev S290304x128 : Shape := ⟨2, ![290304, 128]⟩
abbrev S81 : Shape := ⟨1, ![81]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S81 : S_.BroadcastsInDim S81 (![] : Fin 0 → Fin S81.rank)
  bcast_S_S1 : S_.BroadcastsInDim S1 (![] : Fin 0 → Fin S1.rank)

variable [Facts]

def fn {F : FTy → Type} [FloatOps F] (main_arg0 : FVec F S290304x128 .f32) (main_arg1 : IVec S81 32) (main_arg2 : IVec S1 32) (main_arg3 : FVec F S8x1024x3584 .bf16) (main_arg4 : FVec F S8x1024x3584 .bf16) (main_arg5 : FVec F S8x3584x1024 .bf16) : IVec S81 1 × IVec S81 1 × IVec S1 1 :=
  let main_c : IVec S_ 32 := constantI S_ 32 0#32
  let main_v0 : IVec S81 32 := broadcastInDim S81 ![] bcast_S_S81 main_c
  let main_v1 : IVec S81 1 := cmpi .sge main_arg1 main_v0
  let main_c_0 : IVec S_ 32 := constantI S_ 32 8#32
  let main_v2 : IVec S81 32 := broadcastInDim S81 ![] bcast_S_S81 main_c_0
  let main_v3 : IVec S81 1 := cmpi .slt main_arg1 main_v2
  let main_c_1 : IVec S_ 32 := constantI S_ 32 1#32
  let main_v4 : IVec S1 32 := broadcastInDim S1 ![] bcast_S_S1 main_c_1
  let main_v5 : IVec S1 1 := cmpi .sge main_arg2 main_v4
  (main_v1, main_v3, main_v5)
-- ==== Kernel.lean ====
abbrev S8x2048x8x64 : Shape := ⟨4, ![8, 2048, 8, 64]⟩
abbrev S8x2048x8x32 : Shape := ⟨4, ![8, 2048, 8, 32]⟩
abbrev S8x2048x32 : Shape := ⟨3, ![8, 2048, 32]⟩
abbrev S_ : Shape := ⟨0, ![]⟩
abbrev S8x2048x8x128 : Shape := ⟨4, ![8, 2048, 8, 128]⟩
abbrev S16384x1024 : Shape := ⟨2, ![16384, 1024]⟩
abbrev S8x2048x1x32 : Shape := ⟨4, ![8, 2048, 1, 32]⟩
abbrev S16384x512 : Shape := ⟨2, ![16384, 512]⟩
abbrev S512x512 : Shape := ⟨2, ![512, 512]⟩
abbrev S2048x512 : Shape := ⟨2, ![2048, 512]⟩
abbrev S512x256 : Shape := ⟨2, ![512, 256]⟩
abbrev S4x4x512x512 : Shape := ⟨4, ![4, 4, 512, 512]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S1x1x256x512 : Shape := ⟨4, ![1, 1, 256, 512]⟩
abbrev S256x64 : Shape := ⟨2, ![256, 64]⟩

abbrev nBuf : Space → Nat
  | .hbm => 30
  | .vmem => 9
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x8x64, .f32⟩
  | .hbm, ⟨3, _⟩ => ⟨S8x2048x32, .f32⟩
  | .hbm, ⟨4, _⟩ => ⟨S8x2048x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x8x32, .f32⟩
  | .hbm, ⟨12, _⟩ => ⟨S8x2048x8x128, .f32⟩
  | .hbm, ⟨13, _⟩ => ⟨S8x2048x8x128, .f32⟩
  | .hbm, ⟨14, _⟩ => ⟨S8x2048x8x128, .f32⟩
  | .hbm, ⟨15, _⟩ => ⟨S8x2048x8x128, .bf16⟩
  | .hbm, ⟨16, _⟩ => ⟨S16384x1024, .bf16⟩
  | .hbm, ⟨17, _⟩ => ⟨S8x2048x1x32, .f32⟩
  | .hbm, ⟨18, _⟩ => ⟨S8x2048x8x32, .f32⟩
  | .hbm, ⟨19, _⟩ => ⟨S_, .f32⟩
  | .hbm, ⟨20, _⟩ => ⟨S8x2048x8x32, .f32⟩
  | .hbm, ⟨21, _⟩ => ⟨S8x2048x8x128, .f32⟩
  | .hbm, ⟨22, _⟩ => ⟨S8x2048x8x128, .bf16⟩
  | .hbm, ⟨23, _⟩ => ⟨S16384x1024, .bf16⟩
  | .hbm, ⟨24, _⟩ => ⟨S_, .f32⟩
  | .hbm, ⟨25, _⟩ => ⟨S8x2048x8x64, .f32⟩
  | .hbm, ⟨26, _⟩ => ⟨S8x2048x8x128, .f32⟩
  | .hbm, ⟨27, _⟩ => ⟨S8x2048x8x128, .bf16⟩
  | .hbm, ⟨28, _⟩ => ⟨S16384x1024, .bf16⟩
  | .hbm, ⟨29, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x256, .bf16⟩
  | .local _ .vmem, ⟨7, _⟩ => ⟨S512x256, .bf16⟩
  | .local _ .vmem, ⟨8, _⟩ => ⟨S4x4x512x512, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x2048x8x64 : Shape := ⟨4, ![8, 2048, 8, 64]⟩
abbrev S8x2048x8x32 : Shape := ⟨4, ![8, 2048, 8, 32]⟩
abbrev S8x2048x32 : Shape := ⟨3, ![8, 2048, 32]⟩
abbrev S_ : Shape := ⟨0, ![]⟩
abbrev S2048 : Shape := ⟨1, ![2048]⟩
abbrev S8x8x2048x2048 : Shape := ⟨4, ![8, 8, 2048, 2048]⟩
abbrev S8x2048x2048x8 : Shape := ⟨4, ![8, 2048, 2048, 8]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S16384x512 : Shape := ⟨2, ![16384, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x8x64, .f32⟩
  | .hbm, ⟨3, _⟩ => ⟨S8x2048x32, .f32⟩
  | .hbm, ⟨4, _⟩ => ⟨S8x2048x8x64, .f32⟩
  | .hbm, ⟨5, _⟩ => ⟨S_, .f32⟩
  | .hbm, ⟨6, _⟩ => ⟨S_, .f32⟩
  | .hbm, ⟨7, _⟩ => ⟨S2048, .i32⟩
  | .hbm, ⟨8, _⟩ => ⟨S2048, .i32⟩
  | .hbm, ⟨9, _⟩ => ⟨S8x8x2048x2048, .f32⟩
  | .hbm, ⟨10, _⟩ => ⟨S8x2048x2048x8, .f32⟩
  | .hbm, ⟨11, _⟩ => ⟨S8x8x2048x2048, .f32⟩
  | .hbm, ⟨12, _⟩ => ⟨S8x8x2048x2048, .f32⟩
  | .hbm, ⟨13, _⟩ => ⟨S8x8x2048x2048, .f32⟩
  | .hbm, ⟨14, _⟩ => ⟨S8x8x2048x2048, .f32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S8x8x2048x2048, .i1⟩
  | .hbm, ⟨23, _⟩ => ⟨S8x8x2048x2048, .f32⟩
  | .hbm, ⟨24, _⟩ => ⟨S8x8x2048x2048, .f32⟩
  | .hbm, ⟨25, _⟩ => ⟨S_, .f32⟩
  | .hbm, ⟨26, _⟩ => ⟨S8x8x2048, .f32⟩
  | .hbm, ⟨27, _⟩ => ⟨S_, .f32⟩
  | .hbm, ⟨28, _⟩ => ⟨S8x8x2048, .f32⟩
  | .hbm, ⟨29, _⟩ => ⟨S8x8x2048, .f32⟩
  | .hbm, ⟨30, _⟩ => ⟨S8x8x2048x1, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S8x8x2048x1, .f32⟩
  | .hbm, ⟨37, _⟩ => ⟨S8x8x2048x2048, .f32⟩
  | .hbm, ⟨38, _⟩ => ⟨S8x8x2048x2048, .f32⟩
  | .hbm, ⟨39, _⟩ => ⟨S8x8x64x2048, .f32⟩
  | .hbm, ⟨40, _⟩ => ⟨S8x2048x8x64, .f32⟩
  | .hbm, ⟨41, _⟩ => ⟨S16384x512, .f32⟩
  | .hbm, ⟨42, _⟩ => ⟨S16384x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Experts.lean ====
abbrev S290304x128 : Shape := ⟨2, ![290304, 128]⟩
abbrev S81 : Shape := ⟨1, ![81]⟩
abbrev S1 : Shape := ⟨1, ![1]⟩
abbrev S8x1024x3584 : Shape := ⟨3, ![8, 1024, 3584]⟩
abbrev S8x3584x1024 : Shape := ⟨3, ![8, 3584, 1024]⟩
abbrev S3584x128 : Shape := ⟨2, ![3584, 128]⟩
abbrev S1x1024x1792 : Shape := ⟨3, ![1, 1024, 1792]⟩
abbrev S1x1792x1024 : Shape := ⟨3, ![1, 1792, 1024]⟩
abbrev S448x1024 : Shape := ⟨2, ![448, 1024]⟩
abbrev S448x128 : Shape := ⟨2, ![448, 128]⟩
abbrev S1024x1792 : Shape := ⟨2, ![1024, 1792]⟩
abbrev S448x1792 : Shape := ⟨2, ![448, 1792]⟩
abbrev S1792x1024 : Shape := ⟨2, ![1792, 1024]⟩

abbrev nBuf : Space → Nat
  | .hbm => 5
  | .vmem => 12
  | .smem => 2
  | _ => 0

abbrev bufTy : (tb : Table) → Fin (tcTables nBuf tb) → BufTy
  | .hbm, ⟨0, _⟩ => ⟨S290304x128, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S290304x128, .f32⟩
  | .local _ .vmem, ⟨0, _⟩ => ⟨S3584x128, .f32⟩
  | .local _ .vmem, ⟨1, _⟩ => ⟨S3584x128, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S3584x128, .f32⟩
  | .local _ .vmem, ⟨9, _⟩ => ⟨S3584x128, .f32⟩
  | .local _ .vmem, ⟨10, _⟩ => ⟨S448x1024, .f32⟩
  | .local _ .vmem, ⟨11, _⟩ => ⟨S448x1024, .bf16⟩
  | .local _ .smem, ⟨0, _⟩ => ⟨S81, .i32⟩
  | .local _ .smem, ⟨1, _⟩ => ⟨S1, .i32⟩
  | _, _ => ⟨S290304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![81, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c1_i32 : BitVec 32 := 1#32
  let v2 : BitVec 1 := Scalar.cmpi .eq arg1 c1_i32
  let v9 : BitVec 1 := Scalar.andi v1 v2
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c1_i32 : BitVec 32 := 1#32
  let v2 : BitVec 1 := Scalar.cmpi .eq arg1 c1_i32
  let v13 : BitVec 1 := Scalar.andi v12 v2
  let v14 : BitVec 32 := Scalar.extui v13
  let c0_i32_3 : BitVec 32 := 0#32
  let v15 : BitVec 1 := Scalar.cmpi .ne v14 c0_i32_3
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c0_0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.select v1 arg0 v3
  let c1_i32_1 : BitVec 32 := 1#32
  let v5 : BitVec 32 := Scalar.select v1 arg1 c1_i32_1
  let c0_i32 : BitVec 32 := 0#32
  let c0_i32_2 : BitVec 32 := 0#32
  ![v4.toNat, c0_i32.toNat]

def cc0_transform_1 (k0_off1_inb : ∀ i : grid0.Coords, ∀ a, (k0_off1 i) a + S1.size a ≤ S81.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S81) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_0 : Index := 0#32
  let v4 : BitVec 32 := pf.at 1 (Rect.unit (s := S1) ![0] S1.size inb_S1_S1_0) numel1_S1
  let c1_i32 : BitVec 32 := 1#32
  let v5 : BitVec 32 := Scalar.subi v4 c1_i32
  let v6 : BitVec 32 := Scalar.select v3 arg0 v5
  let c1_i32_1 : BitVec 32 := 1#32
  let v7 : BitVec 32 := Scalar.select v3 arg1 c1_i32_1
  let c0_i32 : BitVec 32 := 0#32
  let c0_i32_2 : BitVec 32 := 0#32
  ![v1.toNat, c0_i32.toNat, v7.toNat]

def cc0_transform_2 (k0_off1_inb : ∀ i : grid0.Coords, ∀ a, (k0_off1 i) a + S1.size a ≤ S81.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S81) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_0 : Index := 0#32
  let v4 : BitVec 32 := pf.at 1 (Rect.unit (s := S1) ![0] S1.size inb_S1_S1_0) numel1_S1
  let c1_i32 : BitVec 32 := 1#32
  let v5 : BitVec 32 := Scalar.subi v4 c1_i32
  let v6 : BitVec 32 := Scalar.select v3 arg0 v5
  let c1_i32_1 : BitVec 32 := 1#32
  let v7 : BitVec 32 := Scalar.select v3 arg1 c1_i32_1
  let c0_i32 : BitVec 32 := 0#32
  let c0_i32_2 : BitVec 32 := 0#32
  ![v1.toNat, c0_i32.toNat, v7.toNat]

def cc0_transform_3 (k0_off1_inb : ∀ i : grid0.Coords, ∀ a, (k0_off1 i) a + S1.size a ≤ S81.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S81) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_0 : Index := 0#32
  let v4 : BitVec 32 := pf.at 1 (Rect.unit (s := S1) ![0] S1.size inb_S1_S1_0) numel1_S1
  let c1_i32 : BitVec 32 := 1#32
  let v5 : BitVec 32 := Scalar.subi v4 c1_i32
  let v6 : BitVec 32 := Scalar.select v3 arg0 v5
  let c1_i32_1 : BitVec 32 := 1#32
  let v7 : BitVec 32 := Scalar.select v3 arg1 c1_i32_1
  let c0_i32 : BitVec 32 := 0#32
  let c0_i32_2 : BitVec 32 := 0#32
  ![v1.toNat, v7.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3584x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3584x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S290304x128 : Shape := ⟨2, ![290304, 128]⟩
abbrev S81 : Shape := ⟨1, ![81]⟩
abbrev S1 : Shape := ⟨1, ![1]⟩
abbrev S8x1024x3584 : Shape := ⟨3, ![8, 1024, 3584]⟩
abbrev S8x3584x1024 : Shape := ⟨3, ![8, 3584, 1024]⟩
abbrev S36288x1024 : Shape := ⟨2, ![36288, 1024]⟩
abbrev S81x1 : Shape := ⟨2, ![81, 1]⟩
abbrev S81x448 : Shape := ⟨2, ![81, 448]⟩
abbrev S36288 : Shape := ⟨1, ![36288]⟩
abbrev S_ : Shape := ⟨0, ![]⟩
abbrev S8x3584x36288 : Shape := ⟨3, ![8, 3584, 36288]⟩
abbrev S8x36288x3584 : Shape := ⟨3, ![8, 36288, 3584]⟩
abbrev S8x36288x1024 : Shape := ⟨3, ![8, 36288, 1024]⟩
abbrev S1x36288 : Shape := ⟨2, ![1, 36288]⟩
abbrev S8 : Shape := ⟨1, ![8]⟩
abbrev S8x1 : Shape := ⟨2, ![8, 1]⟩
abbrev S8x36288 : Shape := ⟨2, ![8, 36288]⟩
abbrev S8x36288x1 : Shape := ⟨3, ![8, 36288, 1]⟩

abbrev nBuf : Space → Nat
  | .hbm => 53
  | .vmem => 0
  | .smem => 0
  | _ => 0

abbrev bufTy : (tb : Table) → Fin (tcTables nBuf tb) → BufTy
  | .hbm, ⟨0, _⟩ => ⟨S290304x128, .f32⟩
  | .hbm, ⟨1, _⟩ => ⟨S81, .i32⟩
  | .hbm, ⟨2, _⟩ => ⟨S1, .i32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S36288x1024, .f32⟩
  | .hbm, ⟨7, _⟩ => ⟨S8x1024x3584, .f32⟩
  | .hbm, ⟨8, _⟩ => ⟨S8x1024x3584, .f32⟩
  | .hbm, ⟨9, _⟩ => ⟨S8x3584x1024, .f32⟩
  | .hbm, ⟨10, _⟩ => ⟨S81x1, .i32⟩
  | .hbm, ⟨11, _⟩ => ⟨S81x448, .i32⟩
  | .hbm, ⟨12, _⟩ => ⟨S36288, .i32⟩
  | .hbm, ⟨13, _⟩ => ⟨S81, .i32⟩
  | .hbm, ⟨14, _⟩ => ⟨S_, .i32⟩
  | .hbm, ⟨15, _⟩ => ⟨S81, .i32⟩
  | .hbm, ⟨16, _⟩ => ⟨S81, .i1⟩
  | .hbm, ⟨17, _⟩ => ⟨S81x1, .i1⟩
  | .hbm, ⟨18, _⟩ => ⟨S81x448, .i1⟩
  | .hbm, ⟨19, _⟩ => ⟨S36288, .i1⟩
  | .hbm, ⟨20, _⟩ => ⟨S8x3584x36288, .f32⟩
  | .hbm, ⟨21, _⟩ => ⟨S8x36288x3584, .f32⟩
  | .hbm, ⟨22, _⟩ => ⟨S8x36288x3584, .f32⟩
  | .hbm, ⟨23, _⟩ => ⟨S8x36288x3584, .f32⟩
  | .hbm, ⟨24, _⟩ => ⟨S_, .f32⟩
  | .hbm, ⟨25, _⟩ => ⟨S8x36288x3584, .f32⟩
  | .hbm, ⟨26, _⟩ => ⟨S8x36288x3584, .f32⟩
  | .hbm, ⟨27, _⟩ => ⟨S_, .f32⟩
  | .hbm, ⟨28, _⟩ => ⟨S8x36288x3584, .f32⟩
  | .hbm, ⟨29, _⟩ => ⟨S8x36288x3584, .f32⟩
  | .hbm, ⟨30, _⟩ => ⟨S8x36288x3584, .f32⟩
  | .hbm, ⟨31, _⟩ => ⟨S8x3584x36288, .f32⟩
  | .hbm, ⟨32, _⟩ => ⟨S8x36288x3584, .f32⟩
  | .hbm, ⟨33, _⟩ => ⟨S8x36288x3584, .f32⟩
  | .hbm, ⟨34, _⟩ => ⟨S8x36288x1024, .f32⟩
  | .hbm, ⟨35, _⟩ => ⟨S1x36288, .i1⟩
  | .hbm, ⟨36, _⟩ => ⟨S1x36288, .i32⟩
  | .hbm, ⟨37, _⟩ => ⟨S8, .i32⟩
  | .hbm, ⟨38, _⟩ => ⟨S8x1, .i32⟩
  | .hbm, ⟨39, _⟩ => ⟨S8x36288, .i32⟩
  | .hbm, ⟨40, _⟩ => ⟨S8x36288, .i32⟩
  | .hbm, ⟨41, _⟩ => ⟨S8x36288, .i1⟩
  | .hbm, ⟨42, _⟩ => ⟨S8x36288, .i1⟩
  | .hbm, ⟨43, _⟩ => ⟨S8x36288, .i1⟩
  | .hbm, ⟨44, _⟩ => ⟨S8x36288x1, .i1⟩
  | .hbm, ⟨45, _⟩ => ⟨S_, .f32⟩
  | .hbm, ⟨46, _⟩ => ⟨S_, .f32⟩
  | .hbm, ⟨47, _⟩ => ⟨S8x36288x1024, .i1⟩
  | .hbm, ⟨48, _⟩ => ⟨S8x36288x1024, .f32⟩
  | .hbm, ⟨49, _⟩ => ⟨S8x36288x1024, .f32⟩
  | .hbm, ⟨50, _⟩ => ⟨S_, .f32⟩
  | .hbm, ⟨51, _⟩ => ⟨S36288x1024, .f32⟩
  | .hbm, ⟨52, _⟩ => ⟨S290304x128, .f32⟩
  | _, _ => ⟨S290304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_cst_0 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Dense.lean ====
abbrev S16384x1024 : Shape := ⟨2, ![16384, 1024]⟩
abbrev S1024x3584 : Shape := ⟨2, ![1024, 3584]⟩
abbrev S3584x1024 : Shape := ⟨2, ![3584, 1024]⟩
abbrev S16384x256 : Shape := ⟨2, ![16384, 256]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S1024x1792 : Shape := ⟨2, ![1024, 1792]⟩
abbrev S1792x1024 : Shape := ⟨2, ![1792, 1024]⟩
abbrev S512x256 : Shape := ⟨2, ![512, 256]⟩
abbrev S512x1792 : Shape := ⟨2, ![512, 1792]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x3584, .bf16⟩
  | .hbm, ⟨3, _⟩ => ⟨S1024x3584, .bf16⟩
  | .hbm, ⟨4, _⟩ => ⟨S3584x1024, .bf16⟩
  | .hbm, ⟨5, _⟩ => ⟨S16384x256, .f32⟩
  | .hbm, ⟨6, _⟩ => ⟨S1024x1024, .bf16⟩
  | .hbm, ⟨7, _⟩ => ⟨S256x1024, .bf16⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .bf16⟩
  | .local _ .vmem, ⟨7, _⟩ => ⟨S1024x1792, .bf16⟩
  | .local _ .vmem, ⟨8, _⟩ => ⟨S1792x1024, .bf16⟩
  | .local _ .vmem, ⟨9, _⟩ => ⟨S1792x1024, .bf16⟩
  | .local _ .vmem, ⟨10, _⟩ => ⟨S512x256, .f32⟩
  | .local _ .vmem, ⟨11, _⟩ => ⟨S512x256, .f32⟩
  | .local _ .vmem, ⟨12, _⟩ => ⟨S1024x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1792x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== DenseReferenceIdeal.lean ====
abbrev S16384x1024 : Shape := ⟨2, ![16384, 1024]⟩
abbrev S1024x3584 : Shape := ⟨2, ![1024, 3584]⟩
abbrev S3584x1024 : Shape := ⟨2, ![3584, 1024]⟩
abbrev S16384x256 : Shape := ⟨2, ![16384, 256]⟩
abbrev S1024x1024 : Shape := ⟨2, ![1024, 1024]⟩
abbrev S256x1024 : Shape := ⟨2, ![256, 1024]⟩
abbrev S1024 : Shape := ⟨1, ![1024]⟩
abbrev S16384x3584 : Shape := ⟨2, ![16384, 3584]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x3584, .bf16⟩
  | .hbm, ⟨3, _⟩ => ⟨S1024x3584, .bf16⟩
  | .hbm, ⟨4, _⟩ => ⟨S3584x1024, .bf16⟩
  | .hbm, ⟨5, _⟩ => ⟨S16384x256, .f32⟩
  | .hbm, ⟨6, _⟩ => ⟨S1024x1024, .bf16⟩
  | .hbm, ⟨7, _⟩ => ⟨S256x1024, .bf16⟩
  | .hbm, ⟨8, _⟩ => ⟨S1024, .f32⟩
  | .hbm, ⟨9, _⟩ => ⟨S1024, .f32⟩
  | .hbm, ⟨10, _⟩ => ⟨S16384x1024, .f32⟩
  | .hbm, ⟨11, _⟩ => ⟨S1024x3584, .f32⟩
  | .hbm, ⟨12, _⟩ => ⟨S1024x3584, .f32⟩
  | .hbm, ⟨13, _⟩ => ⟨S3584x1024, .f32⟩
  | .hbm, ⟨14, _⟩ => ⟨S1024x1024, .f32⟩
  | .hbm, ⟨15, _⟩ => ⟨S256x1024, .f32⟩
  | .hbm, ⟨16, _⟩ => ⟨S16384x3584, .f32⟩
  | .hbm, ⟨17, _⟩ => ⟨S16384x3584, .f32⟩
  | .hbm, ⟨18, _⟩ => ⟨S16384x3584, .f32⟩
  | .hbm, ⟨19, _⟩ => ⟨S_, .f32⟩
  | .hbm, ⟨20, _⟩ => ⟨S16384x3584, .f32⟩
  | .hbm, ⟨21, _⟩ => ⟨S16384x3584, .f32⟩
  | .hbm, ⟨22, _⟩ => ⟨S_, .f32⟩
  | .hbm, ⟨23, _⟩ => ⟨S16384x3584, .f32⟩
  | .hbm, ⟨24, _⟩ => ⟨S16384x3584, .f32⟩
  | .hbm, ⟨25, _⟩ => ⟨S16384x3584, .f32⟩
  | .hbm, ⟨26, _⟩ => ⟨S16384x3584, .f32⟩
  | .hbm, ⟨27, _⟩ => ⟨S16384x3584, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024x2048 : Shape := ⟨2, ![1024, 2048]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S1024x2048, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x2048, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S16384x1024 : Shape := ⟨2, ![16384, 1024]⟩
abbrev S16384x512 : Shape := ⟨2, ![16384, 512]⟩
abbrev S1024x2048 : Shape := ⟨2, ![1024, 2048]⟩
abbrev S512x1024 : Shape := ⟨2, ![512, 1024]⟩
abbrev S1024x1024 : Shape := ⟨2, ![1024, 1024]⟩
abbrev S1024 : Shape := ⟨1, ![1024]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S1024x2048, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1024, .f32⟩
  | .hbm, ⟨9, _⟩ => ⟨S16384x1024, .f32⟩
  | .hbm, ⟨10, _⟩ => ⟨S16384x512, .f32⟩
  | .hbm, ⟨11, _⟩ => ⟨S16384x512, .f32⟩
  | .hbm, ⟨12, _⟩ => ⟨S1024x2048, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S16384x2048, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Dilated.lean ====
abbrev S16384x1024 : Shape := ⟨2, ![16384, 1024]⟩
abbrev S1024x4608 : Shape := ⟨2, ![1024, 4608]⟩
abbrev S12x16384x128 : Shape := ⟨3, ![12, 16384, 128]⟩
abbrev S2048x1024 : Shape := ⟨2, ![2048, 1024]⟩
abbrev S1024x512 : Shape := ⟨2, ![1024, 512]⟩
abbrev S4x2048x128 : Shape := ⟨3, ![4, 2048, 128]⟩
abbrev S2048x512 : Shape := ⟨2, ![2048, 512]⟩
abbrev S1x2048x128 : Shape := ⟨3, ![1, 2048, 128]⟩
abbrev S2048x128 : Shape := ⟨2, ![2048, 128]⟩

abbrev nBuf : Space → Nat
  | .hbm => 3
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x4608, .bf16⟩
  | .hbm, ⟨2, _⟩ => ⟨S12x16384x128, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S4x2048x128, .bf16⟩
  | .local _ .vmem, ⟨5, _⟩ => ⟨S4x2048x128, .bf16⟩
  | .local _ .vmem, ⟨6, _⟩ => ⟨S4x2048x128, .f32⟩
  | .local _ .vmem, ⟨7, _⟩ => ⟨S4x2048x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 1 := Scalar.cmpi .eq c3_i32 c0_i32_4
  let c1_i32_5 : BitVec 32 := 1#32
  let v19 : BitVec 32 := Scalar.select v18 c1_i32_5 c3_i32
  let v20 : BitVec 32 := Scalar.remsi v0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  let c0_i32_10 : BitVec 32 := 0#32
  ![v17.toNat, c0_i32_9.toNat]

def cc0_transform_1 (i : grid0.Coords) : Fin 2 → Nat :=
  let arg0 : BitVec 32 := BitVec.ofNat 32 (i 0).val
  let c23_i32 : BitVec 32 := 23#32
  let v0 : BitVec 32 := Scalar.minsi arg0 c23_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 1 := Scalar.cmpi .eq c3_i32 c0_i32_4
  let c1_i32_5 : BitVec 32 := 1#32
  let v19 : BitVec 32 := Scalar.select v18 c1_i32_5 c3_i32
  let v20 : BitVec 32 := Scalar.remsi v0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c3_i32_9 : BitVec 32 := 3#32
  let v28 : BitVec 32 := Scalar.muli v27 c3_i32_9
  let c0_i32_10 : BitVec 32 := 0#32
  let v29 : BitVec 32 := Scalar.addi v28 c0_i32_10
  let c0_i32_11 : BitVec 32 := 0#32
  let c0_i32_12 : BitVec 32 := 0#32
  ![c0_i32_11.toNat, v29.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 1 := Scalar.cmpi .eq c3_i32 c0_i32_6
  let c1_i32_7 : BitVec 32 := 1#32
  let v20 : BitVec 32 := Scalar.select v19 c1_i32_7 c3_i32
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.subi arg0 c1_i32_11
  let c0_i32_12 : BitVec 32 := 0#32
  let v30 : BitVec 32 := Scalar.maxsi v29 c0_i32_12
  let c3_i32_13 : BitVec 32 := 3#32
  let v31 : BitVec 32 := Scalar.divsi v30 c3_i32_13
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c0_i32_16 : BitVec 32 := 0#32
  let v37 : BitVec 1 := Scalar.cmpi .sgt c3_i32_13 c0_i32_16
  let v38 : BitVec 32 := Scalar.extui v37
  let c0_i32_17 : BitVec 32 := 0#32
  let v39 : BitVec 1 := Scalar.cmpi .slt c3_i32_13 c0_i32_17
  let v40 : BitVec 32 := Scalar.extui v39
  let v41 : BitVec 32 := Scalar.subi v38 v40
  let v42 : BitVec 1 := Scalar.cmpi .ne v36 v41
  let v43 : BitVec 32 := Scalar.remsi v30 c3_i32_13
  let c0_i32_18 : BitVec 32 := 0#32
  let v44 : BitVec 1 := Scalar.cmpi .ne v43 c0_i32_18
  let v45 : BitVec 1 := Scalar.andi v42 v44
  let c1_i32_19 : BitVec 32 := 1#32
  let v46 : BitVec 32 := Scalar.subi v31 c1_i32_19
  let v47 : BitVec 32 := Scalar.select v45 v46 v31
  let c0_i32_20 : BitVec 32 := 0#32
  let v48 : BitVec 1 := Scalar.cmpi .eq c3_i32_13 c0_i32_20
  let c1_i32_21 : BitVec 32 := 1#32
  let v49 : BitVec 32 := Scalar.select v48 c1_i32_21 c3_i32_13
  let v50 : BitVec 32 := Scalar.remsi v30 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c0_i32_25 : BitVec 32 := 0#32
  let c0_i32_26 : BitVec 32 := 0#32
  ![v28.toNat, v47.toNat, c0_i32_25.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DilatedReferenceIdeal.lean ====
abbrev S16384x1024 : Shape := ⟨2, ![16384, 1024]⟩
abbrev S1024x4608 : Shape := ⟨2, ![1024, 4608]⟩
abbrev S16384x4608 : Shape := ⟨2, ![16384, 4608]⟩
abbrev S16384x9x512 : Shape := ⟨3, ![16384, 9, 512]⟩
abbrev S16384x3x512 : Shape := ⟨3, ![16384, 3, 512]⟩
abbrev S16384x12x128 : Shape := ⟨3, ![16384, 12, 128]⟩
abbrev S12x16384x128 : Shape := ⟨3, ![12, 16384, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4608, .bf16⟩
  | .hbm, ⟨2, _⟩ => ⟨S16384x1024, .f32⟩
  | .hbm, ⟨3, _⟩ => ⟨S1024x4608, .f32⟩
  | .hbm, ⟨4, _⟩ => ⟨S16384x4608, .f32⟩
  | .hbm, ⟨5, _⟩ => ⟨S16384x9x512, .f32⟩
  | .hbm, ⟨6, _⟩ => ⟨S16384x3x512, .f32⟩
  | .hbm, ⟨7, _⟩ => ⟨S16384x12x128, .f32⟩
  | .hbm, ⟨8, _⟩ => ⟨S12x16384x128, .f32⟩
  | .hbm, ⟨9, _⟩ => ⟨S12x16384x128, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.RunD.lean ====
/-
  THE RUN OF THE BODY AT QUERY TILE 3, of the program `KernelIdeal`: the last of the kernel's four cases, with four chunks of keys. It is
  stated and proved as the generated runs of the other three cases are, but for one step: the printed parts become their skeletons by
  definitional unfolding (`dsimp only`), where rewriting them by `simp` takes too long at this many parts.
-/
module

public import proofs.«01_k».proof.Proof.Gen.KernelIdeal.Frame.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1180000 in
/-- What the body's stores leave in each output's staging memref, as pieces (last first) IN CASE D (`scf.if` 0 not taken, `scf.if` 1 not taken, `scf.if` 2 not taken, `scf.if` 3 taken: points 3, 7, … 63: 16 of 64), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x256 .bf16) (harg6 : arg6.IsWhole) (arg7 : Memref sig .tc .vmem S4x4x512x512 .f32) (harg7 : arg7.IsWhole) (hc0 : ¬cond0_0 i) (hc1 : ¬cond0_1 i) (hc2 : ¬cond0_2 i) (hc3 : cond0_3 i)
    (x0 : Vec F S512x512 .bf16) (x1 : Vec F S2048x512 .bf16) (x2 : Vec F S2048x512 .bf16) :
    Σ' (L3 : List (View.Piece (Elt F) S512x256 .bf16)), { LT0 : List (View.Piece (Elt F) S4x4x512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LT0)) -∗ K ⟨⟩))
          ⊢ wp frame (wpE (defs₀ (F := F)) Variants.none c none) E (cc0_mla_attn i arg3 harg3 arg4 harg4 arg5 harg5 arg6 harg6 arg7 harg7) K } := by
  refine ⟨?_, ?_, fun E K => ?run⟩
  case run =>
    simp only [cc0_mla_attn_eq_skeleton]; unfold cc0_mla_attn_skel
    dsimp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Gen

end
-- ==== Proof.Frame.lean ====
/-
  THE FRAME OF THE PROGRAM `KernelIdeal` over its four cases' runs, the last of them Proof/RunD.lean's: what each grid point leaves in the
  output window, the body's obligation at every point, and the program's run.
-/
module

public import proofs.«01_k».proof.Proof.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 3 tile its block (8 stores of `S256x64`, checked by the kernel's evaluation: Lib/Ring.lean `Piece.tiledL`, linear in the pieces, through a loop's `@[irreducible]` trip theorem too), so they cover it. -/
theorem cover0_A_3 (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x256 .bf16) (harg6 : arg6.IsWhole) (arg7 : Memref sig .tc .vmem S4x4x512x512 .f32) (harg7 : arg7.IsWhole) (hc0 : cond0_0 i) (hc1 : ¬cond0_1 i) (hc2 : ¬cond0_2 i) (hc3 : ¬cond0_3 i)
    (x0 : Vec F S512x512 .bf16) (x1 : Vec F S2048x512 .bf16) (x2 : Vec F S2048x512 .bf16) (y : S512x256.Idx) :
    ∃ pc ∈ (kernelRun0_A c i arg3 harg3 arg4 harg4 arg5 harg5 arg6 harg6 arg7 harg7 hc0 hc1 hc2 hc3 x0 x1 x2).1, y ∈ pc.1.set :=
  View.cover_of_tiledL (kernelRun0_A c i arg3 harg3 arg4 harg4 arg5 harg5 arg6 harg6 arg7 harg7 hc0 hc1 hc2 hc3 x0 x1 x2).1 S256x64.size (by sl_kernel_rfl) y

/-- What case A leaves in output 3's staging buffer: its pieces read back over junk. -/
def out0_A_3 (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x256 .bf16) (harg6 : arg6.IsWhole) (arg7 : Memref sig .tc .vmem S4x4x512x512 .f32) (harg7 : arg7.IsWhole) (hc0 : cond0_0 i) (hc1 : ¬cond0_1 i) (hc2 : ¬cond0_2 i) (hc3 : ¬cond0_3 i)
    (x0 : Vec F S512x512 .bf16) (x1 : Vec F S2048x512 .bf16) (x2 : Vec F S2048x512 .bf16) : Vec F S512x256 .bf16 :=
  VO0_3.read (Elt F) (VO0_3.writes (Elt F) VO0_3.junk (kernelRun0_A c i arg3 harg3 arg4 harg4 arg5 harg5 arg6 harg6 arg7 harg7 hc0 hc1 hc2 hc3 x0 x1 x2).1)

/-- Case B's pieces for output 3 tile its block (8 stores of `S256x64`, checked by the kernel's evaluation: Lib/Ring.lean `Piece.tiledL`, linear in the pieces, through a loop's `@[irreducible]` trip theorem too), so they cover it. -/
theorem cover0_B_3 (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x256 .bf16) (harg6 : arg6.IsWhole) (arg7 : Memref sig .tc .vmem S4x4x512x512 .f32) (harg7 : arg7.IsWhole) (hc0 : ¬cond0_0 i) (hc1 : cond0_1 i) (hc2 : ¬cond0_2 i) (hc3 : ¬cond0_3 i)
    (x0 : Vec F S512x512 .bf16) (x1 : Vec F S2048x512 .bf16) (x2 : Vec F S2048x512 .bf16) (y : S512x256.Idx) :
    ∃ pc ∈ (kernelRun0_B c i arg3 harg3 arg4 harg4 arg5 harg5 arg6 harg6 arg7 harg7 hc0 hc1 hc2 hc3 x0 x1 x2).1, y ∈ pc.1.set :=
  View.cover_of_tiledL (kernelRun0_B c i arg3 harg3 arg4 harg4 arg5 harg5 arg6 harg6 arg7 harg7 hc0 hc1 hc2 hc3 x0 x1 x2).1 S256x64.size (by sl_kernel_rfl) y

/-- What case B leaves in output 3's staging buffer: its pieces read back over junk. -/
def out0_B_3 (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x256 .bf16) (harg6 : arg6.IsWhole) (arg7 : Memref sig .tc .vmem S4x4x512x512 .f32) (harg7 : arg7.IsWhole) (hc0 : ¬cond0_0 i) (hc1 : cond0_1 i) (hc2 : ¬cond0_2 i) (hc3 : ¬cond0_3 i)
    (x0 : Vec F S512x512 .bf16) (x1 : Vec F S2048x512 .bf16) (x2 : Vec F S2048x512 .bf16) : Vec F S512x256 .bf16 :=
  VO0_3.read (Elt F) (VO0_3.writes (Elt F) VO0_3.junk (kernelRun0_B c i arg3 harg3 arg4 harg4 arg5 harg5 arg6 harg6 arg7 harg7 hc0 hc1 hc2 hc3 x0 x1 x2).1)

/-- Case C's pieces for output 3 tile its block (8 stores of `S256x64`, checked by the kernel's evaluation: Lib/Ring.lean `Piece.tiledL`, linear in the pieces, through a loop's `@[irreducible]` trip theorem too), so they cover it. -/
theorem cover0_C_3 (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x256 .bf16) (harg6 : arg6.IsWhole) (arg7 : Memref sig .tc .vmem S4x4x512x512 .f32) (harg7 : arg7.IsWhole) (hc0 : ¬cond0_0 i) (hc1 : ¬cond0_1 i) (hc2 : cond0_2 i) (hc3 : ¬cond0_3 i)
    (x0 : Vec F S512x512 .bf16) (x1 : Vec F S2048x512 .bf16) (x2 : Vec F S2048x512 .bf16) (y : S512x256.Idx) :
    ∃ pc ∈ (kernelRun0_C c i arg3 harg3 arg4 harg4 arg5 harg5 arg6 harg6 arg7 harg7 hc0 hc1 hc2 hc3 x0 x1 x2).1, y ∈ pc.1.set :=
  View.cover_of_tiledL (kernelRun0_C c i arg3 harg3 arg4 harg4 arg5 harg5 arg6 harg6 arg7 harg7 hc0 hc1 hc2 hc3 x0 x1 x2).1 S256x64.size (by sl_kernel_rfl) y

/-- What case C leaves in output 3's staging buffer: its pieces read back over junk. -/
def out0_C_3 (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x256 .bf16) (harg6 : arg6.IsWhole) (arg7 : Memref sig .tc .vmem S4x4x512x512 .f32) (harg7 : arg7.IsWhole) (hc0 : ¬cond0_0 i) (hc1 : ¬cond0_1 i) (hc2 : cond0_2 i) (hc3 : ¬cond0_3 i)
    (x0 : Vec F S512x512 .bf16) (x1 : Vec F S2048x512 .bf16) (x2 : Vec F S2048x512 .bf16) : Vec F S512x256 .bf16 :=
  VO0_3.read (Elt F) (VO0_3.writes (Elt F) VO0_3.junk (kernelRun0_C c i arg3 harg3 arg4 harg4 arg5 harg5 arg6 harg6 arg7 harg7 hc0 hc1 hc2 hc3 x0 x1 x2).1)

/-- Case D's pieces for output 3 tile its block (8 stores of `S256x64`, checked by the kernel's evaluation: Lib/Ring.lean `Piece.tiledL`, linear in the pieces, through a loop's `@[irreducible]` trip theorem too), so they cover it. -/
theorem cover0_D_3 (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x256 .bf16) (harg6 : arg6.IsWhole) (arg7 : Memref sig .tc .vmem S4x4x512x512 .f32) (harg7 : arg7.IsWhole) (hc0 : ¬cond0_0 i) (hc1 : ¬cond0_1 i) (hc2 : ¬cond0_2 i) (hc3 : cond0_3 i)
    (x0 : Vec F S512x512 .bf16) (x1 : Vec F S2048x512 .bf16) (x2 : Vec F S2048x512 .bf16) (y : S512x256.Idx) :
    ∃ pc ∈ (kernelRun0_D c i arg3 harg3 arg4 harg4 arg5 harg5 arg6 harg6 arg7 harg7 hc0 hc1 hc2 hc3 x0 x1 x2).1, y ∈ pc.1.set :=
  View.cover_of_tiledL (kernelRun0_D c i arg3 harg3 arg4 harg4 arg5 harg5 arg6 harg6 arg7 harg7 hc0 hc1 hc2 hc3 x0 x1 x2).1 S256x64.size (by sl_kernel_rfl) y

/-- What case D leaves in output 3's staging buffer: its pieces read back over junk. -/
def out0_D_3 (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x256 .bf16) (harg6 : arg6.IsWhole) (arg7 : Memref sig .tc .vmem S4x4x512x512 .f32) (harg7 : arg7.IsWhole) (hc0 : ¬cond0_0 i) (hc1 : ¬cond0_1 i) (hc2 : ¬cond0_2 i) (hc3 : cond0_3 i)
    (x0 : Vec F S512x512 .bf16) (x1 : Vec F S2048x512 .bf16) (x2 : Vec F S2048x512 .bf16) : Vec F S512x256 .bf16 :=
  VO0_3.read (Elt F) (VO0_3.writes (Elt F) VO0_3.junk (kernelRun0_D c i arg3 harg3 arg4 harg4 arg5 harg5 arg6 harg6 arg7 harg7 hc0 hc1 hc2 hc3 x0 x1 x2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x256 .bf16
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩)
  | n + 1, hn =>
    if h0 : (n + 1) % 4 = 0 then
      if h1 : (n + 1) % 4 = 1 then
        False.elim (by have hN : n + 1 < 64 := lt_of_lt_of_eq hn (show cfg0.N = 64 from N_0); omega)
      else
        if h2 : (n + 1) % 4 = 2 then
          False.elim (by have hN : n + 1 < 64 := lt_of_lt_of_eq hn (show cfg0.N = 64 from N_0); omega)
        else
          if h3 : (n + 1) % 4 = 3 then
            False.elim (by have hN : n + 1 < 64 := lt_of_lt_of_eq hn (show cfg0.N = 64 from N_0); omega)
          else
            out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩)
    else
      if h1 : (n + 1) % 4 = 1 then
        if h2 : (n + 1) % 4 = 2 then
          False.elim (by have hN : n + 1 < 64 := lt_of_lt_of_eq hn (show cfg0.N = 64 from N_0); omega)
        else
          if h3 : (n + 1) % 4 = 3 then
            False.elim (by have hN : n + 1 < 64 := lt_of_lt_of_eq hn (show cfg0.N = 64 from N_0); omega)
          else
            out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩)
      else
        if h2 : (n + 1) % 4 = 2 then
          if h3 : (n + 1) % 4 = 3 then
            False.elim (by have hN : n + 1 < 64 := lt_of_lt_of_eq hn (show cfg0.N = 64 from N_0); omega)
          else
            out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩)
        else
          if h3 : (n + 1) % 4 = 3 then
            out0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩)
          else
            False.elim (by have hN : n + 1 < 64 := lt_of_lt_of_eq hn (show cfg0.N = 64 from N_0); omega)

/-- `outsAt0` at a point of case A: that case's contents. -/
theorem outsAt0_A (c : Dev nD) (t : Fin cfg0.N) (h0 : t.val % 4 = 0) (h1 : ¬t.val % 4 = 1) (h2 : ¬t.val % 4 = 2) (h3 : ¬t.val % 4 = 3) :
    outsAt0 m c t.val t.isLt = out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) := by
  obtain ⟨n, hn⟩ := t
  cases n with
  | zero => exact rfl
  | succ n => exact (dif_pos h0).trans ((dif_neg h1).trans ((dif_neg h2).trans ((dif_neg h3).trans rfl)))

/-- `outsAt0` at a point of case B: that case's contents. -/
theorem outsAt0_B (c : Dev nD) (t : Fin cfg0.N) (h0 : ¬t.val % 4 = 0) (h1 : t.val % 4 = 1) (h2 : ¬t.val % 4 = 2) (h3 : ¬t.val % 4 = 3) :
    outsAt0 m c t.val t.isLt = out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents. -/
theorem outsAt0_C (c : Dev nD) (t : Fin cfg0.N) (h0 : ¬t.val % 4 = 0) (h1 : ¬t.val % 4 = 1) (h2 : t.val % 4 = 2) (h3 : ¬t.val % 4 = 3) :
    outsAt0 m c t.val t.isLt = out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents. -/
theorem outsAt0_D (c : Dev nD) (t : Fin cfg0.N) (h0 : ¬t.val % 4 = 0) (h1 : ¬t.val % 4 = 1) (h2 : ¬t.val % 4 = 2) (h3 : t.val % 4 = 3) :
    outsAt0 m c t.val t.isLt = out0_D_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : t.val % 4 = 0
  · by_cases h1 : t.val % 4 = 1
    · exfalso; omega
    · by_cases h2 : t.val % 4 = 2
      · exfalso; omega
      · by_cases h3 : t.val % 4 = 3
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h)) (fun h => h2 ((hcond0_2 t).mp h)) (fun h => h3 ((hcond0_3 t).mp h))], after0_3]
          rw [outsAt0_A m c t h0 h1 h2 h3]
          unfold out0_A_3
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t)).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%fT0, HS0⟩⟩
          isplitl [HS0 Hg]
          · isplitl [HS0]
            · iexists _; unfold owns; iexists _; isplitr
              swap; · iexact HS0
              ipureintro; rfl
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_A_3 c _ _ _ _ _ _ _ _ _ _ _ _ _ _ _ _ _ _)
  · by_cases h1 : t.val % 4 = 1
    · by_cases h2 : t.val % 4 = 2
      · exfalso; omega
      · by_cases h3 : t.val % 4 = 3
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1) (fun h => h2 ((hcond0_2 t).mp h)) (fun h => h3 ((hcond0_3 t).mp h))], after0_3]
          rw [outsAt0_B m c t h0 h1 h2 h3]
          unfold out0_B_3
          iintro ⟨⟨HS0, Hg⟩, Ho, ⟨%d0, H0⟩, ⟨%d1, H1⟩, ⟨%d2, H2⟩, ⟨%d3, H3⟩⟩
          iapply ((kernelRun0_B c (grid0.coords t) _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t)).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%fT0, HS0⟩⟩
          isplitl [HS0 Hg]
          · isplitl [HS0]
            · iexists _; unfold owns; iexists _; isplitr
              swap; · iexact HS0
              ipureintro; rfl
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_B_3 c _ _ _ _ _ _ _ _ _ _ _ _ _ _ _ _ _ _)
    · by_cases h2 : t.val % 4 = 2
      · by_cases h3 : t.val % 4 = 3
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3_C t (fun h => h0 ((hcond0_0 t).mp h)) (fun h => h1 ((hcond0_1 t).mp h)) ((hcond0_2 t).mpr h2) (fun h => h3 ((hcond0_3 t).mp h))], after0_3]
          rw [outsAt0_C m c t h0 h1 h2 h3]
          unfold out0_C_3
          iintro ⟨⟨HS0, Hg⟩, Ho, ⟨%d0, H0⟩, ⟨%d1, H1⟩, ⟨%d2, H2⟩, ⟨%d3, H3⟩⟩
          iapply ((kernelRun0_C c (grid0.coords t) _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t)).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%fT0, HS0⟩⟩
          isplitl [HS0 Hg]
          · isplitl [HS0]
            · iexists _; unfold owns; iexists _; isplitr
              swap; · iexact HS0
              ipureintro; rfl
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_C_3 c _ _ _ _ _ _ _ _ _ _ _ _ _ _ _ _ _ _)
      · by_cases h3 : t.val % 4 = 3
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3_D t (fun h => h0 ((hcond0_0 t).mp h)) (fun h => h1 ((hcond0_1 t).mp h)) (fun h => h2 ((hcond0_2 t).mp h)) ((hcond0_3 t).mpr h3)], after0_3]
          rw [outsAt0_D m c t h0 h1 h2 h3]
          unfold out0_D_3
          iintro ⟨⟨HS0, Hg⟩, Ho, ⟨%d0, H0⟩, ⟨%d1, H1⟩, ⟨%d2, H2⟩, ⟨%d3, H3⟩⟩
          iapply ((kernelRun0_D c (grid0.coords t) _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t)).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%fT0, HS0⟩⟩
          isplitl [HS0 Hg]
          · isplitl [HS0]
            · iexists _; unfold owns; iexists _; isplitr
              swap; · iexact HS0
              ipureintro; rfl
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_D_3 c _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Consts.lean ====
/-
  The float constants the two programs spell, as the extended reals their bit patterns denote. All are stated in this one module.
-/
module

public import Idealize.ShloMosaic.PureOps.Ideal

@[expose] public section

noncomputable section

namespace Cert.Consts

open Idealize.ShloMosaic

theorem ofBits_zero : Ideal.ofBits .f32 0#32 = 0 := by
  simp [Ideal.ofBits, Ideal.ieee]

theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The score's width, `64 + 32`. -/
theorem ofBits_96 : Ideal.ofBits .f32 0x42C00000#32 = ((96 : ℝ) : EReal) := by
  simp [Ideal.ofBits, Ideal.ieee, -EReal.coe_mul]; norm_num

end Cert.Consts

end
-- ==== Proof.Row.lean ====
/-
  ONE ROW OF CAUSAL SOFTMAX, as both programs come to it. `wt x q j` is the weight of key `j` for the query at position `q`: the
  exponential of its score `x j`, or zero behind the mask. `soft x q V` is the mean of the values under these weights. A program
  that subtracts some real number from every score before taking the exponential multiplies every weight by one positive
  factor, which cancels in the quotient.
-/
module

public import Idealize.ShloMosaic.PureOps.Ideal
public import Mathlib.Algebra.BigOperators.Fin
public import Mathlib.Analysis.SpecialFunctions.Pow.Real

@[expose] public section

noncomputable section

namespace Cert.Attn

open Idealize.ShloMosaic

/-- The weight of key `j` for the query at position `q`. -/
def wt (x : ℕ → ℝ) (q j : ℕ) : ℝ := if j ≤ q then Real.exp (x j) else 0

/-- The number of keys of a sequence. -/
def keys : ℕ := 2048

/-- The mean of the values `V` under the weights. -/
def soft (x : ℕ → ℝ) (q : ℕ) (V : ℕ → EReal) : EReal :=
  (∑ j ∈ Finset.range keys, ((wt x q j : ℝ) : EReal) * V j) * (((∑ j ∈ Finset.range keys, wt x q j)⁻¹ : ℝ) : EReal)

theorem wt_nonneg (x : ℕ → ℝ) (q j : ℕ) : 0 ≤ wt x q j := by
  unfold wt; split
  · exact (Real.exp_pos _).le
  · exact le_rfl

theorem wt_behind (x : ℕ → ℝ) (q j : ℕ) (h : q < j) : wt x q j = 0 := if_neg (by omega)

/-- Key zero is never behind the mask, so the weights have a positive sum. -/
theorem sum_wt_pos (x : ℕ → ℝ) (q n : ℕ) (hn : 0 < n) : 0 < ∑ j ∈ Finset.range n, wt x q j :=
  Finset.sum_pos' (fun j _ => wt_nonneg x q j) ⟨0, Finset.mem_range.mpr hn, by rw [wt, if_pos (Nat.zero_le _)]; exact Real.exp_pos _⟩

/-- A nonnegative real factor goes into a sum of extended reals. -/
theorem coe_mul_sum {ι : Type} (s : Finset ι) (t : ℝ) (ht : 0 ≤ t) (f : ι → EReal) :
    ∑ j ∈ s, (t : EReal) * f j = (t : EReal) * ∑ j ∈ s, f j := by
  classical
  induction s using Finset.induction_on with
  | empty => simp
  | insert a s ha ih =>
    rw [Finset.sum_insert ha, Finset.sum_insert ha, ih,
      EReal.left_distrib_of_nonneg_of_ne_top (EReal.coe_nonneg.mpr ht) (EReal.coe_ne_top _)]

theorem sum_coe {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A score in units of `log 2`, or minus infinity behind the mask. -/
def scoreAt (x : ℕ → ℝ) (q j : ℕ) : EReal := if j ≤ q then ((x j / Real.log 2 : ℝ) : EReal) else ⊥

theorem scoreAt_lt_top (x : ℕ → ℝ) (q j : ℕ) : scoreAt x q j < ⊤ := by
  unfold scoreAt; split
  · exact EReal.coe_lt_top _
  · exact bot_lt_top

theorem bot_lt_scoreAt_zero (x : ℕ → ℝ) (q : ℕ) : ⊥ < scoreAt x q 0 := by
  rw [scoreAt, if_pos (Nat.zero_le _)]; exact EReal.bot_lt_coe _

/-- The power of two of a score less `μ`: the weight, times one factor for the whole row. -/
theorem exp2_score (x : ℕ → ℝ) (q j : ℕ) (μ : ℝ) :
    Ideal.exp2 (scoreAt x q j - (μ : EReal)) = ((Real.exp (-(μ * Real.log 2)) : ℝ) : EReal) * ((wt x q j : ℝ) : EReal) := by
  unfold scoreAt wt
  split
  · rw [← EReal.coe_sub, Ideal.exp2_coe, ← EReal.coe_mul, ← Real.exp_add]
    congr 1
    show (2 : ℝ) ^ (x j / Real.log 2 - μ) = _
    rw [Real.rpow_def_of_pos (by norm_num)]
    congr 1
    have h : Real.log 2 ≠ 0 := (Real.log_pos (by norm_num)).ne'
    field_simp
    ring
  · rw [EReal.bot_sub, Ideal.exp2_bot, EReal.coe_zero, mul_zero]

/-- A chunk of `N` keys from key `o` on. -/
theorem chunk_sum {N : ℕ} (x : ℕ → ℝ) (q o : ℕ) (μ : ℝ) (V : ℕ → EReal) (s v : Fin N → EReal)
    (hs : ∀ j : Fin N, s j = scoreAt x q (o + j.val)) (hv : ∀ j : Fin N, v j = V (o + j.val)) :
    ∑ j : Fin N, Ideal.exp2 (s j - (μ : EReal)) * v j =
      ((Real.exp (-(μ * Real.log 2)) : ℝ) : EReal) * ∑ j ∈ Finset.range N, ((wt x q (o + j) : ℝ) : EReal) * V (o + j) := by
  rw [← coe_mul_sum _ _ (Real.exp_pos _).le,
    ← Fin.sum_univ_eq_sum_range (fun j => ((Real.exp (-(μ * Real.log 2)) : ℝ) : EReal) * (((wt x q (o + j) : ℝ) : EReal) * V (o + j))) N]
  refine Finset.sum_congr rfl fun j _ => ?_
  rw [hs, hv, exp2_score, mul_assoc]

/-- The factor cancels in the quotient. -/
theorem div_cancel (t L : ℝ) (A : EReal) (ht : 0 < t) (hL : 0 < L) :
    Ideal.div ((t : EReal) * A) ((t : EReal) * (L : EReal)) = A * ((L⁻¹ : ℝ) : EReal) := by
  have h : t * L ≠ 0 := (mul_pos ht hL).ne'
  rw [← EReal.coe_mul, Ideal.div, if_neg (by exact_mod_cast h), ← EReal.coe_inv, mul_comm (t : EReal) A, mul_assoc, ← EReal.coe_mul]
  congr 2
  field_simp

/-- Keys behind the mask add nothing. -/
theorem sum_upto (x : ℕ → ℝ) (q n : ℕ) (V : ℕ → EReal) (hq : q < n) (hn : n ≤ keys) :
    ∑ j ∈ Finset.range n, ((wt x q j : ℝ) : EReal) * V j = ∑ j ∈ Finset.range keys, ((wt x q j : ℝ) : EReal) * V j := by
  refine Finset.sum_subset (Finset.range_mono hn) fun j _ hj => ?_
  rw [wt_behind x q j (by have := Finset.mem_range.not.mp hj; omega), EReal.coe_zero, zero_mul]

/-- The weights' sum, as a sum of products with one. -/
theorem sum_ones (x : ℕ → ℝ) (q n : ℕ) :
    ∑ j ∈ Finset.range n, ((wt x q j : ℝ) : EReal) * (fun _ => 1 : ℕ → EReal) j = ((∑ j ∈ Finset.range n, wt x q j : ℝ) : EReal) := by
  rw [← sum_coe]; exact Finset.sum_congr rfl fun j _ => mul_one _

/-- From the two accumulated products, over the first `n` keys, to the mean. -/
theorem soft_of_products (x : ℕ → ℝ) (q n : ℕ) (V : ℕ → EReal) (t : ℝ) (a b : EReal) (hq : q < n) (hn : n ≤ keys) (ht : 0 < t)
    (ha : a = (t : EReal) * ∑ j ∈ Finset.range n, ((wt x q j : ℝ) : EReal) * V j)
    (hb : b = (t : EReal) * ∑ j ∈ Finset.range n, ((wt x q j : ℝ) : EReal) * (fun _ => 1 : ℕ → EReal) j) :
    Ideal.div a b = soft x q V := by
  rw [ha, hb, sum_upto x q n V hq hn, sum_upto x q n _ hq hn, sum_ones,
    div_cancel t _ _ ht (sum_wt_pos x q keys (by norm_num [keys])), soft]

end Cert.Attn

end
-- ==== Proof.Spec.lean ====
module

public import proofs.«01_k».proof.Proof.Row

@[expose] public section

/-!
# The layer's formula

The attention of one query, in terms of the five arguments as functions of natural-number coordinates
(batch, position, head, feature): the score of a key is the product over the 64 position-free features plus the product over
the 32 rotated ones, divided by the root of 96; the result is the causal softmax average of the values (`Cert.Attn.soft`).
-/

noncomputable section

namespace Cert.Attn

open Finset

/-- The five arguments by coordinates: the finite queries and keys as reals, the values as extended reals. -/
structure Coords where
  qn : ℕ → ℕ → ℕ → ℕ → ℝ
  qr : ℕ → ℕ → ℕ → ℕ → ℝ
  kn : ℕ → ℕ → ℕ → ℕ → ℝ
  kr : ℕ → ℕ → ℕ → ℝ
  v : ℕ → ℕ → ℕ → ℕ → EReal

/-- The score of key `j` for the query at position `p`, in batch `b` and head `h`. -/
def Coords.score (a : Coords) (b h p j : ℕ) : ℝ :=
  ((∑ d ∈ range 64, a.qn b p h d * a.kn b j h d) + ∑ d ∈ range 32, a.qr b p h d * a.kr b j d) * (√(96 : ℝ))⁻¹

/-- Feature `l` of the attention's result for the query at position `p`, in batch `b` and head `h`. -/
def Coords.attn (a : Coords) (b p h l : ℕ) : EReal := soft (a.score b h p) p fun j => a.v b j h l

/-- A head's 128 lanes: 64 of the first kind, 32 of the second, and 32 zeros. -/
def lane (f g : ℕ → ℝ) (d : ℕ) : ℝ := if d < 64 then f d else if d < 96 then g (d - 64) else 0

/-- The product of two heads of lanes: the zeros drop out. -/
theorem lane_sum (f g f' g' : ℕ → ℝ) :
    ∑ d : Fin 128, lane f g d.val * lane f' g' d.val = (∑ d ∈ range 64, f d * f' d) + ∑ d ∈ range 32, g d * g' d := by
  rw [← Finset.sum_range (fun d => lane f g d * lane f' g' d), show (128 : ℕ) = 64 + 32 + 32 from rfl, sum_range_add,
    sum_range_add]
  have h0 : ∑ d ∈ range 64, lane f g d * lane f' g' d = ∑ d ∈ range 64, f d * f' d :=
    sum_congr rfl fun d hd => by simp only [lane, if_pos (mem_range.1 hd)]
  have h1 : ∑ d ∈ range 32, lane f g (64 + d) * lane f' g' (64 + d) = ∑ d ∈ range 32, g d * g' d :=
    sum_congr rfl fun d hd => by
      have := mem_range.1 hd
      simp only [lane, if_neg (show ¬ 64 + d < 64 by omega), if_pos (show 64 + d < 96 by omega), Nat.add_sub_cancel_left]
  have h2 : ∑ d ∈ range 32, lane f g (64 + 32 + d) * lane f' g' (64 + 32 + d) = 0 :=
    sum_eq_zero fun d _ => by
      simp only [lane, if_neg (show ¬ 64 + 32 + d < 64 by omega), if_neg (show ¬ 64 + 32 + d < 96 by omega), zero_mul]
  rw [h0, h1, h2, add_zero]

end Cert.Attn

end
-- ==== Proof.HostArgs.lean ====
module

public import proofs.«01_k».proof.Proof.Frame
public import proofs.«01_k».proof.Proof.Consts
public import proofs.«01_k».proof.Proof.Spec
public import Idealize.ShloMosaic.Lib.Pointwise
public import Idealize.ShloMosaic.Lib.StableHlo.ReadAt

@[expose] public section

set_option maxRecDepth 16384

/-!
# What the host hands the kernel

The three packed arrays at an index: queries (64 position-free lanes, 32 rotated ones, 32 zeros, all scaled), keys (the same
without the scale), and values followed by ones.
-/

noncomputable section

namespace Cert.Attn

open Cert.KernelIdeal Cert.KernelIdeal.Gen Idealize.ShloMosaic Idealize.ShloMosaic.TcCoe Idealize.ShloMosaic.Pointwise

variable (m : (ℓ : Loc nD τ sig) → Buf (Elt Ideal) ℓ)

/-- Core `c`'s arguments hold the coordinates `a`. -/
structure Holds (c : Dev nD) (a : Coords) : Prop where
  qn : ∀ (b : Fin 8) (s : Fin 2048) (h : Fin 8) (d : Fin 64),
    m (c, Proc.tc.devRef main_arg0) (ix4 b s h d) = ((a.qn b.val s.val h.val d.val : ℝ) : EReal)
  qr : ∀ (b : Fin 8) (s : Fin 2048) (h : Fin 8) (d : Fin 32),
    m (c, Proc.tc.devRef main_arg1) (ix4 b s h d) = ((a.qr b.val s.val h.val d.val : ℝ) : EReal)
  kn : ∀ (b : Fin 8) (s : Fin 2048) (h : Fin 8) (d : Fin 64),
    m (c, Proc.tc.devRef main_arg2) (ix4 b s h d) = ((a.kn b.val s.val h.val d.val : ℝ) : EReal)
  kr : ∀ (b : Fin 8) (s : Fin 2048) (d : Fin 32),
    m (c, Proc.tc.devRef main_arg3) (ix3 b s d) = ((a.kr b.val s.val d.val : ℝ) : EReal)
  v : ∀ (b : Fin 8) (s : Fin 2048) (h : Fin 8) (d : Fin 64),
    m (c, Proc.tc.devRef main_arg4) (ix4 b s h d) = a.v b.val s.val h.val d.val

/-- The host's scale is the inverse root of 96 over the logarithm of 2. -/
theorem scale_eq : Ideal.div (Ideal.rsqrt (Ideal.ofBits FTy.f32 1119879168#32)) (Ideal.log (Ideal.ofBits FTy.f32 1073741824#32))
    = (((√(96 : ℝ))⁻¹ / Real.log 2 : ℝ) : EReal) := by
  have hl : Real.log 2 ≠ 0 := (Real.log_pos (by norm_num)).ne'
  rw [Consts.ofBits_96, Consts.ofBits_two, Ideal.rsqrt_coe, Ideal.log_coe, if_neg (by norm_num), if_neg (by norm_num),
    if_neg (by norm_num), Ideal.div_coe hl, ← EReal.coe_mul, one_div, div_eq_mul_inv]

variable {m}

set_option maxHeartbeats 1000000 in
/-- The packed and scaled queries: row `2048 b + s`, lane `128 h + d`. -/
theorem q_at {c : Dev nD} {a : Coords} (H : Holds m c a) (r : Fin 16384) (k : Fin 1024) (b s h d : ℕ) (hb : b < 8) (hs : s < 2048)
    (hh : h < 8) (hd : d < 128) (hr : r.val = 2048 * b + s) (hk : k.val = 128 * h + d) :
    V m c main_v8 (ix2 r k)
      = ((lane (a.qn b s h) (a.qr b s h) d * ((√(96 : ℝ))⁻¹ / Real.log 2) : ℝ) : EReal) := by
  unfold V
  after_reads_at
  after_reads_at
  rw [scale_eq]
  simp only [show r.val / 2048 = b by omega, show r.val % 2048 = s by omega, show k.val / 128 = h by omega,
    show k.val % 128 = d by omega]
  rw [EReal.coe_mul]
  refine congrArg (· * _) ?_
  unfold lane
  by_cases h1 : d < 64
  · rw [dif_pos h1, if_pos h1]
    exact H.qn ⟨b, hb⟩ ⟨s, hs⟩ ⟨h, hh⟩ ⟨d, h1⟩
  · by_cases h2 : d < 96
    · rw [dif_neg h1, if_neg h1, dif_pos (show d - 64 < 32 by omega), if_pos h2]
      exact H.qr ⟨b, hb⟩ ⟨s, hs⟩ ⟨h, hh⟩ ⟨d - 64, by omega⟩
    · rw [dif_neg h1, if_neg h1, dif_neg (show ¬ d - 64 < 32 by omega), if_neg h2]
      rfl

set_option maxHeartbeats 1000000 in
/-- The packed keys: row `2048 b + s`, lane `128 h + d`. -/
theorem k_at {c : Dev nD} {a : Coords} (H : Holds m c a) (r : Fin 16384) (k : Fin 1024) (b s h d : ℕ) (hb : b < 8) (hs : s < 2048)
    (hh : h < 8) (hd : d < 128) (hr : r.val = 2048 * b + s) (hk : k.val = 128 * h + d) :
    V m c main_v14 (ix2 r k) = ((lane (a.kn b s h) (a.kr b s) d : ℝ) : EReal) := by
  unfold V
  after_reads_at
  after_reads_at
  simp only [show r.val / 2048 = b by omega, show r.val % 2048 = s by omega, show k.val / 128 = h by omega,
    show k.val % 128 = d by omega]
  by_cases h1 : d < 64
  · have e : lane (a.kn b s h) (a.kr b s) d = a.kn b s h d := if_pos h1
    rw [e]
    exact (dif_pos h1).trans (H.kn ⟨b, hb⟩ ⟨s, hs⟩ ⟨h, hh⟩ ⟨d, h1⟩)
  · refine (dif_neg h1).trans ?_
    by_cases h2 : d < 96
    · have e : lane (a.kn b s h) (a.kr b s) d = a.kr b s (d - 64) := (if_neg h1).trans (if_pos h2)
      rw [e]
      exact (dif_pos (show d - 64 < 32 by omega)).trans (H.kr ⟨b, hb⟩ ⟨s, hs⟩ ⟨d - 64, by omega⟩)
    · have e : lane (a.kn b s h) (a.kr b s) d = 0 := (if_neg h1).trans (if_neg h2)
      rw [e]
      exact (dif_neg (show ¬ d - 64 < 32 by omega)).trans rfl

set_option maxHeartbeats 1000000 in
/-- The packed values with ones behind them: row `2048 b + s`, lane `128 h + d`. -/
theorem v_at {c : Dev nD} {a : Coords} (H : Holds m c a) (r : Fin 16384) (k : Fin 1024) (b s h d : ℕ) (hb : b < 8) (hs : s < 2048)
    (hh : h < 8) (hd : d < 128) (hr : r.val = 2048 * b + s) (hk : k.val = 128 * h + d) :
    V m c main_v18 (ix2 r k) = if d < 64 then a.v b s h d else 1 := by
  unfold V
  after_reads_at
  after_reads_at
  simp only [show r.val / 2048 = b by omega, show r.val % 2048 = s by omega, show k.val / 128 = h by omega,
    show k.val % 128 = d by omega]
  by_cases h1 : d < 64
  · rw [dif_pos h1, if_pos h1]
    exact H.v ⟨b, hb⟩ ⟨s, hs⟩ ⟨h, hh⟩ ⟨d, h1⟩
  · rw [dif_neg h1, if_neg h1]

end Cert.Attn

end
-- ==== Proof.Chain.lean ====
/-
  ONE ROW GROUP OF ONE HEAD, as the kernel computes it. A query tile of 512 rows is worked in two groups of 256 rows; a group
  meets the key chunks 0 … n of 512 keys, the last of them (the diagonal one) masked, and of only 256 keys for the first group.
  The functions here are the steps of that computation in the kernel's own operations: the scores of a chunk, the running
  maximum over groups of 128 lanes, the row maximum, the chunk's product with the values, and the final quotient by the column
  of the product that carries the sum of the weights. `chain0_n` and `chain1_n` are the two groups' results at query tile n.
-/
module

public import proofs.«01_k».proof.Proof.Gen.KernelIdeal

@[expose] public section

set_option maxRecDepth 16384

noncomputable section

namespace Cert.Attn

open Cert.KernelIdeal Cert.KernelIdeal.Gen Idealize.ShloMosaic

variable {F : FTy → Type} [FloatOps F] [Named F]

/-! ## Scores -/

/-- The scores of 256 queries against a chunk of 512 keys. -/
def full (q : FVec F S256x128 .bf16) (k : FVec F S512x128 .bf16) : FVec F S256x512 .f32 :=
  matmul dot_S256x128_S512x128_S256x512_1_1_0_0_n_n none (shapeCast S256x128 q shapeCasts_S256x128_S256x128)
    (shapeCast S512x128 k shapeCasts_S512x128_S512x128) (constant S256x512 .f32 0x00000000#32)

/-- The diagonal chunk of the first group: 256 keys, key `j` kept for row `i` when `j ≤ i`. -/
def diag0 (q : FVec F S256x128 .bf16) (k : FVec F S256x128 .bf16) : FVec F S256x256 .f32 :=
  select (cmpi .sle (iota .tc S256x256 32 [1] iota_S256x256_d1_w32)
      (addi (iota .tc S256x256 32 [0] iota_S256x256_d0_w32) (broadcast S256x256 0#32)))
    (matmul dot_S256x128_S256x128_S256x256_1_1_0_0_n_n none (shapeCast S256x128 q shapeCasts_S256x128_S256x128)
      (shapeCast S256x128 k shapeCasts_S256x128_S256x128) (constant S256x256 .f32 0x00000000#32))
    (broadcast S256x256 (Named.named κ "mask" 0xF149F2CA#32 : F .f32))

/-- The diagonal chunk of the second group: 512 keys, key `j` kept for row `i` when `j ≤ i + 256`. -/
def diag1 (q : FVec F S256x128 .bf16) (k : FVec F S512x128 .bf16) : FVec F S256x512 .f32 :=
  select (cmpi .sle (iota .tc S256x512 32 [1] iota_S256x512_d1_w32)
      (addi (iota .tc S256x512 32 [0] iota_S256x512_d0_w32) (broadcast S256x512 256#32)))
    (full q k)
    (broadcast S256x512 (Named.named κ "mask" 0xF149F2CA#32 : F .f32))

/-! ## The running maximum, over groups of 128 lanes -/

/-- The first chunk's four lane groups, maximised. -/
def maxFirst (s : FVec F S256x512 .f32) : FVec F S256x128 .f32 :=
  maximumf (maximumf (maximumf (extractStridedSlice S256x128 ![0, 0] s slices_S256x512_o0_0_S256x128)
    (extractStridedSlice S256x128 ![0, 128] s slices_S256x512_o0_128_S256x128))
    (extractStridedSlice S256x128 ![0, 256] s slices_S256x512_o0_256_S256x128))
    (extractStridedSlice S256x128 ![0, 384] s slices_S256x512_o0_384_S256x128)

/-- The same for a chunk of 256 keys that comes first. -/
def maxFirstHalf (s : FVec F S256x256 .f32) : FVec F S256x128 .f32 :=
  maximumf (extractStridedSlice S256x128 ![0, 0] s slices_S256x256_o0_0_S256x128)
    (extractStridedSlice S256x128 ![0, 128] s slices_S256x256_o0_128_S256x128)

/-- A later chunk's four lane groups taken into the running maximum. -/
def maxStep (mx : FVec F S256x128 .f32) (s : FVec F S256x512 .f32) : FVec F S256x128 .f32 :=
  maximumf (maximumf (maximumf (maximumf mx (extractStridedSlice S256x128 ![0, 0] s slices_S256x512_o0_0_S256x128))
    (extractStridedSlice S256x128 ![0, 128] s slices_S256x512_o0_128_S256x128))
    (extractStridedSlice S256x128 ![0, 256] s slices_S256x512_o0_256_S256x128))
    (extractStridedSlice S256x128 ![0, 384] s slices_S256x512_o0_384_S256x128)

/-- A later chunk of 256 keys taken into the running maximum. -/
def maxStepHalf (mx : FVec F S256x128 .f32) (s : FVec F S256x256 .f32) : FVec F S256x128 .f32 :=
  maximumf (maximumf mx (extractStridedSlice S256x128 ![0, 0] s slices_S256x256_o0_0_S256x128))
    (extractStridedSlice S256x128 ![0, 128] s slices_S256x256_o0_128_S256x128)

/-- The maximum of a row: the 128 lanes reduced. -/
def rowMax (mx : FVec F S256x128 .f32) : FVec F S256x1 .f32 :=
  shapeCast S256x1 (multiReduction .maximumf [1] S256 mx 0xFF800000#32 reduces_S256x128_S256 (.inl rfl) rfl) shapeCasts_S256_S256x1

/-! ## The weights and their product with the values -/

/-- A chunk's scores as the scratch buffer holds them. -/
def kept (s : FVec F S256x512 .f32) : FVec F S1x1x256x512 .f32 := shapeCast S1x1x256x512 s shapeCasts_S256x512_S1x1x256x512
/-- The same for a chunk of 256 keys. -/
def keptHalf (s : FVec F S256x256 .f32) : FVec F S1x1x256x256 .f32 := shapeCast S1x1x256x256 s shapeCasts_S256x256_S1x1x256x256

/-- A chunk's weights `2 ^ (s - m)` times its values. -/
def pv (m : FVec F S256x1 .f32) (s : FVec F S1x1x256x512 .f32) (v : FVec F S512x128 .bf16) : FVec F S256x128 .f32 :=
  matmul dot_S256x512_S512x128_S256x128_1_0_0_1_n_n none
    (exp2 (truncf .bf16 (subf (shapeCast S256x512 s shapeCasts_S1x1x256x512_S256x512)
      (broadcastTo S256x512 m broadcasts_S256x1_S256x512)) bitsLt_bf16_f32))
    (shapeCast S512x128 v shapeCasts_S512x128_S512x128) (constant S256x128 .f32 0x00000000#32)

/-- The same for a chunk of 256 keys. -/
def pvHalf (m : FVec F S256x1 .f32) (s : FVec F S1x1x256x256 .f32) (v : FVec F S256x128 .bf16) : FVec F S256x128 .f32 :=
  matmul dot_S256x256_S256x128_S256x128_1_0_0_1_n_n none
    (exp2 (truncf .bf16 (subf (shapeCast S256x256 s shapeCasts_S1x1x256x256_S256x256)
      (broadcastTo S256x256 m broadcasts_S256x1_S256x256)) bitsLt_bf16_f32))
    (shapeCast S256x128 v shapeCasts_S256x128_S256x128) (constant S256x128 .f32 0x00000000#32)

/-- The accumulated product over its column 64, the first 64 columns. -/
def quot (acc : FVec F S256x128 .f32) : FVec F S256x64 .bf16 :=
  truncf .bf16 (extractStridedSlice S256x64 ![0, 0]
    (divf acc (broadcastTo S256x128 (extractStridedSlice S256x1 ![0, 64] acc slices_S256x128_o0_64_S256x1) broadcasts_S256x1_S256x128))
    slices_S256x128_o0_0_S256x64) bitsLt_bf16_f32

/-! ## The eight chains -/

def mx0_0 (s0 : FVec F S256x256 .f32) : FVec F S256x1 .f32 := rowMax (maxFirstHalf s0)
def mx0_1 (s0 : FVec F S256x512 .f32) (s1 : FVec F S256x256 .f32) : FVec F S256x1 .f32 := rowMax (maxStepHalf (maxFirst s0) s1)
def mx0_2 (s0 s1 : FVec F S256x512 .f32) (s2 : FVec F S256x256 .f32) : FVec F S256x1 .f32 :=
  rowMax (maxStepHalf (maxStep (maxFirst s0) s1) s2)
def mx0_3 (s0 s1 s2 : FVec F S256x512 .f32) (s3 : FVec F S256x256 .f32) : FVec F S256x1 .f32 :=
  rowMax (maxStepHalf (maxStep (maxStep (maxFirst s0) s1) s2) s3)
def mx1_0 (s0 : FVec F S256x512 .f32) : FVec F S256x1 .f32 := rowMax (maxFirst s0)
def mx1_1 (s0 s1 : FVec F S256x512 .f32) : FVec F S256x1 .f32 := rowMax (maxStep (maxFirst s0) s1)
def mx1_2 (s0 s1 s2 : FVec F S256x512 .f32) : FVec F S256x1 .f32 := rowMax (maxStep (maxStep (maxFirst s0) s1) s2)
def mx1_3 (s0 s1 s2 s3 : FVec F S256x512 .f32) : FVec F S256x1 .f32 :=
  rowMax (maxStep (maxStep (maxStep (maxFirst s0) s1) s2) s3)

/-- First group, query tile 0. -/
def chain0_0 (q : FVec F S256x128 .bf16) (k0 v0 : FVec F S256x128 .bf16) : FVec F S256x64 .bf16 :=
  quot (pvHalf (mx0_0 (diag0 q k0)) (keptHalf (diag0 q k0)) v0)
/-- First group, query tile 1. -/
def chain0_1 (q : FVec F S256x128 .bf16) (k0 v0 : FVec F S512x128 .bf16) (k1 v1 : FVec F S256x128 .bf16) : FVec F S256x64 .bf16 :=
  quot (addf (pv (mx0_1 (full q k0) (diag0 q k1)) (kept (full q k0)) v0)
    (pvHalf (mx0_1 (full q k0) (diag0 q k1)) (keptHalf (diag0 q k1)) v1))
/-- First group, query tile 2. -/
def chain0_2 (q : FVec F S256x128 .bf16) (k0 v0 k1 v1 : FVec F S512x128 .bf16) (k2 v2 : FVec F S256x128 .bf16) :
    FVec F S256x64 .bf16 :=
  quot (addf (addf (pv (mx0_2 (full q k0) (full q k1) (diag0 q k2)) (kept (full q k0)) v0)
    (pv (mx0_2 (full q k0) (full q k1) (diag0 q k2)) (kept (full q k1)) v1))
    (pvHalf (mx0_2 (full q k0) (full q k1) (diag0 q k2)) (keptHalf (diag0 q k2)) v2))
/-- First group, query tile 3. -/
def chain0_3 (q : FVec F S256x128 .bf16) (k0 v0 k1 v1 k2 v2 : FVec F S512x128 .bf16) (k3 v3 : FVec F S256x128 .bf16) :
    FVec F S256x64 .bf16 :=
  quot (addf (addf (addf (pv (mx0_3 (full q k0) (full q k1) (full q k2) (diag0 q k3)) (kept (full q k0)) v0)
    (pv (mx0_3 (full q k0) (full q k1) (full q k2) (diag0 q k3)) (kept (full q k1)) v1))
    (pv (mx0_3 (full q k0) (full q k1) (full q k2) (diag0 q k3)) (kept (full q k2)) v2))
    (pvHalf (mx0_3 (full q k0) (full q k1) (full q k2) (diag0 q k3)) (keptHalf (diag0 q k3)) v3))
/-- Second group, query tile 0. -/
def chain1_0 (q : FVec F S256x128 .bf16) (k0 v0 : FVec F S512x128 .bf16) : FVec F S256x64 .bf16 :=
  quot (pv (mx1_0 (diag1 q k0)) (kept (diag1 q k0)) v0)
/-- Second group, query tile 1. -/
def chain1_1 (q : FVec F S256x128 .bf16) (k0 v0 k1 v1 : FVec F S512x128 .bf16) : FVec F S256x64 .bf16 :=
  quot (addf (pv (mx1_1 (full q k0) (diag1 q k1)) (kept (full q k0)) v0)
    (pv (mx1_1 (full q k0) (diag1 q k1)) (kept (diag1 q k1)) v1))
/-- Second group, query tile 2. -/
def chain1_2 (q : FVec F S256x128 .bf16) (k0 v0 k1 v1 k2 v2 : FVec F S512x128 .bf16) : FVec F S256x64 .bf16 :=
  quot (addf (addf (pv (mx1_2 (full q k0) (full q k1) (diag1 q k2)) (kept (full q k0)) v0)
    (pv (mx1_2 (full q k0) (full q k1) (diag1 q k2)) (kept (full q k1)) v1))
    (pv (mx1_2 (full q k0) (full q k1) (diag1 q k2)) (kept (diag1 q k2)) v2))
/-- Second group, query tile 3. -/
def chain1_3 (q : FVec F S256x128 .bf16) (k0 v0 k1 v1 k2 v2 k3 v3 : FVec F S512x128 .bf16) : FVec F S256x64 .bf16 :=
  quot (addf (addf (addf (pv (mx1_3 (full q k0) (full q k1) (full q k2) (diag1 q k3)) (kept (full q k0)) v0)
    (pv (mx1_3 (full q k0) (full q k1) (full q k2) (diag1 q k3)) (kept (full q k1)) v1))
    (pv (mx1_3 (full q k0) (full q k1) (full q k2) (diag1 q k3)) (kept (full q k2)) v2))
    (pv (mx1_3 (full q k0) (full q k1) (full q k2) (diag1 q k3)) (kept (diag1 q k3)) v3))

end Cert.Attn

end
-- ==== Proof.Steps.lean ====
/-
  THE STEPS OF Proof/Chain.lean READ AT AN INDEX, over the extended reals: a score is a sum over the 128 lanes, or minus infinity
  where the mask cuts it; a row maximum is a maximum over the lanes; a chunk's product is the sum over its keys of
  `2 ^ (score - maximum)` times the value; the quotient divides by column 64.
-/
module

public import proofs.«01_k».proof.Proof.Chain
public import proofs.«01_k».proof.Proof.Consts
public import Idealize.ShloMosaic.Lib.Pointwise

@[expose] public section

set_option maxRecDepth 16384

noncomputable section

namespace Cert.Attn

open Cert.KernelIdeal Cert.KernelIdeal.Gen Idealize.ShloMosaic Idealize.ShloMosaic.Pointwise

/-- The mask's value, named: minus infinity. -/
theorem mask_eq : (Named.named (F := Ideal) κ "mask" (φ := .f32) 0xF149F2CA#32) = ⊥ :=
  IdealRules.named_const.ideal_named_scalar _ _ _ _ rfl

/-- A selection by a signed comparison of two small words is a selection by the numbers they stand for. -/
theorem select_sle {α : Type} (a b : BitVec 32) (x y : α) (n k : ℕ) (ha : a.toNat = n) (hb : b.toNat = k) (hn : n < 2 ^ 31)
    (hk : k < 2 ^ 31) : Scalar.select (IntOp.cmpi .sle a b) x y = if n ≤ k then x else y := by
  have h : IntOp.cmpi .sle a b = 1#1 ↔ n ≤ k := by
    rw [IntOp.cmpi_sle, BitVec.toInt_eq_toNat_of_lt (by omega), BitVec.toInt_eq_toNat_of_lt (by omega), ha, hb]
    exact Int.ofNat_le
  by_cases hc : n ≤ k
  · rw [if_pos hc, h.mpr hc]; exact ValueIdx.select_one _ _
  · rw [if_neg hc, ValueIdx.eq_zero_of_ne_one (fun e => hc (h.mp e))]; exact ValueIdx.select_zero _ _

theorem full_apply (q : FVec Ideal S256x128 .bf16) (k : FVec Ideal S512x128 .bf16) (i : Fin 256) (j : Fin 512) :
    full q k (ix2 i j) = ∑ d : Fin 128, (q (ix2 i d) : EReal) * (k (ix2 j d) : EReal) := by
  pointwise [full, Consts.ofBits_zero]

theorem diag0_apply (q : FVec Ideal S256x128 .bf16) (k : FVec Ideal S256x128 .bf16) (i : Fin 256) (j : Fin 256) :
    diag0 q k (ix2 i j) = if j.val ≤ i.val then ∑ d : Fin 128, (q (ix2 i d) : EReal) * (k (ix2 j d) : EReal) else ⊥ := by
  pointwise [diag0, Consts.ofBits_zero, mask_eq]
  exact select_sle _ _ _ _ _ _ (by simp; omega) (by simp [IntOp.addi]; omega) (by omega) (by omega)

theorem diag1_apply (q : FVec Ideal S256x128 .bf16) (k : FVec Ideal S512x128 .bf16) (i : Fin 256) (j : Fin 512) :
    diag1 q k (ix2 i j) = if j.val ≤ i.val + 256 then ∑ d : Fin 128, (q (ix2 i d) : EReal) * (k (ix2 j d) : EReal) else ⊥ := by
  pointwise [diag1, full, Consts.ofBits_zero, mask_eq]
  exact select_sle _ _ _ _ _ _ (by simp; omega) (by simp [IntOp.addi]; omega) (by omega) (by omega)

theorem maxFirst_apply (s : FVec Ideal S256x512 .f32) (i : Fin 256) (l : Fin 128) :
    maxFirst s (ix2 i l) = max (max (max (s (ix2 i ⟨l.val, by omega⟩) : EReal) (s (ix2 i ⟨128 + l.val, by omega⟩)))
      (s (ix2 i ⟨256 + l.val, by omega⟩))) (s (ix2 i ⟨384 + l.val, by omega⟩)) := by
  pointwise [maxFirst]

theorem maxFirstHalf_apply (s : FVec Ideal S256x256 .f32) (i : Fin 256) (l : Fin 128) :
    maxFirstHalf s (ix2 i l) = max (s (ix2 i ⟨l.val, by omega⟩) : EReal) (s (ix2 i ⟨128 + l.val, by omega⟩)) := by
  pointwise [maxFirstHalf]

theorem rowMax_apply (mx : FVec Ideal S256x128 .f32) (i : Fin 256) :
    rowMax mx (ix2 i 0) = Finset.univ.fold max (⊥ : EReal) fun l : Fin 128 => mx (ix2 i l) := by
  pointwise [rowMax, Consts.ofBits_negInf]

theorem pv_apply (m : FVec Ideal S256x1 .f32) (s : FVec Ideal S256x512 .f32) (v : FVec Ideal S512x128 .bf16) (i : Fin 256)
    (l : Fin 128) : pv m (kept s) v (ix2 i l) =
      ∑ j : Fin 512, Ideal.exp2 ((s (ix2 i j) : EReal) - (m (ix2 i 0) : EReal)) * (v (ix2 j l) : EReal) := by
  pointwise [pv, kept, Consts.ofBits_zero]
  rfl

theorem pvHalf_apply (m : FVec Ideal S256x1 .f32) (s : FVec Ideal S256x256 .f32) (v : FVec Ideal S256x128 .bf16) (i : Fin 256)
    (l : Fin 128) : pvHalf m (keptHalf s) v (ix2 i l) =
      ∑ j : Fin 256, Ideal.exp2 ((s (ix2 i j) : EReal) - (m (ix2 i 0) : EReal)) * (v (ix2 j l) : EReal) := by
  pointwise [pvHalf, keptHalf, Consts.ofBits_zero]
  rfl

theorem maxStep_apply (mx : FVec Ideal S256x128 .f32) (s : FVec Ideal S256x512 .f32) (i : Fin 256) (l : Fin 128) :
    maxStep mx s (ix2 i l) = max (max (max (max (mx (ix2 i l) : EReal) (s (ix2 i ⟨l.val, by omega⟩))) (s (ix2 i ⟨128 + l.val, by omega⟩)))
      (s (ix2 i ⟨256 + l.val, by omega⟩))) (s (ix2 i ⟨384 + l.val, by omega⟩)) := by
  pointwise [maxStep]

theorem maxStepHalf_apply (mx : FVec Ideal S256x128 .f32) (s : FVec Ideal S256x256 .f32) (i : Fin 256) (l : Fin 128) :
    maxStepHalf mx s (ix2 i l) = max (max (mx (ix2 i l) : EReal) (s (ix2 i ⟨l.val, by omega⟩))) (s (ix2 i ⟨128 + l.val, by omega⟩)) := by
  pointwise [maxStepHalf]

theorem pair_apply (a b : FVec Ideal S256x128 .f32) (j : S256x128.Idx) : addf a b j = (a j : EReal) + (b j : EReal) := rfl

theorem quot_apply (acc : FVec Ideal S256x128 .f32) (i : Fin 256) (l : Fin 64) :
    quot acc (ix2 i l) = Ideal.div (acc (ix2 i ⟨l.val, by omega⟩)) (acc (ix2 i 64)) := by
  pointwise [quot]

end Cert.Attn

end
-- ==== Proof.ChainValue.lean ====
/-
  WHAT A CHAIN COMPUTES. Row `i` of a row group at query tile `n` holds the query at position `512 n + i` (first group) or
  `512 n + 256 + i` (second): each of the eight chains of Proof/Chain.lean gives there the causal softmax mean of the values,
  `soft`, whenever every key's score is a real number and column 64 of the values holds ones.
-/
module

public import proofs.«01_k».proof.Proof.Steps
public import proofs.«01_k».proof.Proof.Row

@[expose] public section

set_option maxRecDepth 16384

noncomputable section

namespace Cert.Attn

open Cert.KernelIdeal Cert.KernelIdeal.Gen Idealize.ShloMosaic Idealize.ShloMosaic.Pointwise

/-! ## A chunk as the row sees it -/

/-- For row `i` of the queries `q` and column `l` of the values: the chunk of keys `k` and values `v` begins at key `o` of a
    sequence with scores `x` (in natural units) and values `V`. -/
structure Reads {N : ℕ} (q : FVec Ideal S256x128 .bf16) (i : Fin 256) (l : Fin 64) (k v : Fin N → Fin 128 → EReal)
    (x : ℕ → ℝ) (V : ℕ → EReal) (o : ℕ) : Prop where
  score : ∀ j, ∑ d : Fin 128, (q (ix2 i d) : EReal) * k j d = ((x (o + j.val) / Real.log 2 : ℝ) : EReal)
  value : ∀ j, v j ⟨l.val, by omega⟩ = V (o + j.val)
  one : ∀ j, v j 64 = 1

/-- The rows of a chunk of 512 keys. -/
abbrev rows (k : FVec Ideal S512x128 .bf16) : Fin 512 → Fin 128 → EReal := fun j d => k (ix2 j d)
/-- The rows of a chunk of 256 keys. -/
abbrev rowsHalf (k : FVec Ideal S256x128 .bf16) : Fin 256 → Fin 128 → EReal := fun j d => k (ix2 j d)

variable {q : FVec Ideal S256x128 .bf16} {i : Fin 256} {l : Fin 64} {x : ℕ → ℝ} {V : ℕ → EReal}

theorem full_score {k v : FVec Ideal S512x128 .bf16} {o : ℕ} (p : ℕ) (h : Reads q i l (rows k) (rows v) x V o) (hp : o + 511 ≤ p)
    (j : Fin 512) : full q k (ix2 i j) = scoreAt x p (o + j.val) := by
  rw [full_apply, scoreAt, if_pos (by omega)]; exact h.score j

theorem diag0_score {k v : FVec Ideal S256x128 .bf16} {o : ℕ} (p : ℕ) (h : Reads q i l (rowsHalf k) (rowsHalf v) x V o)
    (hp : p = o + i.val) (j : Fin 256) : diag0 q k (ix2 i j) = scoreAt x p (o + j.val) := by
  rw [diag0_apply, scoreAt]
  by_cases hj : j.val ≤ i.val
  · rw [if_pos hj, if_pos (by omega)]; exact h.score j
  · rw [if_neg hj, if_neg (by omega)]

theorem diag1_score {k v : FVec Ideal S512x128 .bf16} {o : ℕ} (p : ℕ) (h : Reads q i l (rows k) (rows v) x V o)
    (hp : p = o + 256 + i.val) (j : Fin 512) : diag1 q k (ix2 i j) = scoreAt x p (o + j.val) := by
  rw [diag1_apply, scoreAt]
  by_cases hj : j.val ≤ i.val + 256
  · rw [if_pos hj, if_pos (by omega)]; exact h.score j
  · rw [if_neg hj, if_neg (by omega)]

/-! ## The row maximum is a real number -/

/-- Below plus infinity at every lane of the row, above minus infinity at lane zero. -/
structure Bounded (mx : FVec Ideal S256x128 .f32) (i : Fin 256) : Prop where
  top : ∀ l : Fin 128, (mx (ix2 i l) : EReal) < ⊤
  bot : ⊥ < (mx (ix2 i 0) : EReal)

theorem bounded_first {s : FVec Ideal S256x512 .f32} {p : ℕ} (h : ∀ j : Fin 512, s (ix2 i j) = scoreAt x p (0 + j.val)) :
    Bounded (maxFirst s) i := by
  refine ⟨fun l => ?_, ?_⟩
  · rw [maxFirst_apply, h, h, h, h]
    exact max_lt (max_lt (max_lt (scoreAt_lt_top ..) (scoreAt_lt_top ..)) (scoreAt_lt_top ..)) (scoreAt_lt_top ..)
  · rw [maxFirst_apply, h]
    exact lt_of_lt_of_le (bot_lt_scoreAt_zero x p) (le_max_of_le_left (le_max_of_le_left (le_max_left _ _)))

theorem bounded_firstHalf {s : FVec Ideal S256x256 .f32} {p : ℕ} (h : ∀ j : Fin 256, s (ix2 i j) = scoreAt x p (0 + j.val)) :
    Bounded (maxFirstHalf s) i := by
  refine ⟨fun l => ?_, ?_⟩
  · rw [maxFirstHalf_apply, h, h]
    exact max_lt (scoreAt_lt_top ..) (scoreAt_lt_top ..)
  · rw [maxFirstHalf_apply, h]
    exact lt_of_lt_of_le (bot_lt_scoreAt_zero x p) (le_max_left _ _)

theorem bounded_step {mx : FVec Ideal S256x128 .f32} {s : FVec Ideal S256x512 .f32} {p o : ℕ} (hm : Bounded mx i)
    (h : ∀ j : Fin 512, s (ix2 i j) = scoreAt x p (o + j.val)) : Bounded (maxStep mx s) i := by
  refine ⟨fun l => ?_, ?_⟩
  · rw [maxStep_apply, h, h, h, h]
    exact max_lt (max_lt (max_lt (max_lt (hm.top l) (scoreAt_lt_top ..)) (scoreAt_lt_top ..)) (scoreAt_lt_top ..)) (scoreAt_lt_top ..)
  · rw [maxStep_apply]
    exact lt_of_lt_of_le hm.bot (le_max_of_le_left (le_max_of_le_left (le_max_of_le_left (le_max_left _ _))))

theorem bounded_stepHalf {mx : FVec Ideal S256x128 .f32} {s : FVec Ideal S256x256 .f32} {p o : ℕ} (hm : Bounded mx i)
    (h : ∀ j : Fin 256, s (ix2 i j) = scoreAt x p (o + j.val)) : Bounded (maxStepHalf mx s) i := by
  refine ⟨fun l => ?_, ?_⟩
  · rw [maxStepHalf_apply, h, h]
    exact max_lt (max_lt (hm.top l) (scoreAt_lt_top ..)) (scoreAt_lt_top ..)
  · rw [maxStepHalf_apply]
    exact lt_of_lt_of_le hm.bot (le_max_of_le_left (le_max_left _ _))

theorem rowMax_real {mx : FVec Ideal S256x128 .f32} (h : Bounded mx i) : ∃ μ : ℝ, rowMax mx (ix2 i 0) = (μ : EReal) := by
  rw [rowMax_apply]
  refine ⟨_, (EReal.coe_toReal (ne_of_lt ?_) (ne_of_gt ?_)).symm⟩
  · exact (Finset.fold_max_lt _).mpr ⟨bot_lt_top, fun l _ => h.top l⟩
  · exact (Finset.lt_fold_max _).mpr (.inr ⟨0, Finset.mem_univ _, h.bot⟩)

/-! ## A chunk's product -/

/-- The two columns the quotient needs of an accumulated product over the first `n` keys. -/
structure Part (a : FVec Ideal S256x128 .f32) (i : Fin 256) (l : Fin 64) (x : ℕ → ℝ) (p : ℕ) (V : ℕ → EReal) (μ : ℝ) (o n : ℕ) : Prop where
  val : a (ix2 i ⟨l.val, by omega⟩) = ((Real.exp (-(μ * Real.log 2)) : ℝ) : EReal) *
    ∑ j ∈ Finset.range n, ((wt x p (o + j) : ℝ) : EReal) * V (o + j)
  den : a (ix2 i 64) = ((Real.exp (-(μ * Real.log 2)) : ℝ) : EReal) *
    ∑ j ∈ Finset.range n, ((wt x p (o + j) : ℝ) : EReal) * (fun _ => 1 : ℕ → EReal) (o + j)

theorem pv_part {m : FVec Ideal S256x1 .f32} {s : FVec Ideal S256x512 .f32} {k v : FVec Ideal S512x128 .bf16} {p o : ℕ} {μ : ℝ}
    (hm : m (ix2 i 0) = (μ : EReal)) (h : Reads q i l (rows k) (rows v) x V o)
    (hs : ∀ j : Fin 512, s (ix2 i j) = scoreAt x p (o + j.val)) : Part (pv m (kept s) v) i l x p V μ o 512 := by
  refine ⟨?_, ?_⟩
  · rw [pv_apply, hm]; exact chunk_sum x p o μ V _ _ hs h.value
  · rw [pv_apply, hm]; exact chunk_sum x p o μ (fun _ => 1) _ _ hs h.one

theorem pvHalf_part {m : FVec Ideal S256x1 .f32} {s : FVec Ideal S256x256 .f32} {k v : FVec Ideal S256x128 .bf16} {p o : ℕ} {μ : ℝ}
    (hm : m (ix2 i 0) = (μ : EReal)) (h : Reads q i l (rowsHalf k) (rowsHalf v) x V o)
    (hs : ∀ j : Fin 256, s (ix2 i j) = scoreAt x p (o + j.val)) : Part (pvHalf m (keptHalf s) v) i l x p V μ o 256 := by
  refine ⟨?_, ?_⟩
  · rw [pvHalf_apply, hm]; exact chunk_sum x p o μ V _ _ hs h.value
  · rw [pvHalf_apply, hm]; exact chunk_sum x p o μ (fun _ => 1) _ _ hs h.one

/-- Two neighbouring parts added are one. -/
theorem part_add {a b : FVec Ideal S256x128 .f32} {p o n k : ℕ} {μ : ℝ} (ha : Part a i l x p V μ 0 o) (hb : Part b i l x p V μ o k)
    (hn : n = o + k) : Part (addf a b) i l x p V μ 0 n := by
  subst hn
  refine ⟨?_, ?_⟩
  · rw [pair_apply, ha.val, hb.val, ← EReal.left_distrib_of_nonneg_of_ne_top (EReal.coe_nonneg.mpr (Real.exp_pos _).le) (EReal.coe_ne_top _),
      Finset.sum_range_add]
    simp only [Nat.zero_add]
  · rw [pair_apply, ha.den, hb.den, ← EReal.left_distrib_of_nonneg_of_ne_top (EReal.coe_nonneg.mpr (Real.exp_pos _).le) (EReal.coe_ne_top _),
      Finset.sum_range_add]
    simp only [Nat.zero_add]

theorem quot_part {a : FVec Ideal S256x128 .f32} {p n : ℕ} {μ : ℝ} (h : Part a i l x p V μ 0 n) (hp : p < n) (hn : n ≤ keys) :
    quot a (ix2 i l) = soft x p V := by
  rw [quot_apply]
  refine soft_of_products x p n V _ _ _ hp hn (Real.exp_pos (-(μ * Real.log 2))) ?_ ?_
  · rw [h.val]; simp only [Nat.zero_add]
  · rw [h.den]; simp only [Nat.zero_add]

/-! ## The eight chains -/

theorem chain0_0_eq {k0 v0 : FVec Ideal S256x128 .bf16}
    (h0 : Reads q i l (rowsHalf k0) (rowsHalf v0) x V 0) :
    chain0_0 q k0 v0 (ix2 i l) = soft x (0 + i.val) V := by
  have s0 := diag0_score (0 + i.val) h0 (by omega)
  obtain ⟨μ, hm⟩ := rowMax_real (bounded_firstHalf s0)
  exact quot_part (n := 256) (pvHalf_part hm h0 s0) (by omega) (by norm_num [keys])

theorem chain0_1_eq {k0 v0 : FVec Ideal S512x128 .bf16} {k1 v1 : FVec Ideal S256x128 .bf16}
    (h0 : Reads q i l (rows k0) (rows v0) x V 0) (h1 : Reads q i l (rowsHalf k1) (rowsHalf v1) x V 512) :
    chain0_1 q k0 v0 k1 v1 (ix2 i l) = soft x (512 + i.val) V := by
  have s0 := full_score (512 + i.val) h0 (by omega)
  have s1 := diag0_score (512 + i.val) h1 (by omega)
  obtain ⟨μ, hm⟩ := rowMax_real (bounded_stepHalf (bounded_first s0) s1)
  exact quot_part (n := 768) (part_add (n := 768) (pv_part hm h0 s0) (pvHalf_part hm h1 s1) rfl) (by omega) (by norm_num [keys])

theorem chain0_2_eq {k0 v0 k1 v1 : FVec Ideal S512x128 .bf16} {k2 v2 : FVec Ideal S256x128 .bf16}
    (h0 : Reads q i l (rows k0) (rows v0) x V 0) (h1 : Reads q i l (rows k1) (rows v1) x V 512) (h2 : Reads q i l (rowsHalf k2) (rowsHalf v2) x V 1024) :
    chain0_2 q k0 v0 k1 v1 k2 v2 (ix2 i l) = soft x (1024 + i.val) V := by
  have s0 := full_score (1024 + i.val) h0 (by omega)
  have s1 := full_score (1024 + i.val) h1 (by omega)
  have s2 := diag0_score (1024 + i.val) h2 (by omega)
  obtain ⟨μ, hm⟩ := rowMax_real (bounded_stepHalf (bounded_step (bounded_first s0) s1) s2)
  exact quot_part (n := 1280) (part_add (n := 1280) (part_add (n := 1024) (pv_part hm h0 s0) (pv_part hm h1 s1) rfl) (pvHalf_part hm h2 s2) rfl) (by omega) (by norm_num [keys])

theorem chain0_3_eq {k0 v0 k1 v1 k2 v2 : FVec Ideal S512x128 .bf16} {k3 v3 : FVec Ideal S256x128 .bf16}
    (h0 : Reads q i l (rows k0) (rows v0) x V 0) (h1 : Reads q i l (rows k1) (rows v1) x V 512) (h2 : Reads q i l (rows k2) (rows v2) x V 1024) (h3 : Reads q i l (rowsHalf k3) (rowsHalf v3) x V 1536) :
    chain0_3 q k0 v0 k1 v1 k2 v2 k3 v3 (ix2 i l) = soft x (1536 + i.val) V := by
  have s0 := full_score (1536 + i.val) h0 (by omega)
  have s1 := full_score (1536 + i.val) h1 (by omega)
  have s2 := full_score (1536 + i.val) h2 (by omega)
  have s3 := diag0_score (1536 + i.val) h3 (by omega)
  obtain ⟨μ, hm⟩ := rowMax_real (bounded_stepHalf (bounded_step (bounded_step (bounded_first s0) s1) s2) s3)
  exact quot_part (n := 1792) (part_add (n := 1792) (part_add (n := 1536) (part_add (n := 1024) (pv_part hm h0 s0) (pv_part hm h1 s1) rfl) (pv_part hm h2 s2) rfl) (pvHalf_part hm h3 s3) rfl) (by omega) (by norm_num [keys])

theorem chain1_0_eq {k0 v0 : FVec Ideal S512x128 .bf16}
    (h0 : Reads q i l (rows k0) (rows v0) x V 0) :
    chain1_0 q k0 v0 (ix2 i l) = soft x (256 + i.val) V := by
  have s0 := diag1_score (256 + i.val) h0 (by omega)
  obtain ⟨μ, hm⟩ := rowMax_real (bounded_first s0)
  exact quot_part (n := 512) (pv_part hm h0 s0) (by omega) (by norm_num [keys])

theorem chain1_1_eq {k0 v0 k1 v1 : FVec Ideal S512x128 .bf16}
    (h0 : Reads q i l (rows k0) (rows v0) x V 0) (h1 : Reads q i l (rows k1) (rows v1) x V 512) :
    chain1_1 q k0 v0 k1 v1 (ix2 i l) = soft x (768 + i.val) V := by
  have s0 := full_score (768 + i.val) h0 (by omega)
  have s1 := diag1_score (768 + i.val) h1 (by omega)
  obtain ⟨μ, hm⟩ := rowMax_real (bounded_step (bounded_first s0) s1)
  exact quot_part (n := 1024) (part_add (n := 1024) (pv_part hm h0 s0) (pv_part hm h1 s1) rfl) (by omega) (by norm_num [keys])

theorem chain1_2_eq {k0 v0 k1 v1 k2 v2 : FVec Ideal S512x128 .bf16}
    (h0 : Reads q i l (rows k0) (rows v0) x V 0) (h1 : Reads q i l (rows k1) (rows v1) x V 512) (h2 : Reads q i l (rows k2) (rows v2) x V 1024) :
    chain1_2 q k0 v0 k1 v1 k2 v2 (ix2 i l) = soft x (1280 + i.val) V := by
  have s0 := full_score (1280 + i.val) h0 (by omega)
  have s1 := full_score (1280 + i.val) h1 (by omega)
  have s2 := diag1_score (1280 + i.val) h2 (by omega)
  obtain ⟨μ, hm⟩ := rowMax_real (bounded_step (bounded_step (bounded_first s0) s1) s2)
  exact quot_part (n := 1536) (part_add (n := 1536) (part_add (n := 1024) (pv_part hm h0 s0) (pv_part hm h1 s1) rfl) (pv_part hm h2 s2) rfl) (by omega) (by norm_num [keys])

theorem chain1_3_eq {k0 v0 k1 v1 k2 v2 k3 v3 : FVec Ideal S512x128 .bf16}
    (h0 : Reads q i l (rows k0) (rows v0) x V 0) (h1 : Reads q i l (rows k1) (rows v1) x V 512) (h2 : Reads q i l (rows k2) (rows v2) x V 1024) (h3 : Reads q i l (rows k3) (rows v3) x V 1536) :
    chain1_3 q k0 v0 k1 v1 k2 v2 k3 v3 (ix2 i l) = soft x (1792 + i.val) V := by
  have s0 := full_score (1792 + i.val) h0 (by omega)
  have s1 := full_score (1792 + i.val) h1 (by omega)
  have s2 := full_score (1792 + i.val) h2 (by omega)
  have s3 := diag1_score (1792 + i.val) h3 (by omega)
  obtain ⟨μ, hm⟩ := rowMax_real (bounded_step (bounded_step (bounded_step (bounded_first s0) s1) s2) s3)
  exact quot_part (n := 2048) (part_add (n := 2048) (part_add (n := 1536) (part_add (n := 1024) (pv_part hm h0 s0) (pv_part hm h1 s1) rfl) (pv_part hm h2 s2) rfl) (pv_part hm h3 s3) rfl) (by omega) (by norm_num [keys])

end Cert.Attn

end
-- ==== Proof.PiecesA.lean ====
/-
  WHAT A GRID POINT OF QUERY TILE 0 STORES: eight pieces, one for each of the four heads and two row groups of the point's
  block, each the chain of Proof/Chain.lean on the parts of the point's queries, keys and values that it loads.
-/
module

public import proofs.«01_k».proof.Proof.Chain
public import proofs.«01_k».proof.Proof.Gen.KernelIdeal.Frame.RunA
public import Idealize.ShloMosaic.Lib.Pipeline.ValueKit
public import Idealize.ShloMosaic.Lib.Pipeline.ReadBack
public import Idealize.ShloMosaic.Lib.Pipeline.FrameBody
public import Idealize.ShloMosaic.Lib.Tactic.Stretches

@[expose] public section

set_option maxRecDepth 16384

noncomputable section

namespace Cert.Attn

open Cert.KernelIdeal Cert.KernelIdeal.Gen Idealize.ShloMosaic Idealize.ShloMosaic.TcCoe Idealize.ShloMosaic.Tactic

variable {F : FTy → Type} [FloatOps F] [Named F]

/-- The pieces, the last stored first. -/
def piecesA (x0 : Vec F S512x512 .bf16) (x1 : Vec F S2048x512 .bf16) (x2 : Vec F S2048x512 .bf16) :
    List (View.Piece (Elt F) S512x256 .bf16) :=
  [⟨Rect.unit ![256, 192] ![256, 64] inb_S512x256_S256x64_256_192,
        chain1_0 (View.ld x0 (Rect.unit ![256, 384] ![256, 128] inb_S512x512_S256x128_256_384)) (View.ld x1 (Rect.unit ![0, 384] ![512, 128] inb_S2048x512_S512x128_0_384)) (View.ld x2 (Rect.unit ![0, 384] ![512, 128] inb_S2048x512_S512x128_0_384))⟩,
      ⟨Rect.unit ![0, 192] ![256, 64] inb_S512x256_S256x64_0_192,
        chain0_0 (View.ld x0 (Rect.unit ![0, 384] ![256, 128] inb_S512x512_S256x128_0_384)) (View.ld x1 (Rect.unit ![0, 384] ![256, 128] inb_S2048x512_S256x128_0_384)) (View.ld x2 (Rect.unit ![0, 384] ![256, 128] inb_S2048x512_S256x128_0_384))⟩,
      ⟨Rect.unit ![256, 128] ![256, 64] inb_S512x256_S256x64_256_128,
        chain1_0 (View.ld x0 (Rect.unit ![256, 256] ![256, 128] inb_S512x512_S256x128_256_256)) (View.ld x1 (Rect.unit ![0, 256] ![512, 128] inb_S2048x512_S512x128_0_256)) (View.ld x2 (Rect.unit ![0, 256] ![512, 128] inb_S2048x512_S512x128_0_256))⟩,
      ⟨Rect.unit ![0, 128] ![256, 64] inb_S512x256_S256x64_0_128,
        chain0_0 (View.ld x0 (Rect.unit ![0, 256] ![256, 128] inb_S512x512_S256x128_0_256)) (View.ld x1 (Rect.unit ![0, 256] ![256, 128] inb_S2048x512_S256x128_0_256)) (View.ld x2 (Rect.unit ![0, 256] ![256, 128] inb_S2048x512_S256x128_0_256))⟩,
      ⟨Rect.unit ![256, 64] ![256, 64] inb_S512x256_S256x64_256_64,
        chain1_0 (View.ld x0 (Rect.unit ![256, 128] ![256, 128] inb_S512x512_S256x128_256_128)) (View.ld x1 (Rect.unit ![0, 128] ![512, 128] inb_S2048x512_S512x128_0_128)) (View.ld x2 (Rect.unit ![0, 128] ![512, 128] inb_S2048x512_S512x128_0_128))⟩,
      ⟨Rect.unit ![0, 64] ![256, 64] inb_S512x256_S256x64_0_64,
        chain0_0 (View.ld x0 (Rect.unit ![0, 128] ![256, 128] inb_S512x512_S256x128_0_128)) (View.ld x1 (Rect.unit ![0, 128] ![256, 128] inb_S2048x512_S256x128_0_128)) (View.ld x2 (Rect.unit ![0, 128] ![256, 128] inb_S2048x512_S256x128_0_128))⟩,
      ⟨Rect.unit ![256, 0] ![256, 64] inb_S512x256_S256x64_256_0,
        chain1_0 (View.ld x0 (Rect.unit ![256, 0] ![256, 128] inb_S512x512_S256x128_256_0)) (View.ld x1 (Rect.unit ![0, 0] ![512, 128] inb_S2048x512_S512x128_0_0)) (View.ld x2 (Rect.unit ![0, 0] ![512, 128] inb_S2048x512_S512x128_0_0))⟩,
      ⟨Rect.unit ![0, 0] ![256, 64] inb_S512x256_S256x64_0_0,
        chain0_0 (View.ld x0 (Rect.unit ![0, 0] ![256, 128] inb_S512x512_S256x128_0_0)) (View.ld x1 (Rect.unit ![0, 0] ![256, 128] inb_S2048x512_S256x128_0_0)) (View.ld x2 (Rect.unit ![0, 0] ![256, 128] inb_S2048x512_S256x128_0_0))⟩]

theorem runA_pieces (c : Dev nD) (i : grid0.Coords) (arg3 : Memref sig .tc .vmem S512x512 .bf16) (harg3 : arg3.IsWhole)
    (arg4 : Memref sig .tc .vmem S2048x512 .bf16) (harg4 : arg4.IsWhole) (arg5 : Memref sig .tc .vmem S2048x512 .bf16)
    (harg5 : arg5.IsWhole) (arg6 : Memref sig .tc .vmem S512x256 .bf16) (harg6 : arg6.IsWhole)
    (arg7 : Memref sig .tc .vmem S4x4x512x512 .f32) (harg7 : arg7.IsWhole) (hc0 : cond0_0 i) (hc1 : ¬cond0_1 i) (hc2 : ¬cond0_2 i) (hc3 : ¬cond0_3 i)
    (x0 : Vec F S512x512 .bf16) (x1 : Vec F S2048x512 .bf16) (x2 : Vec F S2048x512 .bf16) :
    (kernelRun0_A c i arg3 harg3 arg4 harg4 arg5 harg5 arg6 harg6 arg7 harg7 hc0 hc1 hc2 hc3 x0 x1 x2).1 = piecesA x0 x1 x2 := by
  frame_open
  simp (disch := decide) only [↓ View.readCov_skip, ↓ View.readCov_cons_toLoadRect]
  frame_out
  rfl

end Cert.Attn

end
-- ==== Proof.PiecesB.lean ====
/-
  WHAT A GRID POINT OF QUERY TILE 1 STORES: eight pieces, one for each of the four heads and two row groups of the point's
  block, each the chain of Proof/Chain.lean on the parts of the point's queries, keys and values that it loads.
-/
module

public import proofs.«01_k».proof.Proof.Chain
public import proofs.«01_k».proof.Proof.Gen.KernelIdeal.Frame.RunB
public import Idealize.ShloMosaic.Lib.Pipeline.ValueKit
public import Idealize.ShloMosaic.Lib.Pipeline.ReadBack
public import Idealize.ShloMosaic.Lib.Pipeline.FrameBody
public import Idealize.ShloMosaic.Lib.Tactic.Stretches

@[expose] public section

set_option maxRecDepth 16384

noncomputable section

namespace Cert.Attn

open Cert.KernelIdeal Cert.KernelIdeal.Gen Idealize.ShloMosaic Idealize.ShloMosaic.TcCoe Idealize.ShloMosaic.Tactic

variable {F : FTy → Type} [FloatOps F] [Named F]

/-- The pieces, the last stored first. -/
def piecesB (x0 : Vec F S512x512 .bf16) (x1 : Vec F S2048x512 .bf16) (x2 : Vec F S2048x512 .bf16) :
    List (View.Piece (Elt F) S512x256 .bf16) :=
  [⟨Rect.unit ![256, 192] ![256, 64] inb_S512x256_S256x64_256_192,
        chain1_1 (View.ld x0 (Rect.unit ![256, 384] ![256, 128] inb_S512x512_S256x128_256_384)) (View.ld x1 (Rect.unit ![0, 384] ![512, 128] inb_S2048x512_S512x128_0_384)) (View.ld x2 (Rect.unit ![0, 384] ![512, 128] inb_S2048x512_S512x128_0_384)) (View.ld x1 (Rect.unit ![512, 384] ![512, 128] inb_S2048x512_S512x128_512_384)) (View.ld x2 (Rect.unit ![512, 384] ![512, 128] inb_S2048x512_S512x128_512_384))⟩,
      ⟨Rect.unit ![0, 192] ![256, 64] inb_S512x256_S256x64_0_192,
        chain0_1 (View.ld x0 (Rect.unit ![0, 384] ![256, 128] inb_S512x512_S256x128_0_384)) (View.ld x1 (Rect.unit ![0, 384] ![512, 128] inb_S2048x512_S512x128_0_384)) (View.ld x2 (Rect.unit ![0, 384] ![512, 128] inb_S2048x512_S512x128_0_384)) (View.ld x1 (Rect.unit ![512, 384] ![256, 128] inb_S2048x512_S256x128_512_384)) (View.ld x2 (Rect.unit ![512, 384] ![256, 128] inb_S2048x512_S256x128_512_384))⟩,
      ⟨Rect.unit ![256, 128] ![256, 64] inb_S512x256_S256x64_256_128,
        chain1_1 (View.ld x0 (Rect.unit ![256, 256] ![256, 128] inb_S512x512_S256x128_256_256)) (View.ld x1 (Rect.unit ![0, 256] ![512, 128] inb_S2048x512_S512x128_0_256)) (View.ld x2 (Rect.unit ![0, 256] ![512, 128] inb_S2048x512_S512x128_0_256)) (View.ld x1 (Rect.unit ![512, 256] ![512, 128] inb_S2048x512_S512x128_512_256)) (View.ld x2 (Rect.unit ![512, 256] ![512, 128] inb_S2048x512_S512x128_512_256))⟩,
      ⟨Rect.unit ![0, 128] ![256, 64] inb_S512x256_S256x64_0_128,
        chain0_1 (View.ld x0 (Rect.unit ![0, 256] ![256, 128] inb_S512x512_S256x128_0_256)) (View.ld x1 (Rect.unit ![0, 256] ![512, 128] inb_S2048x512_S512x128_0_256)) (View.ld x2 (Rect.unit ![0, 256] ![512, 128] inb_S2048x512_S512x128_0_256)) (View.ld x1 (Rect.unit ![512, 256] ![256, 128] inb_S2048x512_S256x128_512_256)) (View.ld x2 (Rect.unit ![512, 256] ![256, 128] inb_S2048x512_S256x128_512_256))⟩,
      ⟨Rect.unit ![256, 64] ![256, 64] inb_S512x256_S256x64_256_64,
        chain1_1 (View.ld x0 (Rect.unit ![256, 128] ![256, 128] inb_S512x512_S256x128_256_128)) (View.ld x1 (Rect.unit ![0, 128] ![512, 128] inb_S2048x512_S512x128_0_128)) (View.ld x2 (Rect.unit ![0, 128] ![512, 128] inb_S2048x512_S512x128_0_128)) (View.ld x1 (Rect.unit ![512, 128] ![512, 128] inb_S2048x512_S512x128_512_128)) (View.ld x2 (Rect.unit ![512, 128] ![512, 128] inb_S2048x512_S512x128_512_128))⟩,
      ⟨Rect.unit ![0, 64] ![256, 64] inb_S512x256_S256x64_0_64,
        chain0_1 (View.ld x0 (Rect.unit ![0, 128] ![256, 128] inb_S512x512_S256x128_0_128)) (View.ld x1 (Rect.unit ![0, 128] ![512, 128] inb_S2048x512_S512x128_0_128)) (View.ld x2 (Rect.unit ![0, 128] ![512, 128] inb_S2048x512_S512x128_0_128)) (View.ld x1 (Rect.unit ![512, 128] ![256, 128] inb_S2048x512_S256x128_512_128)) (View.ld x2 (Rect.unit ![512, 128] ![256, 128] inb_S2048x512_S256x128_512_128))⟩,
      ⟨Rect.unit ![256, 0] ![256, 64] inb_S512x256_S256x64_256_0,
        chain1_1 (View.ld x0 (Rect.unit ![256, 0] ![256, 128] inb_S512x512_S256x128_256_0)) (View.ld x1 (Rect.unit ![0, 0] ![512, 128] inb_S2048x512_S512x128_0_0)) (View.ld x2 (Rect.unit ![0, 0] ![512, 128] inb_S2048x512_S512x128_0_0)) (View.ld x1 (Rect.unit ![512, 0] ![512, 128] inb_S2048x512_S512x128_512_0)) (View.ld x2 (Rect.unit ![512, 0] ![512, 128] inb_S2048x512_S512x128_512_0))⟩,
      ⟨Rect.unit ![0, 0] ![256, 64] inb_S512x256_S256x64_0_0,
        chain0_1 (View.ld x0 (Rect.unit ![0, 0] ![256, 128] inb_S512x512_S256x128_0_0)) (View.ld x1 (Rect.unit ![0, 0] ![512, 128] inb_S2048x512_S512x128_0_0)) (View.ld x2 (Rect.unit ![0, 0] ![512, 128] inb_S2048x512_S512x128_0_0)) (View.ld x1 (Rect.unit ![512, 0] ![256, 128] inb_S2048x512_S256x128_512_0)) (View.ld x2 (Rect.unit ![512, 0] ![256, 128] inb_S2048x512_S256x128_512_0))⟩]

theorem runB_pieces (c : Dev nD) (i : grid0.Coords) (arg3 : Memref sig .tc .vmem S512x512 .bf16) (harg3 : arg3.IsWhole)
    (arg4 : Memref sig .tc .vmem S2048x512 .bf16) (harg4 : arg4.IsWhole) (arg5 : Memref sig .tc .vmem S2048x512 .bf16)
    (harg5 : arg5.IsWhole) (arg6 : Memref sig .tc .vmem S512x256 .bf16) (harg6 : arg6.IsWhole)
    (arg7 : Memref sig .tc .vmem S4x4x512x512 .f32) (harg7 : arg7.IsWhole) (hc0 : ¬cond0_0 i) (hc1 : cond0_1 i) (hc2 : ¬cond0_2 i) (hc3 : ¬cond0_3 i)
    (x0 : Vec F S512x512 .bf16) (x1 : Vec F S2048x512 .bf16) (x2 : Vec F S2048x512 .bf16) :
    (kernelRun0_B c i arg3 harg3 arg4 harg4 arg5 harg5 arg6 harg6 arg7 harg7 hc0 hc1 hc2 hc3 x0 x1 x2).1 = piecesB x0 x1 x2 := by
  frame_open
  simp (disch := decide) only [↓ View.readCov_skip, ↓ View.readCov_cons_toLoadRect]
  frame_out
  rfl

end Cert.Attn

end
-- ==== Proof.PiecesC.lean ====
/-
  WHAT A GRID POINT OF QUERY TILE 2 STORES: eight pieces, one for each of the four heads and two row groups of the point's
  block, each the chain of Proof/Chain.lean on the parts of the point's queries, keys and values that it loads.
-/
module

public import proofs.«01_k».proof.Proof.Chain
public import proofs.«01_k».proof.Proof.Gen.KernelIdeal.Frame.RunC
public import Idealize.ShloMosaic.Lib.Pipeline.ValueKit
public import Idealize.ShloMosaic.Lib.Pipeline.ReadBack
public import Idealize.ShloMosaic.Lib.Pipeline.FrameBody
public import Idealize.ShloMosaic.Lib.Tactic.Stretches

@[expose] public section

set_option maxRecDepth 16384

noncomputable section

namespace Cert.Attn

open Cert.KernelIdeal Cert.KernelIdeal.Gen Idealize.ShloMosaic Idealize.ShloMosaic.TcCoe Idealize.ShloMosaic.Tactic

variable {F : FTy → Type} [FloatOps F] [Named F]

/-- The pieces, the last stored first. -/
def piecesC (x0 : Vec F S512x512 .bf16) (x1 : Vec F S2048x512 .bf16) (x2 : Vec F S2048x512 .bf16) :
    List (View.Piece (Elt F) S512x256 .bf16) :=
  [⟨Rect.unit ![256, 192] ![256, 64] inb_S512x256_S256x64_256_192,
        chain1_2 (View.ld x0 (Rect.unit ![256, 384] ![256, 128] inb_S512x512_S256x128_256_384)) (View.ld x1 (Rect.unit ![0, 384] ![512, 128] inb_S2048x512_S512x128_0_384)) (View.ld x2 (Rect.unit ![0, 384] ![512, 128] inb_S2048x512_S512x128_0_384)) (View.ld x1 (Rect.unit ![512, 384] ![512, 128] inb_S2048x512_S512x128_512_384)) (View.ld x2 (Rect.unit ![512, 384] ![512, 128] inb_S2048x512_S512x128_512_384)) (View.ld x1 (Rect.unit ![1024, 384] ![512, 128] inb_S2048x512_S512x128_1024_384)) (View.ld x2 (Rect.unit ![1024, 384] ![512, 128] inb_S2048x512_S512x128_1024_384))⟩,
      ⟨Rect.unit ![0, 192] ![256, 64] inb_S512x256_S256x64_0_192,
        chain0_2 (View.ld x0 (Rect.unit ![0, 384] ![256, 128] inb_S512x512_S256x128_0_384)) (View.ld x1 (Rect.unit ![0, 384] ![512, 128] inb_S2048x512_S512x128_0_384)) (View.ld x2 (Rect.unit ![0, 384] ![512, 128] inb_S2048x512_S512x128_0_384)) (View.ld x1 (Rect.unit ![512, 384] ![512, 128] inb_S2048x512_S512x128_512_384)) (View.ld x2 (Rect.unit ![512, 384] ![512, 128] inb_S2048x512_S512x128_512_384)) (View.ld x1 (Rect.unit ![1024, 384] ![256, 128] inb_S2048x512_S256x128_1024_384)) (View.ld x2 (Rect.unit ![1024, 384] ![256, 128] inb_S2048x512_S256x128_1024_384))⟩,
      ⟨Rect.unit ![256, 128] ![256, 64] inb_S512x256_S256x64_256_128,
        chain1_2 (View.ld x0 (Rect.unit ![256, 256] ![256, 128] inb_S512x512_S256x128_256_256)) (View.ld x1 (Rect.unit ![0, 256] ![512, 128] inb_S2048x512_S512x128_0_256)) (View.ld x2 (Rect.unit ![0, 256] ![512, 128] inb_S2048x512_S512x128_0_256)) (View.ld x1 (Rect.unit ![512, 256] ![512, 128] inb_S2048x512_S512x128_512_256)) (View.ld x2 (Rect.unit ![512, 256] ![512, 128] inb_S2048x512_S512x128_512_256)) (View.ld x1 (Rect.unit ![1024, 256] ![512, 128] inb_S2048x512_S512x128_1024_256)) (View.ld x2 (Rect.unit ![1024, 256] ![512, 128] inb_S2048x512_S512x128_1024_256))⟩,
      ⟨Rect.unit ![0, 128] ![256, 64] inb_S512x256_S256x64_0_128,
        chain0_2 (View.ld x0 (Rect.unit ![0, 256] ![256, 128] inb_S512x512_S256x128_0_256)) (View.ld x1 (Rect.unit ![0, 256] ![512, 128] inb_S2048x512_S512x128_0_256)) (View.ld x2 (Rect.unit ![0, 256] ![512, 128] inb_S2048x512_S512x128_0_256)) (View.ld x1 (Rect.unit ![512, 256] ![512, 128] inb_S2048x512_S512x128_512_256)) (View.ld x2 (Rect.unit ![512, 256] ![512, 128] inb_S2048x512_S512x128_512_256)) (View.ld x1 (Rect.unit ![1024, 256] ![256, 128] inb_S2048x512_S256x128_1024_256)) (View.ld x2 (Rect.unit ![1024, 256] ![256, 128] inb_S2048x512_S256x128_1024_256))⟩,
      ⟨Rect.unit ![256, 64] ![256, 64] inb_S512x256_S256x64_256_64,
        chain1_2 (View.ld x0 (Rect.unit ![256, 128] ![256, 128] inb_S512x512_S256x128_256_128)) (View.ld x1 (Rect.unit ![0, 128] ![512, 128] inb_S2048x512_S512x128_0_128)) (View.ld x2 (Rect.unit ![0, 128] ![512, 128] inb_S2048x512_S512x128_0_128)) (View.ld x1 (Rect.unit ![512, 128] ![512, 128] inb_S2048x512_S512x128_512_128)) (View.ld x2 (Rect.unit ![512, 128] ![512, 128] inb_S2048x512_S512x128_512_128)) (View.ld x1 (Rect.unit ![1024, 128] ![512, 128] inb_S2048x512_S512x128_1024_128)) (View.ld x2 (Rect.unit ![1024, 128] ![512, 128] inb_S2048x512_S512x128_1024_128))⟩,
      ⟨Rect.unit ![0, 64] ![256, 64] inb_S512x256_S256x64_0_64,
        chain0_2 (View.ld x0 (Rect.unit ![0, 128] ![256, 128] inb_S512x512_S256x128_0_128)) (View.ld x1 (Rect.unit ![0, 128] ![512, 128] inb_S2048x512_S512x128_0_128)) (View.ld x2 (Rect.unit ![0, 128] ![512, 128] inb_S2048x512_S512x128_0_128)) (View.ld x1 (Rect.unit ![512, 128] ![512, 128] inb_S2048x512_S512x128_512_128)) (View.ld x2 (Rect.unit ![512, 128] ![512, 128] inb_S2048x512_S512x128_512_128)) (View.ld x1 (Rect.unit ![1024, 128] ![256, 128] inb_S2048x512_S256x128_1024_128)) (View.ld x2 (Rect.unit ![1024, 128] ![256, 128] inb_S2048x512_S256x128_1024_128))⟩,
      ⟨Rect.unit ![256, 0] ![256, 64] inb_S512x256_S256x64_256_0,
        chain1_2 (View.ld x0 (Rect.unit ![256, 0] ![256, 128] inb_S512x512_S256x128_256_0)) (View.ld x1 (Rect.unit ![0, 0] ![512, 128] inb_S2048x512_S512x128_0_0)) (View.ld x2 (Rect.unit ![0, 0] ![512, 128] inb_S2048x512_S512x128_0_0)) (View.ld x1 (Rect.unit ![512, 0] ![512, 128] inb_S2048x512_S512x128_512_0)) (View.ld x2 (Rect.unit ![512, 0] ![512, 128] inb_S2048x512_S512x128_512_0)) (View.ld x1 (Rect.unit ![1024, 0] ![512, 128] inb_S2048x512_S512x128_1024_0)) (View.ld x2 (Rect.unit ![1024, 0] ![512, 128] inb_S2048x512_S512x128_1024_0))⟩,
      ⟨Rect.unit ![0, 0] ![256, 64] inb_S512x256_S256x64_0_0,
        chain0_2 (View.ld x0 (Rect.unit ![0, 0] ![256, 128] inb_S512x512_S256x128_0_0)) (View.ld x1 (Rect.unit ![0, 0] ![512, 128] inb_S2048x512_S512x128_0_0)) (View.ld x2 (Rect.unit ![0, 0] ![512, 128] inb_S2048x512_S512x128_0_0)) (View.ld x1 (Rect.unit ![512, 0] ![512, 128] inb_S2048x512_S512x128_512_0)) (View.ld x2 (Rect.unit ![512, 0] ![512, 128] inb_S2048x512_S512x128_512_0)) (View.ld x1 (Rect.unit ![1024, 0] ![256, 128] inb_S2048x512_S256x128_1024_0)) (View.ld x2 (Rect.unit ![1024, 0] ![256, 128] inb_S2048x512_S256x128_1024_0))⟩]

theorem runC_pieces (c : Dev nD) (i : grid0.Coords) (arg3 : Memref sig .tc .vmem S512x512 .bf16) (harg3 : arg3.IsWhole)
    (arg4 : Memref sig .tc .vmem S2048x512 .bf16) (harg4 : arg4.IsWhole) (arg5 : Memref sig .tc .vmem S2048x512 .bf16)
    (harg5 : arg5.IsWhole) (arg6 : Memref sig .tc .vmem S512x256 .bf16) (harg6 : arg6.IsWhole)
    (arg7 : Memref sig .tc .vmem S4x4x512x512 .f32) (harg7 : arg7.IsWhole) (hc0 : ¬cond0_0 i) (hc1 : ¬cond0_1 i) (hc2 : cond0_2 i) (hc3 : ¬cond0_3 i)
    (x0 : Vec F S512x512 .bf16) (x1 : Vec F S2048x512 .bf16) (x2 : Vec F S2048x512 .bf16) :
    (kernelRun0_C c i arg3 harg3 arg4 harg4 arg5 harg5 arg6 harg6 arg7 harg7 hc0 hc1 hc2 hc3 x0 x1 x2).1 = piecesC x0 x1 x2 := by
  frame_open
  simp (disch := decide) only [↓ View.readCov_skip, ↓ View.readCov_cons_toLoadRect]
  frame_out
  rfl

end Cert.Attn

end
-- ==== Proof.PiecesD.lean ====
/-
  WHAT A GRID POINT OF QUERY TILE 3 STORES: eight pieces, one for each of the four heads and two row groups of the point's
  block, each the chain of Proof/Chain.lean on the parts of the point's queries, keys and values that it loads.
-/
module

public import proofs.«01_k».proof.Proof.Chain
public import proofs.«01_k».proof.Proof.RunD
public import Idealize.ShloMosaic.Lib.Pipeline.ValueKit
public import Idealize.ShloMosaic.Lib.Pipeline.ReadBack
public import Idealize.ShloMosaic.Lib.Pipeline.FrameBody
public import Idealize.ShloMosaic.Lib.Tactic.Stretches

@[expose] public section

set_option maxRecDepth 16384

noncomputable section

namespace Cert.Attn

open Cert.KernelIdeal Cert.KernelIdeal.Gen Idealize.ShloMosaic Idealize.ShloMosaic.TcCoe Idealize.ShloMosaic.Tactic

variable {F : FTy → Type} [FloatOps F] [Named F]

/-- The pieces, the last stored first. -/
def piecesD (x0 : Vec F S512x512 .bf16) (x1 : Vec F S2048x512 .bf16) (x2 : Vec F S2048x512 .bf16) :
    List (View.Piece (Elt F) S512x256 .bf16) :=
  [⟨Rect.unit ![256, 192] ![256, 64] inb_S512x256_S256x64_256_192,
        chain1_3 (View.ld x0 (Rect.unit ![256, 384] ![256, 128] inb_S512x512_S256x128_256_384)) (View.ld x1 (Rect.unit ![0, 384] ![512, 128] inb_S2048x512_S512x128_0_384)) (View.ld x2 (Rect.unit ![0, 384] ![512, 128] inb_S2048x512_S512x128_0_384)) (View.ld x1 (Rect.unit ![512, 384] ![512, 128] inb_S2048x512_S512x128_512_384)) (View.ld x2 (Rect.unit ![512, 384] ![512, 128] inb_S2048x512_S512x128_512_384)) (View.ld x1 (Rect.unit ![1024, 384] ![512, 128] inb_S2048x512_S512x128_1024_384)) (View.ld x2 (Rect.unit ![1024, 384] ![512, 128] inb_S2048x512_S512x128_1024_384)) (View.ld x1 (Rect.unit ![1536, 384] ![512, 128] inb_S2048x512_S512x128_1536_384)) (View.ld x2 (Rect.unit ![1536, 384] ![512, 128] inb_S2048x512_S512x128_1536_384))⟩,
      ⟨Rect.unit ![0, 192] ![256, 64] inb_S512x256_S256x64_0_192,
        chain0_3 (View.ld x0 (Rect.unit ![0, 384] ![256, 128] inb_S512x512_S256x128_0_384)) (View.ld x1 (Rect.unit ![0, 384] ![512, 128] inb_S2048x512_S512x128_0_384)) (View.ld x2 (Rect.unit ![0, 384] ![512, 128] inb_S2048x512_S512x128_0_384)) (View.ld x1 (Rect.unit ![512, 384] ![512, 128] inb_S2048x512_S512x128_512_384)) (View.ld x2 (Rect.unit ![512, 384] ![512, 128] inb_S2048x512_S512x128_512_384)) (View.ld x1 (Rect.unit ![1024, 384] ![512, 128] inb_S2048x512_S512x128_1024_384)) (View.ld x2 (Rect.unit ![1024, 384] ![512, 128] inb_S2048x512_S512x128_1024_384)) (View.ld x1 (Rect.unit ![1536, 384] ![256, 128] inb_S2048x512_S256x128_1536_384)) (View.ld x2 (Rect.unit ![1536, 384] ![256, 128] inb_S2048x512_S256x128_1536_384))⟩,
      ⟨Rect.unit ![256, 128] ![256, 64] inb_S512x256_S256x64_256_128,
        chain1_3 (View.ld x0 (Rect.unit ![256, 256] ![256, 128] inb_S512x512_S256x128_256_256)) (View.ld x1 (Rect.unit ![0, 256] ![512, 128] inb_S2048x512_S512x128_0_256)) (View.ld x2 (Rect.unit ![0, 256] ![512, 128] inb_S2048x512_S512x128_0_256)) (View.ld x1 (Rect.unit ![512, 256] ![512, 128] inb_S2048x512_S512x128_512_256)) (View.ld x2 (Rect.unit ![512, 256] ![512, 128] inb_S2048x512_S512x128_512_256)) (View.ld x1 (Rect.unit ![1024, 256] ![512, 128] inb_S2048x512_S512x128_1024_256)) (View.ld x2 (Rect.unit ![1024, 256] ![512, 128] inb_S2048x512_S512x128_1024_256)) (View.ld x1 (Rect.unit ![1536, 256] ![512, 128] inb_S2048x512_S512x128_1536_256)) (View.ld x2 (Rect.unit ![1536, 256] ![512, 128] inb_S2048x512_S512x128_1536_256))⟩,
      ⟨Rect.unit ![0, 128] ![256, 64] inb_S512x256_S256x64_0_128,
        chain0_3 (View.ld x0 (Rect.unit ![0, 256] ![256, 128] inb_S512x512_S256x128_0_256)) (View.ld x1 (Rect.unit ![0, 256] ![512, 128] inb_S2048x512_S512x128_0_256)) (View.ld x2 (Rect.unit ![0, 256] ![512, 128] inb_S2048x512_S512x128_0_256)) (View.ld x1 (Rect.unit ![512, 256] ![512, 128] inb_S2048x512_S512x128_512_256)) (View.ld x2 (Rect.unit ![512, 256] ![512, 128] inb_S2048x512_S512x128_512_256)) (View.ld x1 (Rect.unit ![1024, 256] ![512, 128] inb_S2048x512_S512x128_1024_256)) (View.ld x2 (Rect.unit ![1024, 256] ![512, 128] inb_S2048x512_S512x128_1024_256)) (View.ld x1 (Rect.unit ![1536, 256] ![256, 128] inb_S2048x512_S256x128_1536_256)) (View.ld x2 (Rect.unit ![1536, 256] ![256, 128] inb_S2048x512_S256x128_1536_256))⟩,
      ⟨Rect.unit ![256, 64] ![256, 64] inb_S512x256_S256x64_256_64,
        chain1_3 (View.ld x0 (Rect.unit ![256, 128] ![256, 128] inb_S512x512_S256x128_256_128)) (View.ld x1 (Rect.unit ![0, 128] ![512, 128] inb_S2048x512_S512x128_0_128)) (View.ld x2 (Rect.unit ![0, 128] ![512, 128] inb_S2048x512_S512x128_0_128)) (View.ld x1 (Rect.unit ![512, 128] ![512, 128] inb_S2048x512_S512x128_512_128)) (View.ld x2 (Rect.unit ![512, 128] ![512, 128] inb_S2048x512_S512x128_512_128)) (View.ld x1 (Rect.unit ![1024, 128] ![512, 128] inb_S2048x512_S512x128_1024_128)) (View.ld x2 (Rect.unit ![1024, 128] ![512, 128] inb_S2048x512_S512x128_1024_128)) (View.ld x1 (Rect.unit ![1536, 128] ![512, 128] inb_S2048x512_S512x128_1536_128)) (View.ld x2 (Rect.unit ![1536, 128] ![512, 128] inb_S2048x512_S512x128_1536_128))⟩,
      ⟨Rect.unit ![0, 64] ![256, 64] inb_S512x256_S256x64_0_64,
        chain0_3 (View.ld x0 (Rect.unit ![0, 128] ![256, 128] inb_S512x512_S256x128_0_128)) (View.ld x1 (Rect.unit ![0, 128] ![512, 128] inb_S2048x512_S512x128_0_128)) (View.ld x2 (Rect.unit ![0, 128] ![512, 128] inb_S2048x512_S512x128_0_128)) (View.ld x1 (Rect.unit ![512, 128] ![512, 128] inb_S2048x512_S512x128_512_128)) (View.ld x2 (Rect.unit ![512, 128] ![512, 128] inb_S2048x512_S512x128_512_128)) (View.ld x1 (Rect.unit ![1024, 128] ![512, 128] inb_S2048x512_S512x128_1024_128)) (View.ld x2 (Rect.unit ![1024, 128] ![512, 128] inb_S2048x512_S512x128_1024_128)) (View.ld x1 (Rect.unit ![1536, 128] ![256, 128] inb_S2048x512_S256x128_1536_128)) (View.ld x2 (Rect.unit ![1536, 128] ![256, 128] inb_S2048x512_S256x128_1536_128))⟩,
      ⟨Rect.unit ![256, 0] ![256, 64] inb_S512x256_S256x64_256_0,
        chain1_3 (View.ld x0 (Rect.unit ![256, 0] ![256, 128] inb_S512x512_S256x128_256_0)) (View.ld x1 (Rect.unit ![0, 0] ![512, 128] inb_S2048x512_S512x128_0_0)) (View.ld x2 (Rect.unit ![0, 0] ![512, 128] inb_S2048x512_S512x128_0_0)) (View.ld x1 (Rect.unit ![512, 0] ![512, 128] inb_S2048x512_S512x128_512_0)) (View.ld x2 (Rect.unit ![512, 0] ![512, 128] inb_S2048x512_S512x128_512_0)) (View.ld x1 (Rect.unit ![1024, 0] ![512, 128] inb_S2048x512_S512x128_1024_0)) (View.ld x2 (Rect.unit ![1024, 0] ![512, 128] inb_S2048x512_S512x128_1024_0)) (View.ld x1 (Rect.unit ![1536, 0] ![512, 128] inb_S2048x512_S512x128_1536_0)) (View.ld x2 (Rect.unit ![1536, 0] ![512, 128] inb_S2048x512_S512x128_1536_0))⟩,
      ⟨Rect.unit ![0, 0] ![256, 64] inb_S512x256_S256x64_0_0,
        chain0_3 (View.ld x0 (Rect.unit ![0, 0] ![256, 128] inb_S512x512_S256x128_0_0)) (View.ld x1 (Rect.unit ![0, 0] ![512, 128] inb_S2048x512_S512x128_0_0)) (View.ld x2 (Rect.unit ![0, 0] ![512, 128] inb_S2048x512_S512x128_0_0)) (View.ld x1 (Rect.unit ![512, 0] ![512, 128] inb_S2048x512_S512x128_512_0)) (View.ld x2 (Rect.unit ![512, 0] ![512, 128] inb_S2048x512_S512x128_512_0)) (View.ld x1 (Rect.unit ![1024, 0] ![512, 128] inb_S2048x512_S512x128_1024_0)) (View.ld x2 (Rect.unit ![1024, 0] ![512, 128] inb_S2048x512_S512x128_1024_0)) (View.ld x1 (Rect.unit ![1536, 0] ![256, 128] inb_S2048x512_S256x128_1536_0)) (View.ld x2 (Rect.unit ![1536, 0] ![256, 128] inb_S2048x512_S256x128_1536_0))⟩]

theorem runD_pieces (c : Dev nD) (i : grid0.Coords) (arg3 : Memref sig .tc .vmem S512x512 .bf16) (harg3 : arg3.IsWhole)
    (arg4 : Memref sig .tc .vmem S2048x512 .bf16) (harg4 : arg4.IsWhole) (arg5 : Memref sig .tc .vmem S2048x512 .bf16)
    (harg5 : arg5.IsWhole) (arg6 : Memref sig .tc .vmem S512x256 .bf16) (harg6 : arg6.IsWhole)
    (arg7 : Memref sig .tc .vmem S4x4x512x512 .f32) (harg7 : arg7.IsWhole) (hc0 : ¬cond0_0 i) (hc1 : ¬cond0_1 i) (hc2 : ¬cond0_2 i) (hc3 : cond0_3 i)
    (x0 : Vec F S512x512 .bf16) (x1 : Vec F S2048x512 .bf16) (x2 : Vec F S2048x512 .bf16) :
    (kernelRun0_D c i arg3 harg3 arg4 harg4 arg5 harg5 arg6 harg6 arg7 harg7 hc0 hc1 hc2 hc3 x0 x1 x2).1 = piecesD x0 x1 x2 := by
  frame_open
  simp (disch := decide) only [↓ View.readCov_skip, ↓ View.readCov_cons_toLoadRect]
  frame_out
  rfl

end Cert.Attn

end
-- ==== Proof.BlockValue.lean ====
/-
  WHAT A GRID POINT'S BLOCK HOLDS. `BlockReads n` says what the point's blocks of queries, keys and values are for a query tile `n`:
  scores that are real numbers, the values, and ones in the column behind each head's values. Then the block the point writes holds
  at row `r` and column `64 h + l` the softmax mean of head `h` for the query at position `512 n + r`.
-/
module

public import proofs.«01_k».proof.Proof.ChainValue
public import proofs.«01_k».proof.Proof.PiecesA
public import proofs.«01_k».proof.Proof.PiecesB
public import proofs.«01_k».proof.Proof.PiecesC
public import proofs.«01_k».proof.Proof.PiecesD
public import proofs.«01_k».proof.Proof.Frame
public import Idealize.ShloMosaic.Lib.Pipeline.ValueKit
public import Idealize.ShloMosaic.Lib.Pipeline.ReadBack

@[expose] public section

set_option maxRecDepth 16384

noncomputable section

namespace Cert.Attn

open Cert.KernelIdeal Cert.KernelIdeal.Gen Idealize.ShloMosaic Idealize.ShloMosaic.Pointwise

/-- The blocks of a grid point at query tile `n`: `X h p j` the score of the block's head `h` between positions `p` and `j`,
    `V h l j` column `l` of the head's value at position `j`. -/
structure BlockReads (n : ℕ) (x0 : Vec Ideal S512x512 .bf16) (x1 x2 : Vec Ideal S2048x512 .bf16) (X : ℕ → ℕ → ℕ → ℝ)
    (V : ℕ → ℕ → ℕ → EReal) : Prop where
  score : ∀ (h : Fin 4) (r : Fin 512) (j : Fin 2048),
    ∑ d : Fin 128, (x0 (ix2 r ⟨128 * h.val + d.val, by omega⟩) : EReal) * (x1 (ix2 j ⟨128 * h.val + d.val, by omega⟩) : EReal) =
      ((X h.val (512 * n + r.val) j.val / Real.log 2 : ℝ) : EReal)
  value : ∀ (h : Fin 4) (l : Fin 64) (j : Fin 2048), (x2 (ix2 j ⟨128 * h.val + l.val, by omega⟩) : EReal) = V h.val l.val j.val
  one : ∀ (h : Fin 4) (j : Fin 2048), (x2 (ix2 j ⟨128 * h.val + 64, by omega⟩) : EReal) = 1

/-- A load of 256 rows of a head's queries, read at an index. -/
theorem ld_q (x0 : Vec Ideal S512x512 .bf16) (a b : ℕ) (inb) (i : Fin 256) (d : Fin 128) (ha : a + 256 ≤ 512) (hb : b + 128 ≤ 512) :
    View.ld x0 (Rect.unit (s := S512x512) ![a, b] S256x128.size inb) (ix2 i d) = x0 (ix2 ⟨a + i.val, by omega⟩ ⟨b + d.val, by omega⟩) := by
  pointwise

/-- A load of 512 keys of a head, read at an index. -/
theorem ld_k (x : Vec Ideal S2048x512 .bf16) (a b : ℕ) (inb) (j : Fin 512) (d : Fin 128) (ha : a + 512 ≤ 2048) (hb : b + 128 ≤ 512) :
    View.ld x (Rect.unit (s := S2048x512) ![a, b] S512x128.size inb) (ix2 j d) = x (ix2 ⟨a + j.val, by omega⟩ ⟨b + d.val, by omega⟩) := by
  pointwise

/-- A load of 256 keys of a head, read at an index. -/
theorem ld_kHalf (x : Vec Ideal S2048x512 .bf16) (a b : ℕ) (inb) (j : Fin 256) (d : Fin 128) (ha : a + 256 ≤ 2048) (hb : b + 128 ≤ 512) :
    View.ld x (Rect.unit (s := S2048x512) ![a, b] S256x128.size inb) (ix2 j d) = x (ix2 ⟨a + j.val, by omega⟩ ⟨b + d.val, by omega⟩) := by
  pointwise

section
variable {n : ℕ} {x0 : Vec Ideal S512x512 .bf16} {x1 x2 : Vec Ideal S2048x512 .bf16} {X : ℕ → ℕ → ℕ → ℝ} {V : ℕ → ℕ → ℕ → EReal}

/-- The chunk of 512 keys from key `o` on, for row `i` of the row group from row `a` on, of head `h`. -/
theorem reads_chunk (H : BlockReads n x0 x1 x2 X V) (h : Fin 4) (a o b : ℕ) (ha : a + 256 ≤ 512) (ho : o + 512 ≤ 2048)
    (hb : b = 128 * h.val) (i0 i1 i2) (i : Fin 256) (l : Fin 64) :
    Reads (View.ld x0 (Rect.unit (s := S512x512) ![a, b] S256x128.size i0)) i l
      (rows (View.ld x1 (Rect.unit (s := S2048x512) ![o, b] S512x128.size i1)))
      (rows (View.ld x2 (Rect.unit (s := S2048x512) ![o, b] S512x128.size i2)))
      (X h.val (512 * n + (a + i.val))) (V h.val l.val) o := by
  subst hb
  refine ⟨fun j => ?_, fun j => ?_, fun j => ?_⟩
  · simp only [rows, ld_q x0 a _ i0 _ _ ha (by omega), ld_k x1 o _ i1 _ _ ho (by omega)]
    exact H.score h ⟨a + i.val, by omega⟩ ⟨o + j.val, by omega⟩
  · rw [rows, ld_k x2 o _ i2 _ _ ho (by omega)]
    exact H.value h l ⟨o + j.val, by omega⟩
  · rw [rows, ld_k x2 o _ i2 _ _ ho (by omega)]
    exact H.one h ⟨o + j.val, by omega⟩

/-- The same for a chunk of 256 keys. -/
theorem reads_chunkHalf (H : BlockReads n x0 x1 x2 X V) (h : Fin 4) (a o b : ℕ) (ha : a + 256 ≤ 512) (ho : o + 256 ≤ 2048)
    (hb : b = 128 * h.val) (i0 i1 i2) (i : Fin 256) (l : Fin 64) :
    Reads (View.ld x0 (Rect.unit (s := S512x512) ![a, b] S256x128.size i0)) i l
      (rowsHalf (View.ld x1 (Rect.unit (s := S2048x512) ![o, b] S256x128.size i1)))
      (rowsHalf (View.ld x2 (Rect.unit (s := S2048x512) ![o, b] S256x128.size i2)))
      (X h.val (512 * n + (a + i.val))) (V h.val l.val) o := by
  subst hb
  refine ⟨fun j => ?_, fun j => ?_, fun j => ?_⟩
  · simp only [rowsHalf, ld_q x0 a _ i0 _ _ ha (by omega), ld_kHalf x1 o _ i1 _ _ ho (by omega)]
    exact H.score h ⟨a + i.val, by omega⟩ ⟨o + j.val, by omega⟩
  · rw [rowsHalf, ld_kHalf x2 o _ i2 _ _ ho (by omega)]
    exact H.value h l ⟨o + j.val, by omega⟩
  · rw [rowsHalf, ld_kHalf x2 o _ i2 _ _ ho (by omega)]
    exact H.one h ⟨o + j.val, by omega⟩

/-- The block: the mean at each row and column. -/
def blockOf (n : ℕ) (X : ℕ → ℕ → ℕ → ℝ) (V : ℕ → ℕ → ℕ → EReal) : Vec Ideal S512x256 .bf16 := fun y =>
  soft (X ((y 1).val / 64) (512 * n + (y 0).val)) (512 * n + (y 0).val) (V ((y 1).val / 64) ((y 1).val % 64))

/-- A piece of 256 rows and 64 columns is a part of the block. -/
theorem piece_of (h : Fin 4) (a b : ℕ) (ha : a + 256 ≤ 512) (hb : b = 64 * h.val) (inb) (w : Vec Ideal S256x64 .bf16)
    (hw : ∀ (i : Fin 256) (l : Fin 64), w (ix2 i l) = soft (X h.val (512 * n + (a + i.val))) (512 * n + (a + i.val)) (V h.val l.val))
    (x : S256x64.Idx) : w x = blockOf n X V ((Rect.unit (s := S512x256) ![a, b] S256x64.size inb).emb x) := by
  subst hb
  obtain ⟨i, l, rfl⟩ : ∃ (i : Fin 256) (l : Fin 64), x = ix2 i l := ⟨x 0, x 1, by ext a; fin_cases a <;> rfl⟩
  rw [hw]
  have e0 : (((Rect.unit (s := S512x256) ![a, 64 * h.val] S256x64.size inb).emb (ix2 i l)) 0).val = a + i.val := by
    show a + 1 * i.val = _
    omega
  have e1 : (((Rect.unit (s := S512x256) ![a, 64 * h.val] S256x64.size inb).emb (ix2 i l)) 1).val = 64 * h.val + l.val := by
    show 64 * h.val + 1 * l.val = _
    omega
  rw [blockOf, e0, e1, show (64 * h.val + l.val) / 64 = h.val by omega, show (64 * h.val + l.val) % 64 = l.val by omega]

end

/-- Query tile 0's pieces are parts of the block. -/
theorem piecesA_of {x0 : Vec Ideal S512x512 .bf16} {x1 x2 : Vec Ideal S2048x512 .bf16} {X : ℕ → ℕ → ℕ → ℝ} {V : ℕ → ℕ → ℕ → EReal}
    (H : BlockReads 0 x0 x1 x2 X V) : View.PiecesOf (blockOf 0 X V) (piecesA x0 x1 x2) := by
  have sh0 : ∀ a : ℕ, 0 + a = 512 * 0 + (0 + a) := fun a => by omega
  have sh1 : ∀ a : ℕ, 256 + a = 512 * 0 + (256 + a) := fun a => by omega
  refine ⟨piece_of 3 256 192 (by norm_num) rfl inb_S512x256_S256x64_256_192 _ fun i l => ?_, piece_of 3 0 192 (by norm_num) rfl inb_S512x256_S256x64_0_192 _ fun i l => ?_, piece_of 2 256 128 (by norm_num) rfl inb_S512x256_S256x64_256_128 _ fun i l => ?_, piece_of 2 0 128 (by norm_num) rfl inb_S512x256_S256x64_0_128 _ fun i l => ?_, piece_of 1 256 64 (by norm_num) rfl inb_S512x256_S256x64_256_64 _ fun i l => ?_, piece_of 1 0 64 (by norm_num) rfl inb_S512x256_S256x64_0_64 _ fun i l => ?_, piece_of 0 256 0 (by norm_num) rfl inb_S512x256_S256x64_256_0 _ fun i l => ?_, piece_of 0 0 0 (by norm_num) rfl inb_S512x256_S256x64_0_0 _ fun i l => ?_, trivial⟩
  · exact (chain1_0_eq (reads_chunk H 3 256 0 384 (by norm_num) (by norm_num) rfl _ _ _ i l)).trans (congrArg (soft _ · _) (sh1 i.val))
  · exact (chain0_0_eq (reads_chunkHalf H 3 0 0 384 (by norm_num) (by norm_num) rfl _ _ _ i l)).trans (congrArg (soft _ · _) (sh0 i.val))
  · exact (chain1_0_eq (reads_chunk H 2 256 0 256 (by norm_num) (by norm_num) rfl _ _ _ i l)).trans (congrArg (soft _ · _) (sh1 i.val))
  · exact (chain0_0_eq (reads_chunkHalf H 2 0 0 256 (by norm_num) (by norm_num) rfl _ _ _ i l)).trans (congrArg (soft _ · _) (sh0 i.val))
  · exact (chain1_0_eq (reads_chunk H 1 256 0 128 (by norm_num) (by norm_num) rfl _ _ _ i l)).trans (congrArg (soft _ · _) (sh1 i.val))
  · exact (chain0_0_eq (reads_chunkHalf H 1 0 0 128 (by norm_num) (by norm_num) rfl _ _ _ i l)).trans (congrArg (soft _ · _) (sh0 i.val))
  · exact (chain1_0_eq (reads_chunk H 0 256 0 0 (by norm_num) (by norm_num) rfl _ _ _ i l)).trans (congrArg (soft _ · _) (sh1 i.val))
  · exact (chain0_0_eq (reads_chunkHalf H 0 0 0 0 (by norm_num) (by norm_num) rfl _ _ _ i l)).trans (congrArg (soft _ · _) (sh0 i.val))

/-- What the output window holds after a point of query tile 0. -/
theorem outA_eq (c : Dev nD) (i : grid0.Coords) (arg3 : Memref sig .tc .vmem S512x512 .bf16) (harg3 : arg3.IsWhole)
    (arg4 : Memref sig .tc .vmem S2048x512 .bf16) (harg4 : arg4.IsWhole) (arg5 : Memref sig .tc .vmem S2048x512 .bf16)
    (harg5 : arg5.IsWhole) (arg6 : Memref sig .tc .vmem S512x256 .bf16) (harg6 : arg6.IsWhole)
    (arg7 : Memref sig .tc .vmem S4x4x512x512 .f32) (harg7 : arg7.IsWhole) (hc0 : cond0_0 i) (hc1 : ¬cond0_1 i) (hc2 : ¬cond0_2 i) (hc3 : ¬cond0_3 i)
    {x0 : Vec Ideal S512x512 .bf16} {x1 x2 : Vec Ideal S2048x512 .bf16} {X : ℕ → ℕ → ℕ → ℝ} {V : ℕ → ℕ → ℕ → EReal}
    (H : BlockReads 0 x0 x1 x2 X V) :
    out0_A_3 c i arg3 harg3 arg4 harg4 arg5 harg5 arg6 harg6 arg7 harg7 hc0 hc1 hc2 hc3 x0 x1 x2 = blockOf 0 X V := by
  have hcov := cover0_A_3 (F := Ideal) c i arg3 harg3 arg4 harg4 arg5 harg5 arg6 harg6 arg7 harg7 hc0 hc1 hc2 hc3 x0 x1 x2
  unfold out0_A_3
  rw [runA_pieces] at hcov ⊢
  rw [View.read_writes_junk_eq_canon]
  funext y
  exact View.canon_apply_of_pieces (blockOf 0 X V) _ (piecesA_of H).mem y (hcov y)

/-- Query tile 1's pieces are parts of the block. -/
theorem piecesB_of {x0 : Vec Ideal S512x512 .bf16} {x1 x2 : Vec Ideal S2048x512 .bf16} {X : ℕ → ℕ → ℕ → ℝ} {V : ℕ → ℕ → ℕ → EReal}
    (H : BlockReads 1 x0 x1 x2 X V) : View.PiecesOf (blockOf 1 X V) (piecesB x0 x1 x2) := by
  have sh0 : ∀ a : ℕ, 512 + a = 512 * 1 + (0 + a) := fun a => by omega
  have sh1 : ∀ a : ℕ, 768 + a = 512 * 1 + (256 + a) := fun a => by omega
  refine ⟨piece_of 3 256 192 (by norm_num) rfl inb_S512x256_S256x64_256_192 _ fun i l => ?_, piece_of 3 0 192 (by norm_num) rfl inb_S512x256_S256x64_0_192 _ fun i l => ?_, piece_of 2 256 128 (by norm_num) rfl inb_S512x256_S256x64_256_128 _ fun i l => ?_, piece_of 2 0 128 (by norm_num) rfl inb_S512x256_S256x64_0_128 _ fun i l => ?_, piece_of 1 256 64 (by norm_num) rfl inb_S512x256_S256x64_256_64 _ fun i l => ?_, piece_of 1 0 64 (by norm_num) rfl inb_S512x256_S256x64_0_64 _ fun i l => ?_, piece_of 0 256 0 (by norm_num) rfl inb_S512x256_S256x64_256_0 _ fun i l => ?_, piece_of 0 0 0 (by norm_num) rfl inb_S512x256_S256x64_0_0 _ fun i l => ?_, trivial⟩
  · exact (chain1_1_eq (reads_chunk H 3 256 0 384 (by norm_num) (by norm_num) rfl _ _ _ i l) (reads_chunk H 3 256 512 384 (by norm_num) (by norm_num) rfl _ _ _ i l)).trans (congrArg (soft _ · _) (sh1 i.val))
  · exact (chain0_1_eq (reads_chunk H 3 0 0 384 (by norm_num) (by norm_num) rfl _ _ _ i l) (reads_chunkHalf H 3 0 512 384 (by norm_num) (by norm_num) rfl _ _ _ i l)).trans (congrArg (soft _ · _) (sh0 i.val))
  · exact (chain1_1_eq (reads_chunk H 2 256 0 256 (by norm_num) (by norm_num) rfl _ _ _ i l) (reads_chunk H 2 256 512 256 (by norm_num) (by norm_num) rfl _ _ _ i l)).trans (congrArg (soft _ · _) (sh1 i.val))
  · exact (chain0_1_eq (reads_chunk H 2 0 0 256 (by norm_num) (by norm_num) rfl _ _ _ i l) (reads_chunkHalf H 2 0 512 256 (by norm_num) (by norm_num) rfl _ _ _ i l)).trans (congrArg (soft _ · _) (sh0 i.val))
  · exact (chain1_1_eq (reads_chunk H 1 256 0 128 (by norm_num) (by norm_num) rfl _ _ _ i l) (reads_chunk H 1 256 512 128 (by norm_num) (by norm_num) rfl _ _ _ i l)).trans (congrArg (soft _ · _) (sh1 i.val))
  · exact (chain0_1_eq (reads_chunk H 1 0 0 128 (by norm_num) (by norm_num) rfl _ _ _ i l) (reads_chunkHalf H 1 0 512 128 (by norm_num) (by norm_num) rfl _ _ _ i l)).trans (congrArg (soft _ · _) (sh0 i.val))
  · exact (chain1_1_eq (reads_chunk H 0 256 0 0 (by norm_num) (by norm_num) rfl _ _ _ i l) (reads_chunk H 0 256 512 0 (by norm_num) (by norm_num) rfl _ _ _ i l)).trans (congrArg (soft _ · _) (sh1 i.val))
  · exact (chain0_1_eq (reads_chunk H 0 0 0 0 (by norm_num) (by norm_num) rfl _ _ _ i l) (reads_chunkHalf H 0 0 512 0 (by norm_num) (by norm_num) rfl _ _ _ i l)).trans (congrArg (soft _ · _) (sh0 i.val))

/-- What the output window holds after a point of query tile 1. -/
theorem outB_eq (c : Dev nD) (i : grid0.Coords) (arg3 : Memref sig .tc .vmem S512x512 .bf16) (harg3 : arg3.IsWhole)
    (arg4 : Memref sig .tc .vmem S2048x512 .bf16) (harg4 : arg4.IsWhole) (arg5 : Memref sig .tc .vmem S2048x512 .bf16)
    (harg5 : arg5.IsWhole) (arg6 : Memref sig .tc .vmem S512x256 .bf16) (harg6 : arg6.IsWhole)
    (arg7 : Memref sig .tc .vmem S4x4x512x512 .f32) (harg7 : arg7.IsWhole) (hc0 : ¬cond0_0 i) (hc1 : cond0_1 i) (hc2 : ¬cond0_2 i) (hc3 : ¬cond0_3 i)
    {x0 : Vec Ideal S512x512 .bf16} {x1 x2 : Vec Ideal S2048x512 .bf16} {X : ℕ → ℕ → ℕ → ℝ} {V : ℕ → ℕ → ℕ → EReal}
    (H : BlockReads 1 x0 x1 x2 X V) :
    out0_B_3 c i arg3 harg3 arg4 harg4 arg5 harg5 arg6 harg6 arg7 harg7 hc0 hc1 hc2 hc3 x0 x1 x2 = blockOf 1 X V := by
  have hcov := cover0_B_3 (F := Ideal) c i arg3 harg3 arg4 harg4 arg5 harg5 arg6 harg6 arg7 harg7 hc0 hc1 hc2 hc3 x0 x1 x2
  unfold out0_B_3
  rw [runB_pieces] at hcov ⊢
  rw [View.read_writes_junk_eq_canon]
  funext y
  exact View.canon_apply_of_pieces (blockOf 1 X V) _ (piecesB_of H).mem y (hcov y)

/-- Query tile 2's pieces are parts of the block. -/
theorem piecesC_of {x0 : Vec Ideal S512x512 .bf16} {x1 x2 : Vec Ideal S2048x512 .bf16} {X : ℕ → ℕ → ℕ → ℝ} {V : ℕ → ℕ → ℕ → EReal}
    (H : BlockReads 2 x0 x1 x2 X V) : View.PiecesOf (blockOf 2 X V) (piecesC x0 x1 x2) := by
  have sh0 : ∀ a : ℕ, 1024 + a = 512 * 2 + (0 + a) := fun a => by omega
  have sh1 : ∀ a : ℕ, 1280 + a = 512 * 2 + (256 + a) := fun a => by omega
  refine ⟨piece_of 3 256 192 (by norm_num) rfl inb_S512x256_S256x64_256_192 _ fun i l => ?_, piece_of 3 0 192 (by norm_num) rfl inb_S512x256_S256x64_0_192 _ fun i l => ?_, piece_of 2 256 128 (by norm_num) rfl inb_S512x256_S256x64_256_128 _ fun i l => ?_, piece_of 2 0 128 (by norm_num) rfl inb_S512x256_S256x64_0_128 _ fun i l => ?_, piece_of 1 256 64 (by norm_num) rfl inb_S512x256_S256x64_256_64 _ fun i l => ?_, piece_of 1 0 64 (by norm_num) rfl inb_S512x256_S256x64_0_64 _ fun i l => ?_, piece_of 0 256 0 (by norm_num) rfl inb_S512x256_S256x64_256_0 _ fun i l => ?_, piece_of 0 0 0 (by norm_num) rfl inb_S512x256_S256x64_0_0 _ fun i l => ?_, trivial⟩
  · exact (chain1_2_eq (reads_chunk H 3 256 0 384 (by norm_num) (by norm_num) rfl _ _ _ i l) (reads_chunk H 3 256 512 384 (by norm_num) (by norm_num) rfl _ _ _ i l) (reads_chunk H 3 256 1024 384 (by norm_num) (by norm_num) rfl _ _ _ i l)).trans (congrArg (soft _ · _) (sh1 i.val))
  · exact (chain0_2_eq (reads_chunk H 3 0 0 384 (by norm_num) (by norm_num) rfl _ _ _ i l) (reads_chunk H 3 0 512 384 (by norm_num) (by norm_num) rfl _ _ _ i l) (reads_chunkHalf H 3 0 1024 384 (by norm_num) (by norm_num) rfl _ _ _ i l)).trans (congrArg (soft _ · _) (sh0 i.val))
  · exact (chain1_2_eq (reads_chunk H 2 256 0 256 (by norm_num) (by norm_num) rfl _ _ _ i l) (reads_chunk H 2 256 512 256 (by norm_num) (by norm_num) rfl _ _ _ i l) (reads_chunk H 2 256 1024 256 (by norm_num) (by norm_num) rfl _ _ _ i l)).trans (congrArg (soft _ · _) (sh1 i.val))
  · exact (chain0_2_eq (reads_chunk H 2 0 0 256 (by norm_num) (by norm_num) rfl _ _ _ i l) (reads_chunk H 2 0 512 256 (by norm_num) (by norm_num) rfl _ _ _ i l) (reads_chunkHalf H 2 0 1024 256 (by norm_num) (by norm_num) rfl _ _ _ i l)).trans (congrArg (soft _ · _) (sh0 i.val))
  · exact (chain1_2_eq (reads_chunk H 1 256 0 128 (by norm_num) (by norm_num) rfl _ _ _ i l) (reads_chunk H 1 256 512 128 (by norm_num) (by norm_num) rfl _ _ _ i l) (reads_chunk H 1 256 1024 128 (by norm_num) (by norm_num) rfl _ _ _ i l)).trans (congrArg (soft _ · _) (sh1 i.val))
  · exact (chain0_2_eq (reads_chunk H 1 0 0 128 (by norm_num) (by norm_num) rfl _ _ _ i l) (reads_chunk H 1 0 512 128 (by norm_num) (by norm_num) rfl _ _ _ i l) (reads_chunkHalf H 1 0 1024 128 (by norm_num) (by norm_num) rfl _ _ _ i l)).trans (congrArg (soft _ · _) (sh0 i.val))
  · exact (chain1_2_eq (reads_chunk H 0 256 0 0 (by norm_num) (by norm_num) rfl _ _ _ i l) (reads_chunk H 0 256 512 0 (by norm_num) (by norm_num) rfl _ _ _ i l) (reads_chunk H 0 256 1024 0 (by norm_num) (by norm_num) rfl _ _ _ i l)).trans (congrArg (soft _ · _) (sh1 i.val))
  · exact (chain0_2_eq (reads_chunk H 0 0 0 0 (by norm_num) (by norm_num) rfl _ _ _ i l) (reads_chunk H 0 0 512 0 (by norm_num) (by norm_num) rfl _ _ _ i l) (reads_chunkHalf H 0 0 1024 0 (by norm_num) (by norm_num) rfl _ _ _ i l)).trans (congrArg (soft _ · _) (sh0 i.val))

/-- What the output window holds after a point of query tile 2. -/
theorem outC_eq (c : Dev nD) (i : grid0.Coords) (arg3 : Memref sig .tc .vmem S512x512 .bf16) (harg3 : arg3.IsWhole)
    (arg4 : Memref sig .tc .vmem S2048x512 .bf16) (harg4 : arg4.IsWhole) (arg5 : Memref sig .tc .vmem S2048x512 .bf16)
    (harg5 : arg5.IsWhole) (arg6 : Memref sig .tc .vmem S512x256 .bf16) (harg6 : arg6.IsWhole)
    (arg7 : Memref sig .tc .vmem S4x4x512x512 .f32) (harg7 : arg7.IsWhole) (hc0 : ¬cond0_0 i) (hc1 : ¬cond0_1 i) (hc2 : cond0_2 i) (hc3 : ¬cond0_3 i)
    {x0 : Vec Ideal S512x512 .bf16} {x1 x2 : Vec Ideal S2048x512 .bf16} {X : ℕ → ℕ → ℕ → ℝ} {V : ℕ → ℕ → ℕ → EReal}
    (H : BlockReads 2 x0 x1 x2 X V) :
    out0_C_3 c i arg3 harg3 arg4 harg4 arg5 harg5 arg6 harg6 arg7 harg7 hc0 hc1 hc2 hc3 x0 x1 x2 = blockOf 2 X V := by
  have hcov := cover0_C_3 (F := Ideal) c i arg3 harg3 arg4 harg4 arg5 harg5 arg6 harg6 arg7 harg7 hc0 hc1 hc2 hc3 x0 x1 x2
  unfold out0_C_3
  rw [runC_pieces] at hcov ⊢
  rw [View.read_writes_junk_eq_canon]
  funext y
  exact View.canon_apply_of_pieces (blockOf 2 X V) _ (piecesC_of H).mem y (hcov y)

/-- Query tile 3's pieces are parts of the block. -/
theorem piecesD_of {x0 : Vec Ideal S512x512 .bf16} {x1 x2 : Vec Ideal S2048x512 .bf16} {X : ℕ → ℕ → ℕ → ℝ} {V : ℕ → ℕ → ℕ → EReal}
    (H : BlockReads 3 x0 x1 x2 X V) : View.PiecesOf (blockOf 3 X V) (piecesD x0 x1 x2) := by
  have sh0 : ∀ a : ℕ, 1536 + a = 512 * 3 + (0 + a) := fun a => by omega
  have sh1 : ∀ a : ℕ, 1792 + a = 512 * 3 + (256 + a) := fun a => by omega
  refine ⟨piece_of 3 256 192 (by norm_num) rfl inb_S512x256_S256x64_256_192 _ fun i l => ?_, piece_of 3 0 192 (by norm_num) rfl inb_S512x256_S256x64_0_192 _ fun i l => ?_, piece_of 2 256 128 (by norm_num) rfl inb_S512x256_S256x64_256_128 _ fun i l => ?_, piece_of 2 0 128 (by norm_num) rfl inb_S512x256_S256x64_0_128 _ fun i l => ?_, piece_of 1 256 64 (by norm_num) rfl inb_S512x256_S256x64_256_64 _ fun i l => ?_, piece_of 1 0 64 (by norm_num) rfl inb_S512x256_S256x64_0_64 _ fun i l => ?_, piece_of 0 256 0 (by norm_num) rfl inb_S512x256_S256x64_256_0 _ fun i l => ?_, piece_of 0 0 0 (by norm_num) rfl inb_S512x256_S256x64_0_0 _ fun i l => ?_, trivial⟩
  · exact (chain1_3_eq (reads_chunk H 3 256 0 384 (by norm_num) (by norm_num) rfl _ _ _ i l) (reads_chunk H 3 256 512 384 (by norm_num) (by norm_num) rfl _ _ _ i l) (reads_chunk H 3 256 1024 384 (by norm_num) (by norm_num) rfl _ _ _ i l) (reads_chunk H 3 256 1536 384 (by norm_num) (by norm_num) rfl _ _ _ i l)).trans (congrArg (soft _ · _) (sh1 i.val))
  · exact (chain0_3_eq (reads_chunk H 3 0 0 384 (by norm_num) (by norm_num) rfl _ _ _ i l) (reads_chunk H 3 0 512 384 (by norm_num) (by norm_num) rfl _ _ _ i l) (reads_chunk H 3 0 1024 384 (by norm_num) (by norm_num) rfl _ _ _ i l) (reads_chunkHalf H 3 0 1536 384 (by norm_num) (by norm_num) rfl _ _ _ i l)).trans (congrArg (soft _ · _) (sh0 i.val))
  · exact (chain1_3_eq (reads_chunk H 2 256 0 256 (by norm_num) (by norm_num) rfl _ _ _ i l) (reads_chunk H 2 256 512 256 (by norm_num) (by norm_num) rfl _ _ _ i l) (reads_chunk H 2 256 1024 256 (by norm_num) (by norm_num) rfl _ _ _ i l) (reads_chunk H 2 256 1536 256 (by norm_num) (by norm_num) rfl _ _ _ i l)).trans (congrArg (soft _ · _) (sh1 i.val))
  · exact (chain0_3_eq (reads_chunk H 2 0 0 256 (by norm_num) (by norm_num) rfl _ _ _ i l) (reads_chunk H 2 0 512 256 (by norm_num) (by norm_num) rfl _ _ _ i l) (reads_chunk H 2 0 1024 256 (by norm_num) (by norm_num) rfl _ _ _ i l) (reads_chunkHalf H 2 0 1536 256 (by norm_num) (by norm_num) rfl _ _ _ i l)).trans (congrArg (soft _ · _) (sh0 i.val))
  · exact (chain1_3_eq (reads_chunk H 1 256 0 128 (by norm_num) (by norm_num) rfl _ _ _ i l) (reads_chunk H 1 256 512 128 (by norm_num) (by norm_num) rfl _ _ _ i l) (reads_chunk H 1 256 1024 128 (by norm_num) (by norm_num) rfl _ _ _ i l) (reads_chunk H 1 256 1536 128 (by norm_num) (by norm_num) rfl _ _ _ i l)).trans (congrArg (soft _ · _) (sh1 i.val))
  · exact (chain0_3_eq (reads_chunk H 1 0 0 128 (by norm_num) (by norm_num) rfl _ _ _ i l) (reads_chunk H 1 0 512 128 (by norm_num) (by norm_num) rfl _ _ _ i l) (reads_chunk H 1 0 1024 128 (by norm_num) (by norm_num) rfl _ _ _ i l) (reads_chunkHalf H 1 0 1536 128 (by norm_num) (by norm_num) rfl _ _ _ i l)).trans (congrArg (soft _ · _) (sh0 i.val))
  · exact (chain1_3_eq (reads_chunk H 0 256 0 0 (by norm_num) (by norm_num) rfl _ _ _ i l) (reads_chunk H 0 256 512 0 (by norm_num) (by norm_num) rfl _ _ _ i l) (reads_chunk H 0 256 1024 0 (by norm_num) (by norm_num) rfl _ _ _ i l) (reads_chunk H 0 256 1536 0 (by norm_num) (by norm_num) rfl _ _ _ i l)).trans (congrArg (soft _ · _) (sh1 i.val))
  · exact (chain0_3_eq (reads_chunk H 0 0 0 0 (by norm_num) (by norm_num) rfl _ _ _ i l) (reads_chunk H 0 0 512 0 (by norm_num) (by norm_num) rfl _ _ _ i l) (reads_chunk H 0 0 1024 0 (by norm_num) (by norm_num) rfl _ _ _ i l) (reads_chunkHalf H 0 0 1536 0 (by norm_num) (by norm_num) rfl _ _ _ i l)).trans (congrArg (soft _ · _) (sh0 i.val))

/-- What the output window holds after a point of query tile 3. -/
theorem outD_eq (c : Dev nD) (i : grid0.Coords) (arg3 : Memref sig .tc .vmem S512x512 .bf16) (harg3 : arg3.IsWhole)
    (arg4 : Memref sig .tc .vmem S2048x512 .bf16) (harg4 : arg4.IsWhole) (arg5 : Memref sig .tc .vmem S2048x512 .bf16)
    (harg5 : arg5.IsWhole) (arg6 : Memref sig .tc .vmem S512x256 .bf16) (harg6 : arg6.IsWhole)
    (arg7 : Memref sig .tc .vmem S4x4x512x512 .f32) (harg7 : arg7.IsWhole) (hc0 : ¬cond0_0 i) (hc1 : ¬cond0_1 i) (hc2 : ¬cond0_2 i) (hc3 : cond0_3 i)
    {x0 : Vec Ideal S512x512 .bf16} {x1 x2 : Vec Ideal S2048x512 .bf16} {X : ℕ → ℕ → ℕ → ℝ} {V : ℕ → ℕ → ℕ → EReal}
    (H : BlockReads 3 x0 x1 x2 X V) :
    out0_D_3 c i arg3 harg3 arg4 harg4 arg5 harg5 arg6 harg6 arg7 harg7 hc0 hc1 hc2 hc3 x0 x1 x2 = blockOf 3 X V := by
  have hcov := cover0_D_3 (F := Ideal) c i arg3 harg3 arg4 harg4 arg5 harg5 arg6 harg6 arg7 harg7 hc0 hc1 hc2 hc3 x0 x1 x2
  unfold out0_D_3
  rw [runD_pieces] at hcov ⊢
  rw [View.read_writes_junk_eq_canon]
  funext y
  exact View.canon_apply_of_pieces (blockOf 3 X V) _ (piecesD_of H).mem y (hcov y)

end Cert.Attn

end
-- ==== Proof.PointReads.lean ====
module

public import proofs.«01_k».proof.Proof.HostArgs
public import proofs.«01_k».proof.Proof.BlockValue
public import Idealize.ShloMosaic.Lib.Pipeline.ValueKit.Geometry
public import Idealize.ShloMosaic.Lib.Pipeline.ValueKit.Point

@[expose] public section

set_option maxRecDepth 16384

/-!
# The blocks a grid point reads

Point `t` works on batch `t / 8`, on heads `4 (t / 4 % 2) …` and on queries `512 (t % 4) …`. Its three blocks, read through the
packed arrays, are as `Cert.Attn.BlockReads` asks.
-/

noncomputable section

namespace Cert.Attn

open Cert.KernelIdeal Cert.KernelIdeal.Gen Idealize.ShloMosaic Idealize.ShloMosaic.TcCoe Idealize.ShloMosaic.Pointwise

theorem idx0 : ∀ t : Fin grid0.N, win0_0.index t = ![t.val / 8 * 4 + t.val % 4, t.val / 4 % 2] := by decide +kernel
theorem idx1 : ∀ t : Fin grid0.N, win0_1.index t = ![t.val / 8, t.val / 4 % 2] := by decide +kernel
theorem idx2 : ∀ t : Fin grid0.N, win0_2.index t = ![t.val / 8, t.val / 4 % 2] := by decide +kernel
theorem idx3 : ∀ t : Fin grid0.N, win0_3.index t = ![t.val / 8 * 4 + t.val % 4, t.val / 4 % 2] := by decide +kernel

variable {m : (ℓ : Loc nD τ sig) → Buf (Elt Ideal) ℓ}

theorem iblk0_at (c : Dev nD) (t : Fin cfg0.N) (r : Fin 512) (k : Fin 512) (R : Fin 16384) (K : Fin 1024)
    (hR : R.val = 512 * (t.val / 8 * 4 + t.val % 4) + r.val) (hK : K.val = 512 * (t.val / 4 % 2) + k.val) :
    iblk m c 0 t (ix2 r k) = V m c main_v8 (ix2 R K) := by
  blk_ext [iblk, idx0 t]

theorem iblk1_at (c : Dev nD) (t : Fin cfg0.N) (r : Fin 2048) (k : Fin 512) (R : Fin 16384) (K : Fin 1024)
    (hR : R.val = 2048 * (t.val / 8) + r.val) (hK : K.val = 512 * (t.val / 4 % 2) + k.val) :
    iblk m c 1 t (ix2 r k) = V m c main_v14 (ix2 R K) := by
  blk_ext [iblk, idx1 t]

theorem iblk2_at (c : Dev nD) (t : Fin cfg0.N) (r : Fin 2048) (k : Fin 512) (R : Fin 16384) (K : Fin 1024)
    (hR : R.val = 2048 * (t.val / 8) + r.val) (hK : K.val = 512 * (t.val / 4 % 2) + k.val) :
    iblk m c 2 t (ix2 r k) = V m c main_v18 (ix2 R K) := by
  blk_ext [iblk, idx2 t]

/-- The blocks of point `t` hold the scores and values of its batch, heads and queries. -/
theorem blockReads {c : Dev nD} {a : Coords} (H : Holds m c a) (t : Fin cfg0.N) (ht : t.val < 64) :
    BlockReads (t.val % 4) (iblk m c 0 t) (iblk m c 1 t) (iblk m c 2 t)
      (fun h p j => a.score (t.val / 8) (4 * (t.val / 4 % 2) + h) p j)
      (fun h l j => a.v (t.val / 8) j (4 * (t.val / 4 % 2) + h) l) where
  score h r j := by
    have hh := h.isLt; have hr := r.isLt; have hj := j.isLt
    have e : ∀ d : Fin 128, HMul.hMul (α := EReal) (β := EReal) (γ := EReal) (iblk m c 0 t (ix2 r ⟨128 * h.val + d.val, by omega⟩))
        (iblk m c 1 t (ix2 j ⟨128 * h.val + d.val, by omega⟩))
        = ((lane (a.qn (t.val / 8) (512 * (t.val % 4) + r.val) (4 * (t.val / 4 % 2) + h.val))
              (a.qr (t.val / 8) (512 * (t.val % 4) + r.val) (4 * (t.val / 4 % 2) + h.val)) d.val
            * lane (a.kn (t.val / 8) j.val (4 * (t.val / 4 % 2) + h.val)) (a.kr (t.val / 8) j.val) d.val
            * ((√(96 : ℝ))⁻¹ / Real.log 2) : ℝ) : EReal) := fun d => by
      have hd := d.isLt
      rw [iblk0_at c t r ⟨128 * h.val + d.val, by omega⟩ ⟨512 * (t.val / 8 * 4 + t.val % 4) + r.val, by omega⟩
          ⟨512 * (t.val / 4 % 2) + (128 * h.val + d.val), by omega⟩ rfl rfl,
        iblk1_at c t j ⟨128 * h.val + d.val, by omega⟩ ⟨2048 * (t.val / 8) + j.val, by omega⟩
          ⟨512 * (t.val / 4 % 2) + (128 * h.val + d.val), by omega⟩ rfl rfl,
        q_at H _ _ (t.val / 8) (512 * (t.val % 4) + r.val) (4 * (t.val / 4 % 2) + h.val) d.val (by omega) (by omega) (by omega)
          hd (by show 512 * (t.val / 8 * 4 + t.val % 4) + r.val = _; omega)
          (by show 512 * (t.val / 4 % 2) + (128 * h.val + d.val) = _; omega),
        k_at H _ _ (t.val / 8) j.val (4 * (t.val / 4 % 2) + h.val) d.val (by omega) (by omega) (by omega)
          hd rfl (by show 512 * (t.val / 4 % 2) + (128 * h.val + d.val) = _; omega),
        ← EReal.coe_mul, mul_right_comm]
    refine (Finset.sum_congr rfl fun d _ => e d).trans ?_
    rw [sum_coe, ← Finset.sum_mul, lane_sum]
    congr 1
    unfold Coords.score
    ring
  value h l j := by
    have hh := h.isLt; have hl := l.isLt; have hj := j.isLt
    rw [iblk2_at c t j ⟨128 * h.val + l.val, by omega⟩ ⟨2048 * (t.val / 8) + j.val, by omega⟩
          ⟨512 * (t.val / 4 % 2) + (128 * h.val + l.val), by omega⟩ rfl rfl,
      v_at H _ _ (t.val / 8) j.val (4 * (t.val / 4 % 2) + h.val) l.val (by omega) (by omega) (by omega)
          (by omega) rfl (by show 512 * (t.val / 4 % 2) + (128 * h.val + l.val) = _; omega), if_pos hl]
  one h j := by
    have hh := h.isLt; have hj := j.isLt
    rw [iblk2_at c t j ⟨128 * h.val + 64, by omega⟩ ⟨2048 * (t.val / 8) + j.val, by omega⟩
          ⟨512 * (t.val / 4 % 2) + (128 * h.val + 64), by omega⟩ rfl rfl,
      v_at H _ _ (t.val / 8) j.val (4 * (t.val / 4 % 2) + h.val) 64 (by omega) (by omega) (by omega)
          (by omega) rfl (by show 512 * (t.val / 4 % 2) + (128 * h.val + 64) = _; omega), if_neg (by omega)]

end Cert.Attn

end
-- ==== Proof.Blocks.lean ====
/-
  THE OUTPUT ARRAY BLOCK BY BLOCK: what each grid point writes back, and that block `t` of the final array is what point `t` wrote.
-/
module

public import proofs.«01_k».proof.Proof.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t.val t.isLt) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 4 = 0) (h1 : ¬t.val % 4 = 1) (h2 : ¬t.val % 4 = 2) (h3 : ¬t.val % 4 = 3) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t)) := by
  simp only [flushed3, outsAt0_A m c t h0 h1 h2 h3]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 4 = 0) (h1 : t.val % 4 = 1) (h2 : ¬t.val % 4 = 2) (h3 : ¬t.val % 4 = 3) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t)) := by
  simp only [flushed3, outsAt0_B m c t h0 h1 h2 h3]

/-- … so at a point where case C runs, what its write-back would write is that case's NAMED TERM for the window (`Gen.out0_C_3`: the pieces
    its run found, read back) at the point's memrefs and input blocks, and for an output the case reads back what the point before left (`Gen.outsAt0` at `t - 1`) — by the frame's rewriting lemma for the case. -/
theorem flushed3_C (c : Dev nD) (t : Fin cfg0.N) (h0 : ¬t.val % 4 = 0) (h1 : ¬t.val % 4 = 1) (h2 : t.val % 4 = 2) (h3 : ¬t.val % 4 = 3) :
    (dats m 0 c).flushed 3 t = (cfg0.win 3).cut (grid0.coords t) (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t)) := by
  simp only [flushed3, outsAt0_C m c t h0 h1 h2 h3]

/-- … so at a point where case D runs, what its write-back would write is that case's NAMED TERM for the window (`Gen.out0_D_3`: the pieces
    its run found, read back) at the point's memrefs and input blocks, and for an output the case reads back what the point before left (`Gen.outsAt0` at `t - 1`) — by the frame's rewriting lemma for the case. -/
theorem flushed3_D (c : Dev nD) (t : Fin cfg0.N) (h0 : ¬t.val % 4 = 0) (h1 : ¬t.val % 4 = 1) (h2 : ¬t.val % 4 = 2) (h3 : t.val % 4 = 3) :
    (dats m 0 c).flushed 3 t = (cfg0.win 3).cut (grid0.coords t) (out0_D_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t)) := by
  simp only [flushed3, outsAt0_D m c t h0 h1 h2 h3]

/-- The index map sends distinct grid points to distinct block indices (decided over the 64 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S16384x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v19) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v19) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post3 m r h c,
      kept_main_arg0 m r h c,
      kept_main_arg1 m r h c,
      kept_main_arg2 m r h c,
      kept_main_arg3 m r h c,
      kept_main_arg4 m r h c⟩)
    (run_main m ρ)

end Cert.KernelIdeal.Value

end
-- ==== Proof.Array.lean ====
module

public import proofs.«01_k».proof.Proof.PointReads
public import proofs.«01_k».proof.Proof.Blocks

@[expose] public section

set_option maxRecDepth 16384

/-!
# What the kernel's result array holds

Every point writes back its block of the layer's formula, and the blocks cover the array.
-/

noncomputable section

namespace Cert.Attn

open Cert.KernelIdeal Cert.KernelIdeal.Gen Cert.KernelIdeal.Value Idealize.ShloMosaic Idealize.ShloMosaic.TcCoe Idealize.ShloMosaic.Pointwise

/-- The formula over the whole array: row `2048 b + p`, column `64 h + l`. -/
def resultOf (a : Coords) : Vec Ideal S16384x512 .bf16 := fun y =>
  a.attn ((y 0).val / 2048) ((y 0).val % 2048) ((y 1).val / 64) ((y 1).val % 64)

/-- The formula over point `t`'s block. -/
abbrev pointBlock (a : Coords) (t : Fin cfg0.N) : Vec Ideal S512x256 .bf16 :=
  blockOf (t.val % 4) (fun h p j => a.score (t.val / 8) (4 * (t.val / 4 % 2) + h) p j)
    (fun h l j => a.v (t.val / 8) j (4 * (t.val / 4 % 2) + h) l)

variable {m : (ℓ : Loc nD τ sig) → Buf (Elt Ideal) ℓ}

/-- What point `t` leaves in its output block. -/
theorem outs_eq {c : Dev nD} {a : Coords} (H : Holds m c a) (t : Fin cfg0.N) : outsAt0 m c t.val t.isLt = pointBlock a t := by
  have ht : t.val < 64 := t.isLt
  have R := blockReads H t ht
  by_cases h0 : t.val % 4 = 0
  · have R' := R; rw [h0] at R'
    rw [outsAt0_A m c t h0 (by omega) (by omega) (by omega), outA_eq _ _ _ _ _ _ _ _ _ _ _ _ _ _ _ _ R', pointBlock, h0]
  by_cases h1 : t.val % 4 = 1
  · have R' := R; rw [h1] at R'
    rw [outsAt0_B m c t h0 h1 (by omega) (by omega), outB_eq _ _ _ _ _ _ _ _ _ _ _ _ _ _ _ _ R', pointBlock, h1]
  by_cases h2 : t.val % 4 = 2
  · have R' := R; rw [h2] at R'
    rw [outsAt0_C m c t h0 h1 h2 (by omega), outC_eq _ _ _ _ _ _ _ _ _ _ _ _ _ _ _ _ R', pointBlock, h2]
  have h3 : t.val % 4 = 3 := by omega
  have R' := R; rw [h3] at R'
  rw [outsAt0_D m c t h0 h1 h2 h3, outD_eq _ _ _ _ _ _ _ _ _ _ _ _ _ _ _ _ R', pointBlock, h3]

/-- A block's element is the whole array's at the block's place. -/
theorem pointBlock_apply (a : Coords) (t : Fin cfg0.N) (ht : t.val < 64) (r : Fin 512) (k : Fin 256) (R : Fin 16384) (K : Fin 512)
    (hR : R.val = 512 * (t.val / 8 * 4 + t.val % 4) + r.val) (hK : K.val = 256 * (t.val / 4 % 2) + k.val) :
    pointBlock a t (ix2 r k) = resultOf a (ix2 R K) := by
  have hr := r.isLt; have hk := k.isLt
  show soft (fun j => a.score (t.val / 8) (4 * (t.val / 4 % 2) + k.val / 64) (512 * (t.val % 4) + r.val) j) (512 * (t.val % 4) + r.val)
      (fun j => a.v (t.val / 8) j (4 * (t.val / 4 % 2) + k.val / 64) (k.val % 64))
    = a.attn (R.val / 2048) (R.val % 2048) (K.val / 64) (K.val % 64)
  rw [show R.val / 2048 = t.val / 8 by omega, show R.val % 2048 = 512 * (t.val % 4) + r.val by omega,
    show K.val / 64 = 4 * (t.val / 4 % 2) + k.val / 64 by omega, show K.val % 64 = k.val % 64 by omega]
  rfl

/-- THE KERNEL'S RESULT ARRAY after the run is the formula. -/
theorem array_eq {c : Dev nD} {a : Coords} (H : Holds m c a) : (dats m 0 c).arrAt 3 cfg0.N = resultOf a := by
  refine (dats m 0 c).arrAt_eq_of_covers 3 _ (by decide +kernel) fun t hf y => ?_
  blk_simp
  rw [after0_3, outs_eq H t]
  have ht : t.val < 64 := t.isLt
  obtain ⟨r, k, rfl⟩ : ∃ (r : Fin 512) (k : Fin 256), y = ix2 r k := ⟨y 0, y 1, by ext e; fin_cases e <;> rfl⟩
  have hr := r.isLt; have hk := k.isLt
  refine (pointBlock_apply a t ht r k ⟨512 * (t.val / 8 * 4 + t.val % 4) + r.val, by omega⟩
    ⟨256 * (t.val / 4 % 2) + k.val, by omega⟩ rfl rfl).trans ?_
  blk_ext [idx3 t]

end Cert.Attn

end
-- ==== Proof.RefSteps.lean ====
module

public import proofs.«01_k».proof.Proof.Gen.ReferenceIdeal.Run
public import proofs.«01_k».proof.Proof.Consts
public import proofs.«01_k».proof.Proof.Steps
public import Idealize.ShloMosaic.Lib.Pointwise
public import Idealize.ShloMosaic.Lib.Tactic.CleanTypes

@[expose] public section

set_option maxRecDepth 16384

/-!
# The reference, one step at a time

The reference's operations grouped into the steps of a softmax attention over whole arrays, and each step read at an index.
-/

noncomputable section

namespace Cert.Ref

open Cert.ReferenceIdeal Cert.ReferenceIdeal.Gen Cert.ReferenceIdeal.Value Idealize.ShloMosaic Idealize.ShloMosaic.TcCoe Idealize.ShloMosaic.Pointwise

section Steps
variable {F : FTy → Type} [FloatOps F]

/-- The scaled scores, position-free part plus rotated part. -/
def score (q : FVec F S8x2048x8x64 .f32) (q' : FVec F S8x2048x8x32 .f32) (k : FVec F S8x2048x8x64 .f32)
    (k' : FVec F S8x2048x32 .f32) : FVec F S8x8x2048x2048 .f32 :=
  mulf (addf (Host.dotGeneral dot_S8x2048x8x64_S8x2048x8x64_S8x8x2048x2048_3_3_1_1_02_02 none q k)
    (transpose S8x8x2048x2048 [0, 3, 2, 1]
      (Host.dotGeneral dot_S8x2048x32_S8x2048x8x32_S8x2048x2048x8_2_3_1_12_0_0 none k' q')
      transposes_S8x2048x2048x8_S8x8x2048x2048_0_3_2_1))
    (broadcastInDim S8x8x2048x2048 ![] bcast_S_S8x8x2048x2048 (Host.rsqrt (constant S_ .f32 0x42C00000#32)))

/-- Scores of later keys are minus infinity. -/
def masked (s : FVec F S8x8x2048x2048 .f32) : FVec F S8x8x2048x2048 .f32 :=
  select (broadcastInDim S8x8x2048x2048 ![2, 3] bcast_S2048x2048_S8x8x2048x2048_2_3
    (cmpi .sle (broadcastInDim S2048x2048 ![0, 1] bcast_S1x2048_S2048x2048_0_1
        (broadcastInDim S1x2048 ![1] bcast_S2048_S1x2048_1 (iotaInDim S2048 32 0)))
      (broadcastInDim S2048x2048 ![0, 1] bcast_S2048x1_S2048x2048_0_1
        (broadcastInDim S2048x1 ![0] bcast_S2048_S2048x1_0 (iotaInDim S2048 32 0)))))
    s (broadcastInDim S8x8x2048x2048 ![] bcast_S_S8x8x2048x2048 (id (constant S_ .f32 0xFF800000#32)))

/-- The largest score of a query, taken from `init`. -/
def largest (s : FVec F S8x8x2048x2048 .f32) (init : FVec F S_ .f32) : FVec F S8x8x2048 .f32 :=
  Host.reduce FloatOps.maximumf s init reducesTo_S8x8x2048x2048_S8x8x2048_d3 h_S_

/-- The largest score of a query, or minus infinity. -/
def top (s : FVec F S8x8x2048x2048 .f32) : FVec F S8x8x2048 .f32 :=
  maximumf (broadcastInDim S8x8x2048 ![] bcast_S_S8x8x2048 (constant S_ .f32 0xFF800000#32))
    (largest s (constant S_ .f32 0xFF800000#32))

/-- The same number for every key. -/
def spread (x : FVec F S8x8x2048 .f32) : FVec F S8x8x2048x2048 .f32 :=
  broadcastInDim S8x8x2048x2048 ![0, 1, 2, 3] bcast_S8x8x2048x1_S8x8x2048x2048_0_1_2_3
    (broadcastInDim S8x8x2048x1 ![0, 1, 2] bcast_S8x8x2048_S8x8x2048x1_0_1_2 x)

/-- The exponentials of the scores less the largest. -/
def weight (s : FVec F S8x8x2048x2048 .f32) : FVec F S8x8x2048x2048 .f32 := Host.exp (subf s (spread (top s)))

/-- The exponentials over their sum. -/
def prob (e : FVec F S8x8x2048x2048 .f32) : FVec F S8x8x2048x2048 .f32 :=
  Host.divf e (spread (Host.reduceAdd e (constant S_ .f32 0x00000000#32) reducesTo_S8x8x2048x2048_S8x8x2048_d3 h_S_))

/-- The probabilities' average of the values, laid out one row per query. -/
def mean (v : FVec F S8x2048x8x64 .f32) (p : FVec F S8x8x2048x2048 .f32) : FVec F S16384x512 .bf16 :=
  truncf .bf16 (shapeCast _ (transpose S8x2048x8x64 [0, 3, 1, 2]
    (Host.dotGeneral dot_S8x2048x8x64_S8x8x2048x2048_S8x8x64x2048_1_3_3_2_02_01 none v p)
    transposes_S8x8x64x2048_S8x2048x8x64_0_3_1_2) shapeCasts_S8x2048x8x64_S16384x512) bitsLt_bf16_f32

/-- The reference's result is the steps one after the other. -/
theorem result_eq (m : (ℓ : Loc nD τ sig) → Buf (Elt F) ℓ) (c : Dev nD) :
    res_out0 m c = mean (m ((c.tc : Thread nD τ).loc main_arg4)) (prob (weight (masked (score
      (m ((c.tc : Thread nD τ).loc main_arg0)) (m ((c.tc : Thread nD τ).loc main_arg1))
      (m ((c.tc : Thread nD τ).loc main_arg2)) (m ((c.tc : Thread nD τ).loc main_arg3)))))) := by
  unfold res_out0 res_main_v29 mean prob weight spread top largest masked score
  rfl

end Steps

theorem score_apply (q : FVec Ideal S8x2048x8x64 .f32) (q' : FVec Ideal S8x2048x8x32 .f32) (k : FVec Ideal S8x2048x8x64 .f32)
    (k' : FVec Ideal S8x2048x32 .f32) (b h : Fin 8) (p j : Fin 2048) :
    score q q' k k' (ix4 b h p j) = ((∑ d : Fin 64, (q (ix4 b p h d) : EReal) * k (ix4 b j h d))
      + ∑ d : Fin 32, (k' (ix3 b j d) : EReal) * q' (ix4 b p h d)) * Ideal.rsqrt (96 : ℝ) := by
  pointwise [score, Consts.ofBits_96]

theorem masked_apply (s : FVec Ideal S8x8x2048x2048 .f32) (b h : Fin 8) (p j : Fin 2048) :
    masked s (ix4 b h p j) = if j.val ≤ p.val then (s (ix4 b h p j) : EReal) else ⊥ := by
  pointwise [masked]
  exact (Attn.select_sle _ _ _ _ j.val p.val (by simp; omega) (by simp; omega) (by omega) (by omega)).trans
    (by rw [show (id (constant (F := Ideal) S_ .f32 0xFF800000#32) ix0 : EReal) = ⊥ from Consts.ofBits_negInf])

/-- A maximum along the last of four axes, at any sizes. -/
theorem reduce_last {n0 n1 n2 n3 : ℕ} (s : FVec Ideal ⟨4, ![n0, n1, n2, n3]⟩ .f32) (init : FVec Ideal S_ .f32)
    (h : (⟨4, ![n0, n1, n2, n3]⟩ : Shape).ReducesTo [3] ⟨3, ![n0, n1, n2]⟩) (hu) (x : Fin n0) (y : Fin n1) (z : Fin n2) :
    Host.reduce (FloatOps.maximumf (F := Ideal) (φ := .f32)) s init h hu (ix3 x y z)
      = Finset.univ.fold max (init (Shape.Idx.first hu) : EReal) fun j : Fin n3 => s (ix4 x y z j) := by
  pointwise

theorem largest_apply (s : FVec Ideal S8x8x2048x2048 .f32) (init : FVec Ideal S_ .f32) (b h : Fin 8) (p : Fin 2048) :
    largest s init (ix3 b h p)
      = Finset.univ.fold max (init (Shape.Idx.first h_S_) : EReal) fun j : Fin 2048 => s (ix4 b h p j) := by
  unfold largest
  rw [reduce_last]

theorem negInf_first : (constant (F := Ideal) S_ .f32 0xFF800000#32 (Shape.Idx.first h_S_) : EReal) = ⊥ := Consts.ofBits_negInf

/-- The larger of minus infinity and an array's element is that element. -/
theorem above_negInf (w : FVec Ideal S8x8x2048 .f32) (b h : Fin 8) (p : Fin 2048) :
    maximumf (broadcastInDim S8x8x2048 ![] bcast_S_S8x8x2048 (constant S_ .f32 0xFF800000#32)) w (ix3 b h p)
      = (w (ix3 b h p) : EReal) := by
  pointwise [Consts.ofBits_negInf]
  exact max_eq_right bot_le

theorem top_apply (s : FVec Ideal S8x8x2048x2048 .f32) (b h : Fin 8) (p : Fin 2048) :
    top s (ix3 b h p) = Finset.univ.fold max (⊥ : EReal) fun j : Fin 2048 => s (ix4 b h p j) := by
  unfold top
  rw [above_negInf, largest_apply, negInf_first]

theorem weight_apply (s : FVec Ideal S8x8x2048x2048 .f32) (b h : Fin 8) (p j : Fin 2048) :
    weight s (ix4 b h p j) = Ideal.exp ((s (ix4 b h p j) : EReal) - (top s (ix3 b h p) : EReal)) := by
  pointwise [weight, spread]

theorem prob_apply (e : FVec Ideal S8x8x2048x2048 .f32) (b h : Fin 8) (p j : Fin 2048) :
    prob e (ix4 b h p j) = Ideal.div (e (ix4 b h p j)) (∑ j : Fin 2048, (e (ix4 b h p j) : EReal)) := by
  pointwise [prob, spread, Consts.ofBits_zero]

theorem mean_apply (v : FVec Ideal S8x2048x8x64 .f32) (e : FVec Ideal S8x8x2048x2048 .f32) (r : Fin 16384) (k : Fin 512) :
    mean v e (ix2 r k) = ∑ j : Fin 2048, (v (ix4 ⟨r.val / 2048, by omega⟩ j ⟨k.val / 64, by omega⟩ ⟨k.val % 64, by omega⟩) : EReal)
      * e (ix4 ⟨r.val / 2048, by omega⟩ ⟨k.val / 64, by omega⟩ ⟨r.val % 2048, by omega⟩ j) := by
  pointwise [mean]

end Cert.Ref

end
-- ==== Proof.RefValue.lean ====
module

public import proofs.«01_k».proof.Proof.RefSteps
public import proofs.«01_k».proof.Proof.Spec

@[expose] public section

set_option maxRecDepth 16384

/-!
# The reference computes the layer's formula

One query at a time: its masked scores, their largest (a real number, since the query's first key is never masked), the
exponentials, their sum, and the average.
-/

noncomputable section

namespace Cert.Ref

open Cert.ReferenceIdeal Cert.ReferenceIdeal.Gen Cert.ReferenceIdeal.Value Idealize.ShloMosaic Idealize.ShloMosaic.TcCoe Idealize.ShloMosaic.Pointwise
open Cert.Attn

/-- Core `c`'s arguments hold the coordinates `a`. -/
structure Holds (m : (ℓ : Loc nD τ sig) → Buf (Elt Ideal) ℓ) (c : Dev nD) (a : Coords) : Prop where
  qn : ∀ (b : Fin 8) (s : Fin 2048) (h : Fin 8) (d : Fin 64),
    m ((c.tc : Thread nD τ).loc main_arg0) (ix4 b s h d) = ((a.qn b.val s.val h.val d.val : ℝ) : EReal)
  qr : ∀ (b : Fin 8) (s : Fin 2048) (h : Fin 8) (d : Fin 32),
    m ((c.tc : Thread nD τ).loc main_arg1) (ix4 b s h d) = ((a.qr b.val s.val h.val d.val : ℝ) : EReal)
  kn : ∀ (b : Fin 8) (s : Fin 2048) (h : Fin 8) (d : Fin 64),
    m ((c.tc : Thread nD τ).loc main_arg2) (ix4 b s h d) = ((a.kn b.val s.val h.val d.val : ℝ) : EReal)
  kr : ∀ (b : Fin 8) (s : Fin 2048) (d : Fin 32),
    m ((c.tc : Thread nD τ).loc main_arg3) (ix3 b s d) = ((a.kr b.val s.val d.val : ℝ) : EReal)
  v : ∀ (b : Fin 8) (s : Fin 2048) (h : Fin 8) (d : Fin 64),
    m ((c.tc : Thread nD τ).loc main_arg4) (ix4 b s h d) = a.v b.val s.val h.val d.val

/-- A query's masked scores: later keys at minus infinity. -/
def maskedAt (x : ℕ → ℝ) (p j : ℕ) : EReal := if j ≤ p then ((x j : ℝ) : EReal) else ⊥

/-- The largest masked score is a real number. -/
theorem top_real {s : FVec Ideal S8x8x2048x2048 .f32} {b h : Fin 8} {p : Fin 2048} {x : ℕ → ℝ}
    (hs : ∀ j : Fin 2048, s (ix4 b h p j) = maskedAt x p.val j.val) : ∃ μ : ℝ, top s (ix3 b h p) = (μ : EReal) := by
  rw [top_apply]
  refine ⟨_, (EReal.coe_toReal (ne_of_lt ?_) (ne_of_gt ?_)).symm⟩
  · refine (Finset.fold_max_lt _).mpr ⟨bot_lt_top, fun j _ => ?_⟩
    rw [hs, maskedAt]; split_ifs
    · exact EReal.coe_lt_top _
    · exact bot_lt_top
  · refine (Finset.lt_fold_max _).mpr (.inr ⟨⟨0, by omega⟩, Finset.mem_univ _, ?_⟩)
    rw [hs, maskedAt, if_pos (Nat.zero_le _)]; exact EReal.bot_lt_coe _

/-- The exponential of a masked score less a real number is that number's factor times the key's weight. -/
theorem exp_masked (x : ℕ → ℝ) (p j : ℕ) (μ : ℝ) :
    Ideal.exp (maskedAt x p j - (μ : EReal)) = ((Real.exp (-μ) * wt x p j : ℝ) : EReal) := by
  unfold maskedAt wt
  by_cases hj : j ≤ p
  · rw [if_pos hj, if_pos hj, ← EReal.coe_sub, Ideal.exp_coe, ← Real.exp_add, neg_add_eq_sub]
  · rw [if_neg hj, if_neg hj, EReal.bot_sub, mul_zero]; exact Ideal.exp_bot

/-- A query's probabilities: the weights over their sum. -/
theorem prob_masked {s : FVec Ideal S8x8x2048x2048 .f32} {b h : Fin 8} {p : Fin 2048} {x : ℕ → ℝ}
    (hs : ∀ j : Fin 2048, s (ix4 b h p j) = maskedAt x p.val j.val) (j : Fin 2048) :
    prob (weight s) (ix4 b h p j)
      = ((wt x p.val j.val * (∑ i ∈ Finset.range keys, wt x p.val i)⁻¹ : ℝ) : EReal) := by
  obtain ⟨μ, hμ⟩ := top_real hs
  have hw : ∀ i : Fin 2048, weight s (ix4 b h p i) = ((Real.exp (-μ) * wt x p.val i.val : ℝ) : EReal) := fun i => by
    rw [weight_apply, hs, hμ, exp_masked]
  have hL : 0 < ∑ i ∈ Finset.range keys, wt x p.val i := sum_wt_pos x p.val keys (by decide)
  have ht := Real.exp_pos (-μ)
  have hsum : (∑ i : Fin 2048, (weight s (ix4 b h p i) : EReal))
      = ((Real.exp (-μ) * ∑ i ∈ Finset.range keys, wt x p.val i : ℝ) : EReal) := by
    rw [Finset.sum_congr rfl fun i _ => hw i, sum_coe, ← Finset.mul_sum]
    exact congrArg (fun y : ℝ => ((Real.exp (-μ) * y : ℝ) : EReal)) (Finset.sum_range (fun i => wt x p.val i)).symm
  rw [prob_apply, hsum, hw j, Ideal.div_coe (mul_pos ht hL).ne', ← EReal.coe_mul]
  generalize (∑ i ∈ Finset.range keys, wt x p.val i) = L at hL
  generalize Real.exp (-μ) = t at ht
  refine congrArg (fun y : ℝ => (y : EReal)) ?_
  field_simp

/-- The average by the probabilities is the formula's. -/
theorem mean_masked (x : ℕ → ℝ) (p : ℕ) (V : ℕ → EReal) :
    ∑ j : Fin 2048, V j.val * ((wt x p j.val * (∑ i ∈ Finset.range keys, wt x p i)⁻¹ : ℝ) : EReal) = soft x p V := by
  have hL : 0 < ∑ i ∈ Finset.range keys, wt x p i := sum_wt_pos x p keys (by decide)
  unfold soft
  generalize (∑ i ∈ Finset.range keys, wt x p i) = L at hL
  have e : ∀ j : Fin 2048, V j.val * ((wt x p j.val * L⁻¹ : ℝ) : EReal) = ((L⁻¹ : ℝ) : EReal) * (((wt x p j.val : ℝ) : EReal) * V j.val) :=
    fun j => by rw [EReal.coe_mul, mul_comm, mul_comm ((wt x p j.val : ℝ) : EReal), mul_assoc]
  rw [Finset.sum_congr rfl fun j _ => e j, coe_mul_sum _ _ (inv_nonneg.2 hL.le), mul_comm]
  exact congrArg (· * ((L⁻¹ : ℝ) : EReal)) (Finset.sum_range (fun j => ((wt x p j : ℝ) : EReal) * V j)).symm

variable {m : (ℓ : Loc nD τ sig) → Buf (Elt Ideal) ℓ} {c : Dev nD} {a : Coords}

/-- The reference's scores, masked. -/
theorem score_masked (H : Holds m c a) (b h : Fin 8) (p j : Fin 2048) :
    masked (F := Ideal) (score (m ((c.tc : Thread nD τ).loc main_arg0)) (m ((c.tc : Thread nD τ).loc main_arg1))
      (m ((c.tc : Thread nD τ).loc main_arg2)) (m ((c.tc : Thread nD τ).loc main_arg3))) (ix4 b h p j)
      = maskedAt (a.score b.val h.val p.val) p.val j.val := by
  rw [masked_apply, maskedAt]
  refine if_congr Iff.rfl ?_ rfl
  rw [score_apply]
  simp only [H.qn, H.qr, H.kn, H.kr, ← EReal.coe_mul, sum_coe]
  rw [Ideal.rsqrt_coe, if_neg (by norm_num), if_neg (by norm_num), ← EReal.coe_add, ← EReal.coe_mul, Coords.score,
    Finset.sum_range, Finset.sum_range]
  simp only [mul_comm (a.kr b.val j.val _)]

/-- THE REFERENCE'S RESULT at row `2048 b + p`, column `64 h + l`: the formula there. -/
theorem result_at (H : Holds m c a) (r : Fin 16384) (k : Fin 512) :
    res_out0 m c (ix2 r k) = a.attn (r.val / 2048) (r.val % 2048) (k.val / 64) (k.val % 64) := by
  rw [result_eq, mean_apply]
  simp only [prob_masked (score_masked H _ _ _), H.v]
  exact mean_masked (a.score (r.val / 2048) (k.val / 64) (r.val % 2048)) (r.val % 2048)
    fun j => a.v (r.val / 2048) j (k.val / 64) (k.val % 64)

end Cert.Ref

end
-- ==== Proof.Finite.lean ====
module

public import proofs.«01_k».proof.Defs
public import proofs.«01_k».proof.Proof.Gen.Pre_finite_scores
public import proofs.«01_k».proof.Proof.HostArgs

@[expose] public section

set_option maxRecDepth 16384

/-!
# Finite queries and keys

The precondition says of every element of the queries and keys that its absolute value is below plus infinity: each is a real
number, so the arguments are given by coordinates (`Cert.Attn.Holds`).
-/

noncomputable section

namespace Cert.Attn

open Cert.KernelIdeal Cert.KernelIdeal.Gen Idealize.ShloMosaic Idealize.ShloMosaic.TcCoe Idealize.ShloMosaic.Pointwise

/-- A one-bit answer that is one is a true one. -/
theorem of_ofBool {p : Prop} [Decidable p] (h : BitVec.ofBool (decide p) = 1#1) : p := by
  by_contra hp
  rw [decide_eq_false hp] at h
  exact absurd h (by decide)

/-- An extended real whose absolute value is below plus infinity is a real number. -/
theorem real_of_abs (x : Ideal .f32) (h : FloatOps.cmpf .olt (FloatOps.hostAbsf x) (FloatOps.ofBits (F := Ideal) .f32 0x7F800000#32) = 1#1) :
    (x : EReal) = ((EReal.toReal x : ℝ) : EReal) := by
  have hlt : max (x : EReal) (-(x : EReal)) < Ideal.ofBits .f32 0x7F800000#32 := of_ofBool h
  rw [Consts.ofBits_posInf] at hlt
  refine (EReal.coe_toReal (ne_of_lt ((le_max_left _ _).trans_lt hlt)) ?_).symm
  intro e
  have h2 : -(x : EReal) < ⊤ := (le_max_right _ _).trans_lt hlt
  rw [e] at h2
  exact absurd h2 (by simp)

/-- The arguments' coordinates, the indices taken within the arrays. -/
def coordsOf (m : (ℓ : Loc nD τ sig) → Buf (Elt Ideal) ℓ) (c : Dev nD) : Coords where
  qn b s h d := EReal.toReal (m (c, Proc.tc.devRef main_arg0) (ix4 (Fin.ofNat 8 b) (Fin.ofNat 2048 s) (Fin.ofNat 8 h) (Fin.ofNat 64 d)))
  qr b s h d := EReal.toReal (m (c, Proc.tc.devRef main_arg1) (ix4 (Fin.ofNat 8 b) (Fin.ofNat 2048 s) (Fin.ofNat 8 h) (Fin.ofNat 32 d)))
  kn b s h d := EReal.toReal (m (c, Proc.tc.devRef main_arg2) (ix4 (Fin.ofNat 8 b) (Fin.ofNat 2048 s) (Fin.ofNat 8 h) (Fin.ofNat 64 d)))
  kr b s d := EReal.toReal (m (c, Proc.tc.devRef main_arg3) (ix3 (Fin.ofNat 8 b) (Fin.ofNat 2048 s) (Fin.ofNat 32 d)))
  v b s h d := m (c, Proc.tc.devRef main_arg4) (ix4 (Fin.ofNat 8 b) (Fin.ofNat 2048 s) (Fin.ofNat 8 h) (Fin.ofNat 64 d))

theorem holds_of_pre {m : (ℓ : Loc nD τ sig) → Buf (Elt Ideal) ℓ} (hm : Cert.Pre_KernelIdeal_finite_scores m) (c : Dev nD) :
    Holds m c (coordsOf m c) := by
  obtain ⟨h0, h1, h2, h3⟩ := hm c
  dsimp only [Cert.Pre_finite_scores.fn] at h0 h1 h2 h3
  have f : ∀ {N : ℕ} [NeZero N] (i : Fin N), Fin.ofNat N i.val = i := fun i => Fin.ext (Nat.mod_eq_of_lt i.isLt)
  exact
    { qn := fun b s h d => by
        simp only [coordsOf, f]; exact real_of_abs _ (congrFun h0 (ix4 b s h d))
      qr := fun b s h d => by
        simp only [coordsOf, f]; exact real_of_abs _ (congrFun h1 (ix4 b s h d))
      kn := fun b s h d => by
        simp only [coordsOf, f]; exact real_of_abs _ (congrFun h2 (ix4 b s h d))
      kr := fun b s d => by
        simp only [coordsOf, f]; exact real_of_abs _ (congrFun h3 (ix3 b s d))
      v := fun b s h d => by simp only [coordsOf, f] }

end Cert.Attn

end
-- ==== Proof.Claims.lean ====
module

public import proofs.«01_k».proof.Defs
public import proofs.«01_k».proof.Proof.FrameBits
public import proofs.«01_k».proof.Proof.Array
public import proofs.«01_k».proof.Proof.RefValue
public import proofs.«01_k».proof.Proof.Finite
public import Idealize.ShloMosaic.Lib.Quiescent

@[expose] public section

/-!
# The claims

The three frames, the named constant of the ideal kernel, and the equation: kernel and reference both end with the causal
softmax attention of the coordinates that the arguments hold.
-/

noncomputable section

open Idealize.ShloMosaic Idealize.ShloMosaic.TcCoe Idealize.SL.Sem Idealize.ShloMosaic.Pointwise

namespace Cert.Proof.Attention

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_scores := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_pre : Cert.quiescent_ReferenceIdeal_pre_finite_scores := fun m ρ _ => frame_ri m ρ trivial

/-- The mask's constant stands for minus infinity. -/
theorem preserves : Cert.preserves_Kernel_KernelIdeal :=
  IdealRules.named_const.statement Cert.KernelIdeal.κ "mask" .f32 0xF149F2CA#32 ⊥ rfl

/-- Kernel and reference, over the extended reals, end with equal results. -/
theorem algebraic : Cert.algebraic_KernelIdeal_ReferenceIdeal_pre_finite_scores := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  have H := Cert.Attn.holds_of_pre hpre c
  obtain ⟨e0, e1, e2, e3, e4⟩ := hagree c
  have H' : Cert.Ref.Holds m' c (Cert.Attn.coordsOf m c) :=
    { qn := fun b s h d => (congrFun e0 (ix4 b s h d)).trans (H.qn b s h d)
      qr := fun b s h d => (congrFun e1 (ix4 b s h d)).trans (H.qr b s h d)
      kn := fun b s h d => (congrFun e2 (ix4 b s h d)).trans (H.kn b s h d)
      kr := fun b s d => (congrFun e3 (ix3 b s d)).trans (H.kr b s d)
      v := fun b s h d => (congrFun e4 (ix4 b s h d)).trans (H.v b s h d) }
  refine Eq.trans ?_ (Cert.Attn.array_eq H).symm
  funext y
  obtain ⟨r, k, rfl⟩ : ∃ (r : Fin 16384) (k : Fin 512), y = ix2 r k := ⟨y 0, y 1, by ext e; fin_cases e <;> rfl⟩
  exact Cert.Ref.result_at H' r k

end Cert.Proof.Attention

end
-- ==== Proof.ExpertsRuns.lean ====
/- The grouped expert kernel's body, run along each of its four control paths: a used row tile at the first or the
   second half of the hidden width, and an unused row tile at either.  Each run says what the body leaves behind. -/
module

public import proofs.«01_k».proof.Defs
public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.ExpertsIdeal.Own

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' experts. -/
abbrev tbE : Memref sig .tc .smem S81 .i32 := Memref.whole main_arg1
/-- The table holding the number of used tiles. -/
abbrev tbN : Memref sig .tc .smem S1 .i32 := Memref.whole main_arg2
/-- The accumulator of a tile's output rows. -/
abbrev scA : Memref sig .tc .vmem S448x1024 .f32 := Memref.whole cc0_scratch0
/-- The tile's input rows, cast once. -/
abbrev scX : Memref sig .tc .vmem S448x1024 .bf16 := Memref.whole cc0_scratch1

/-- The word of the second table: how many row tiles are used. -/
abbrev word (T1 : S1.Idx → Elt F .i32) : BitVec 32 :=
  View.readAt (Elt F) (tbN).view (Rect.unit (s := S1) ![0] S1.size inb_S1_S1_0).toLoadRect T1 (Shape.Idx.first (numel1_S1.symm ▸ Nat.one_pos))

/-- Whether the body begins a used tile: it then copies the tile's rows and clears the accumulator. -/
abbrev begins (i : grid0.Coords) (v : BitVec 32) : Prop :=
  Scalar.cmpi .ne (Scalar.extui (Scalar.andi (Scalar.cmpi .slt (BitVec.ofNat 32 (i 0).val) v) (Scalar.cmpi .eq (BitVec.ofNat 32 (i 1).val) 0#32)) : BitVec 32) 0#32 = 1#1
/-- Whether the tile is used: the body then adds the half's share of the hidden width. -/
abbrev works (i : grid0.Coords) (v : BitVec 32) : Prop :=
  Scalar.cmpi .ne (Scalar.extui (Scalar.cmpi .slt (BitVec.ofNat 32 (i 0).val) v) : BitVec 32) 0#32 = 1#1
/-- Whether the body ends a used tile: it then stores the accumulator. -/
abbrev ends (i : grid0.Coords) (v : BitVec 32) : Prop := k0_cond3 i v = 1#1
/-- Whether the body ends an unused tile: it then stores zeros. -/
abbrev clears (i : grid0.Coords) (v : BitVec 32) : Prop := k0_cond4 i v = 1#1

section
variable (c : Dev nD) (i : grid0.Coords)
  (arg4 : Memref sig .tc .vmem S3584x128 .f32) (harg4 : arg4.IsWhole)
  (arg5 : Memref sig .tc .vmem S1x1024x1792 .bf16) (harg5 : arg5.IsWhole)
  (arg6 : Memref sig .tc .vmem S1x1024x1792 .bf16) (harg6 : arg6.IsWhole)
  (arg7 : Memref sig .tc .vmem S1x1792x1024 .bf16) (harg7 : arg7.IsWhole)
  (arg8 : Memref sig .tc .vmem S3584x128 .f32) (harg8 : arg8.IsWhole)
  (T0 : S81.Idx → Elt F .i32) (T1 : S1.Idx → Elt F .i32)
  (x0 : S3584x128.Idx → Elt F .f32) (x1 : S1x1024x1792.Idx → Elt F .bf16)
  (x2 : S1x1024x1792.Idx → Elt F .bf16) (x3 : S1x1792x1024.Idx → Elt F .bf16)

/-- What the body reads and gives back unchanged: the four input blocks and half of each table. -/
abbrev given : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (tbE.view.loc (c : Thread nD τ) ↦{fullShare.right} T0)
    ∗ (tbN.view.loc (c : Thread nD τ) ↦{fullShare.right} T1))

/-- The two scratch buffers at given contents. -/
abbrev scr (a0 : Buf (Elt F) ((c : Thread nD τ).loc cc0_scratch0)) (a1 : Buf (Elt F) ((c : Thread nD τ).loc cc0_scratch1)) : sProp 𝕄 :=
  iprop((scA.view.loc (c : Thread nD τ) ↦{fullShare} a0) ∗ (scX.view.loc (c : Thread nD τ) ↦{fullShare} a1))

/-- The body at a grid point, run from `pre` to a continuation that takes `post`. -/
abbrev runs (pre post : sProp 𝕄) : Prop :=
  ∀ K : PUnit → sProp 𝕄, iprop(pre ∗ (post -∗ K ⟨⟩)) ⊢ wp frame (wpE (defs₀ (F := F)) Variants.none c none) Set.univ
    (cc0_moe_ffn i tbE (Memref.isWhole_whole _) tbN (Memref.isWhole_whole _) arg4 harg4 arg5 harg5 arg6 harg6 arg7 harg7 arg8 harg8 scA (Memref.isWhole_whole _) scX (Memref.isWhole_whole _)) K

set_option backward.proofsInPublic true in
set_option maxHeartbeats 8000000 in
/-- A used tile, first half: the rows are copied, the accumulator cleared and the half added; the output block is not
    touched. -/
def runFirst (h1 : begins i (word T1)) (h2 : works i (word T1)) (h3 : ¬ends i (word T1)) (h4 : ¬clears i (word T1)) :
    Σ' (out0 : Buf (Elt F) ((c : Thread nD τ).loc cc0_scratch0)), { out1 : Buf (Elt F) ((c : Thread nD τ).loc cc0_scratch1) //
      ∀ (y : S3584x128.Idx → Elt F .f32) (xa0 : Buf (Elt F) ((c : Thread nD τ).loc cc0_scratch0)) (xa1 : Buf (Elt F) ((c : Thread nD τ).loc cc0_scratch1)),
        runs c i arg4 harg4 arg5 harg5 arg6 harg6 arg7 harg7 arg8 harg8
          iprop(given c arg4 arg5 arg6 arg7 T0 T1 x0 x1 x2 x3 ∗ owns (c : Thread nD τ) arg8 fullShare y ∗ scr c xa0 xa1)
          iprop(given c arg4 arg5 arg6 arg7 T0 T1 x0 x1 x2 x3 ∗ owns (c : Thread nD τ) arg8 fullShare y ∗ scr c out0 out1) } :=
  ⟨_, _, fun y xa0 xa1 K => by
    unfold owns
    rw [cc0_moe_ffn_eq_skeleton]; unfold cc0_moe_ffn_skel
    iintro ⟨⟨⟨H0, H1, H2, H3, HT0, HT1⟩, ⟨%f4, %hf4, HO4⟩, ⟨HS0, HS1⟩⟩, Hk⟩
    obtain rfl := harg8.eq_unread hf4
    have hS0 : scA.IsWhole := Memref.isWhole_whole _
    have hS1 : scX.IsWhole := Memref.isWhole_whole _
    have hT0 : tbE.IsWhole := Memref.isWhole_whole _
    have hT1 : tbN.IsWhole := Memref.isWhole_whole _
    sl_exec! (disch := first | (guard_target = Scalar.cmpi = _; exact h1) | (guard_target = Scalar.cmpi = _; exact h2) | (guard_target = ¬(k0_cond3 _ _ = _); exact h3) | (guard_target = ¬(k0_cond4 _ _ = _); exact h4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; · ipureintro; exact harg8.read_unread _
      iexact HO4
    isplitl [HS0]; · iexact HS0
    iexact HS1⟩

set_option backward.proofsInPublic true in
set_option maxHeartbeats 8000000 in
/-- A used tile, second half: the half is added and the accumulator stored, a band of columns to every eighth row. -/
def runLast (xa0 : Buf (Elt F) ((c : Thread nD τ).loc cc0_scratch0)) (xa1 : Buf (Elt F) ((c : Thread nD τ).loc cc0_scratch1)) (h1 : ¬begins i (word T1)) (h2 : works i (word T1)) (h3 : ends i (word T1)) (h4 : ¬clears i (word T1)) :
    Σ' (ps : List (View.Piece (Elt F) S3584x128 .f32)) (out0 : Buf (Elt F) ((c : Thread nD τ).loc cc0_scratch0)), { out1 : Buf (Elt F) ((c : Thread nD τ).loc cc0_scratch1) //
        runs c i arg4 harg4 arg5 harg5 arg6 harg6 arg7 harg7 arg8 harg8
          iprop(given c arg4 arg5 arg6 arg7 T0 T1 x0 x1 x2 x3 ∗ (∃ d, owns (c : Thread nD τ) arg8 fullShare d) ∗ scr c xa0 xa1)
          iprop(given c arg4 arg5 arg6 arg7 T0 T1 x0 x1 x2 x3 ∗ (∃ f, arg8.view.loc (c : Thread nD τ) ↦[arg8.view.set]{fullShare} arg8.view.writes (Elt F) f ps) ∗ scr c out0 out1) } :=
  ⟨_, _, _, fun K => by
    unfold owns
    rw [cc0_moe_ffn_eq_skeleton]; unfold cc0_moe_ffn_skel
    iintro ⟨⟨⟨H0, H1, H2, H3, HT0, HT1⟩, ⟨%d4, %f4, -, HO4⟩, ⟨HS0, HS1⟩⟩, Hk⟩
    have hS0 : scA.IsWhole := Memref.isWhole_whole _
    have hS1 : scX.IsWhole := Memref.isWhole_whole _
    have hT0 : tbE.IsWhole := Memref.isWhole_whole _
    have hT1 : tbN.IsWhole := Memref.isWhole_whole _
    sl_exec! (disch := first | (guard_target = ¬(Scalar.cmpi = _); exact h1) | (guard_target = Scalar.cmpi = _; exact h2) | (guard_target = k0_cond3 _ _ = _; exact h3) | (guard_target = ¬(k0_cond4 _ _ = _); exact h4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

set_option backward.proofsInPublic true in
set_option maxHeartbeats 8000000 in
/-- An unused tile, first half: nothing happens. -/
theorem runSkip (h1 : ¬begins i (word T1)) (h2 : ¬works i (word T1)) (h3 : ¬ends i (word T1)) (h4 : ¬clears i (word T1)) :
    ∀ (y : S3584x128.Idx → Elt F .f32) (xa0 : Buf (Elt F) ((c : Thread nD τ).loc cc0_scratch0)) (xa1 : Buf (Elt F) ((c : Thread nD τ).loc cc0_scratch1)),
        runs c i arg4 harg4 arg5 harg5 arg6 harg6 arg7 harg7 arg8 harg8
          iprop(given c arg4 arg5 arg6 arg7 T0 T1 x0 x1 x2 x3 ∗ owns (c : Thread nD τ) arg8 fullShare y ∗ scr c xa0 xa1)
          iprop(given c arg4 arg5 arg6 arg7 T0 T1 x0 x1 x2 x3 ∗ owns (c : Thread nD τ) arg8 fullShare y ∗ scr c xa0 xa1) :=
  fun y xa0 xa1 K => by
    unfold owns
    rw [cc0_moe_ffn_eq_skeleton]; unfold cc0_moe_ffn_skel
    iintro ⟨⟨⟨H0, H1, H2, H3, HT0, HT1⟩, ⟨%f4, %hf4, HO4⟩, ⟨HS0, HS1⟩⟩, Hk⟩
    obtain rfl := harg8.eq_unread hf4
    have hS0 : scA.IsWhole := Memref.isWhole_whole _
    have hS1 : scX.IsWhole := Memref.isWhole_whole _
    have hT0 : tbE.IsWhole := Memref.isWhole_whole _
    have hT1 : tbN.IsWhole := Memref.isWhole_whole _
    sl_exec! (disch := first | (guard_target = ¬(Scalar.cmpi = _); exact h1) | (guard_target = ¬(Scalar.cmpi = _); exact h2) | (guard_target = ¬(k0_cond3 _ _ = _); exact h3) | (guard_target = ¬(k0_cond4 _ _ = _); exact h4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; · ipureintro; exact harg8.read_unread _
      iexact HO4
    isplitl [HS0]; · iexact HS0
    iexact HS1

set_option backward.proofsInPublic true in
set_option maxHeartbeats 8000000 in
/-- An unused tile, second half: zeros are stored. -/
def runZero (xa0 : Buf (Elt F) ((c : Thread nD τ).loc cc0_scratch0)) (xa1 : Buf (Elt F) ((c : Thread nD τ).loc cc0_scratch1)) (h1 : ¬begins i (word T1)) (h2 : ¬works i (word T1)) (h3 : ¬ends i (word T1)) (h4 : clears i (word T1)) :
    Σ' (ps : List (View.Piece (Elt F) S3584x128 .f32)) (out0 : Buf (Elt F) ((c : Thread nD τ).loc cc0_scratch0)), { out1 : Buf (Elt F) ((c : Thread nD τ).loc cc0_scratch1) //
        runs c i arg4 harg4 arg5 harg5 arg6 harg6 arg7 harg7 arg8 harg8
          iprop(given c arg4 arg5 arg6 arg7 T0 T1 x0 x1 x2 x3 ∗ (∃ d, owns (c : Thread nD τ) arg8 fullShare d) ∗ scr c xa0 xa1)
          iprop(given c arg4 arg5 arg6 arg7 T0 T1 x0 x1 x2 x3 ∗ (∃ f, arg8.view.loc (c : Thread nD τ) ↦[arg8.view.set]{fullShare} arg8.view.writes (Elt F) f ps) ∗ scr c out0 out1) } :=
  ⟨_, _, _, fun K => by
    unfold owns
    rw [cc0_moe_ffn_eq_skeleton]; unfold cc0_moe_ffn_skel
    iintro ⟨⟨⟨H0, H1, H2, H3, HT0, HT1⟩, ⟨%d4, %f4, -, HO4⟩, ⟨HS0, HS1⟩⟩, Hk⟩
    have hS0 : scA.IsWhole := Memref.isWhole_whole _
    have hS1 : scX.IsWhole := Memref.isWhole_whole _
    have hT0 : tbE.IsWhole := Memref.isWhole_whole _
    have hT1 : tbN.IsWhole := Memref.isWhole_whole _
    sl_exec! (disch := first | (guard_target = ¬(Scalar.cmpi = _); exact h1) | (guard_target = ¬(Scalar.cmpi = _); exact h2) | (guard_target = ¬(k0_cond3 _ _ = _); exact h3) | (guard_target = k0_cond4 _ _ = _; exact h4))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

end

end Cert.ExpertsIdeal.Own

end
-- ==== Proof.ExpertsPoints.lean ====
/- The grid of the grouped expert kernel at given tables: which control path a point takes, which blocks its windows
   name, and that those blocks lie inside their arrays when the tables are in range. -/
module

public import proofs.«01_k».proof.Proof.ExpertsRuns

@[expose] public section

set_option maxRecDepth 16384
set_option Elab.async false

noncomputable section

namespace Cert.ExpertsIdeal.Own

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The tables -/

/-- The two tables as the launch takes them. -/
def tabs (E : S81.Idx → BitVec 32) (N : S1.Idx → BitVec 32) : pre0.Contents (Elt F) :=
  fun | ⟨0, _⟩ => E | ⟨1, _⟩ => N | ⟨_ + 2, h⟩ => absurd h (by simp)

/-- The only index of a one-element table. -/
abbrev one : S1.Idx := Shape.Idx.first (numel1_S1.symm ▸ Nat.one_pos)

/-- The place of tile `k` in the experts' table. -/
abbrev tile (k : ℕ) (h : k < 81) : S81.Idx := fun | ⟨0, _⟩ => ⟨k, h⟩

/-- The tables are in range: every expert is one of the eight, and at least one tile is used; a count that exceeds
    the tiles uses all of them. -/
structure Ranges (E : S81.Idx → BitVec 32) (N : S1.Idx → BitVec 32) : Prop where
  expert : ∀ x, (E x).toNat < 8
  pos : 1 ≤ (N one).toNat
  le : (N one).toNat ≤ 2147483647

theorem s1_eq (x y : S1.Idx) : x = y := by
  funext a
  have ha : S1.size a = 1 := by
    have := a.isLt
    match a with
    | ⟨0, _⟩ => rfl
  exact Fin.ext (by have := (x a).isLt; have := (y a).isLt; omega)

theorem tile_eq (x : S81.Idx) (k : ℕ) (h : k < 81) (hx : (x 0).val = k) : x = tile k h := by
  funext a
  match a with
  | ⟨0, _⟩ => exact Fin.ext hx

/-! ## The control path of a point -/

theorem slt_eq (a : ℕ) (v : BitVec 32) (ha : a < 81) (hv : v.toNat ≤ 2147483647) :
    Scalar.cmpi .slt (BitVec.ofNat 32 a) v = if a < v.toNat then 1#1 else 0#1 := by
  have h1 : (BitVec.ofNat 32 a).toInt = a := by
    rw [BitVec.toInt_eq_toNat_of_lt (by rw [BitVec.toNat_ofNat]; omega), BitVec.toNat_ofNat]; omega
  have h2 : v.toInt = v.toNat := BitVec.toInt_eq_toNat_of_lt (by omega)
  have h3 : (BitVec.ofNat 32 a).slt v = decide (a < v.toNat) := by
    rw [BitVec.slt, h1, h2]; simp
  by_cases h : a < v.toNat <;> simp [Scalar.cmpi, IntOp.cmpi, h3, h]

theorem eq_lit (a b : ℕ) (ha : a < 2) (hb : b < 2) :
    Scalar.cmpi .eq (BitVec.ofNat 32 a) (BitVec.ofNat 32 b) = if a = b then 1#1 else 0#1 := by
  interval_cases a <;> interval_cases b <;> decide

section
variable (i : grid0.Coords) (v : BitVec 32) (hv : v.toNat ≤ 2147483647)
include hv

theorem begins_iff : begins i v ↔ (i 0).val < v.toNat ∧ (i 1).val = 0 := by
  unfold begins
  rw [slt_eq _ _ (i 0).isLt hv, eq_lit _ 0 (i 1).isLt (by omega)]
  by_cases h : (i 0).val < v.toNat <;> by_cases h' : (i 1).val = 0 <;> simp only [h, h', if_true, if_false, and_true, true_and, and_false, false_and] <;> decide

theorem works_iff : works i v ↔ (i 0).val < v.toNat := by
  unfold works
  rw [slt_eq _ _ (i 0).isLt hv]
  by_cases h : (i 0).val < v.toNat <;> simp only [h, if_true, if_false] <;> decide

theorem ends_iff : ends i v ↔ (i 0).val < v.toNat ∧ (i 1).val = 1 := by
  unfold ends k0_cond3
  dsimp only
  rw [slt_eq _ _ (i 0).isLt hv, eq_lit _ 1 (i 1).isLt (by omega)]
  by_cases h : (i 0).val < v.toNat <;> by_cases h' : (i 1).val = 1 <;> simp only [h, h', if_true, if_false, and_true, true_and, and_false, false_and] <;> decide

theorem clears_iff : clears i v ↔ ¬(i 0).val < v.toNat ∧ (i 1).val = 1 := by
  unfold clears k0_cond4
  dsimp only
  rw [slt_eq _ _ (i 0).isLt hv, eq_lit _ 1 (i 1).isLt (by omega)]
  by_cases h : (i 0).val < v.toNat <;> by_cases h' : (i 1).val = 1 <;> simp only [h, h', if_true, if_false, and_true, true_and, and_false, false_and, not_true, not_false_iff] <;> decide
end

/-! ## The blocks the windows name -/

/-- The row tile whose inputs point `i` reads: its own, or the last used one. -/
def rowOf (n : ℕ) (i : grid0.Coords) : ℕ := if (i 0).val < n then (i 0).val else n - 1
/-- The half of the hidden width point `i` reads: its own, or the last one. -/
def halfOf (n : ℕ) (i : grid0.Coords) : ℕ := if (i 0).val < n then (i 1).val else 1

variable {E : S81.Idx → BitVec 32} {N : S1.Idx → BitVec 32}

theorem at_count (i : grid0.Coords) (h) : (tabs (F := F) E N).at 1 (Rect.unit (s := S1) ![0] S1.size h) numel1_S1 = N one :=
  congrArg N (s1_eq _ _)

theorem toNat_small (a : ℕ) (h : a < 81) : (BitVec.ofNat 32 a).toNat = a := by rw [BitVec.toNat_ofNat]; omega

theorem at_expert (i : grid0.Coords) (h) :
    (tabs (F := F) E N).at 0 (Rect.unit (s := S81) ![(Scalar.indexCast (BitVec.ofNat 32 (i 0).val) : Index).toNat] S1.size h) numel1_S1 = E (tile (i 0).val (i 0).isLt) := by
  refine congrArg E (tile_eq _ _ _ ?_)
  show (BitVec.ofNat 32 (i 0).val).toNat + 1 * 0 = _
  rw [toNat_small _ (i 0).isLt]; rfl

section
variable (R : Ranges E N) (i : grid0.Coords)
include R

theorem row_word : (Scalar.select (if (i 0).val < (N one).toNat then 1#1 else 0#1) (BitVec.ofNat 32 (i 0).val) (Scalar.subi (N one) 1#32) : BitVec 32).toNat = rowOf (N one).toNat i := by
  have h0 : (i 0).val < 81 := (i 0).isLt
  have h1 := R.pos; have h2 := R.le
  unfold rowOf Scalar.select Scalar.subi IntOp.subi
  by_cases h : (i 0).val < (N one).toNat
  · simp only [h, if_true]; exact toNat_small _ h0
  · simp only [h, if_false]
    rw [if_neg (by decide), BitVec.toNat_sub]; simp; omega

theorem half_word : (Scalar.select (if (i 0).val < (N one).toNat then 1#1 else 0#1) (BitVec.ofNat 32 (i 1).val) (1#32) : BitVec 32).toNat = halfOf (N one).toNat i := by
  have h0 : (i 1).val < 2 := (i 1).isLt
  unfold halfOf Scalar.select
  by_cases h : (i 0).val < (N one).toNat
  · simp only [h, if_true]; exact toNat_small _ (by omega)
  · simp only [h, if_false]
    rw [if_neg (by decide)]; rfl

theorem half_read : (Scalar.select (Scalar.cmpi .slt (BitVec.ofNat 32 (i 0).val) ((tabs (F := F) E N).at 1 (Rect.unit (s := S1) ![0] S1.size inb_S1_S1_0) numel1_S1)) (BitVec.ofNat 32 (i 1).val) (1#32) : BitVec 32).toNat = halfOf (N one).toNat i := by
  rw [at_count i, slt_eq _ _ (i 0).isLt R.le, half_word R i]

theorem index_rows : cc0_transform_0 inb_S1_S1_0 numel1_S1 (tabs (F := F) E N) i = ![rowOf (N one).toNat i, 0] := by
  unfold cc0_transform_0
  dsimp only
  rw [at_count i, slt_eq _ _ (i 0).isLt R.le, row_word R i]
  rfl

theorem index_gate : cc0_transform_1 k0_off1_inb numel1_S1 inb_S1_S1_0 (tabs (F := F) E N) i = ![(E (tile (i 0).val (i 0).isLt)).toNat, 0, halfOf (N one).toNat i] := by
  exact congrArg₂ (fun x y => ![x, 0, y]) (congrArg BitVec.toNat (at_expert i (k0_off1_inb i))) (half_read R i)

theorem index_up : cc0_transform_2 k0_off1_inb numel1_S1 inb_S1_S1_0 (tabs (F := F) E N) i = ![(E (tile (i 0).val (i 0).isLt)).toNat, 0, halfOf (N one).toNat i] := by
  exact congrArg₂ (fun x y => ![x, 0, y]) (congrArg BitVec.toNat (at_expert i (k0_off1_inb i))) (half_read R i)

theorem index_down : cc0_transform_3 k0_off1_inb numel1_S1 inb_S1_S1_0 (tabs (F := F) E N) i = ![(E (tile (i 0).val (i 0).isLt)).toNat, halfOf (N one).toNat i, 0] := by
  exact congrArg₂ (fun x y => ![x, y, 0]) (congrArg BitVec.toNat (at_expert i (k0_off1_inb i))) (half_read R i)

theorem rowOf_lt : rowOf (N one).toNat i < 81 := by
  have h0 : (i 0).val < 81 := (i 0).isLt
  have h1 := R.pos; have h2 := R.le
  unfold rowOf; split <;> omega

theorem halfOf_lt : halfOf (N one).toNat i < 2 := by
  have h0 : (i 1).val < 2 := (i 1).isLt
  unfold halfOf; split <;> omega

theorem ok : ok0 (F := F) (tabs E N) := by
  have hE := fun i : grid0.Coords => R.expert (tile (i 0).val (i 0).isLt)
  refine ⟨fun i => ⟨?_, .inl rfl⟩,
    fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · rw [index_rows R i]
    have := rowOf_lt R i
    intro a
    match a with
    | ⟨0, _⟩ => show (rowOf _ i + 1) * 3584 ≤ 290304; omega
    | ⟨1, _⟩ => show (0 + 1) * 128 ≤ 128; omega
  · rw [index_gate R i]
    have := halfOf_lt R i; have := hE i
    intro a
    match a with
    | ⟨0, _⟩ => show ((E _).toNat + 1) * 1 ≤ 8; omega
    | ⟨1, _⟩ => show (0 + 1) * 1024 ≤ 1024; omega
    | ⟨2, _⟩ => show (halfOf _ i + 1) * 1792 ≤ 3584; omega
  · rw [index_up R i]
    have := halfOf_lt R i; have := hE i
    intro a
    match a with
    | ⟨0, _⟩ => show ((E _).toNat + 1) * 1 ≤ 8; omega
    | ⟨1, _⟩ => show (0 + 1) * 1024 ≤ 1024; omega
    | ⟨2, _⟩ => show (halfOf _ i + 1) * 1792 ≤ 3584; omega
  · rw [index_down R i]
    have := halfOf_lt R i; have := hE i
    intro a
    match a with
    | ⟨0, _⟩ => show ((E _).toNat + 1) * 1 ≤ 8; omega
    | ⟨1, _⟩ => show (halfOf _ i + 1) * 1792 ≤ 3584; omega
    | ⟨2, _⟩ => show (0 + 1) * 1024 ≤ 1024; omega
end

/-! ## The pipeline at the tables -/

/-- The tables as contents the pipeline may run at. -/
def adm (R : Ranges E N) : (pcfg0 (F := F)).Adm := ⟨tabs E N, ok R⟩
/-- The pipeline at them. -/
abbrev cfgA (R : Ranges E N) : Pipeline.Cfg sig Λ₀ := cfg0 (F := F) (adm R)

/-- A point's two coordinates: its row tile and its half. -/
theorem coords_val (t : Fin grid0.N) : (grid0.coords t 0).val = t.val / 2 ∧ (grid0.coords t 1).val = t.val % 2 := by
  have h : ∀ t : Fin grid0.N, (grid0.coords t 0).val = t.val / 2 ∧ (grid0.coords t 1).val = t.val % 2 := by decide +kernel
  exact h t

theorem flush_out_eq : ∀ t : Fin grid0.N, Pipeline.Window.flushOf grid0 true cc0_transform_4 t = decide (t.val % 2 = 1) := by decide +kernel

/-- The output block is written back after the second half of each row tile. -/
theorem flush_out (R : Ranges E N) (t : Fin (cfgA (F := F) R).N) : ((cfgA (F := F) R).win (4 : Fin 5)).flush t = decide (t.val % 2 = 1) :=
  flush_out_eq t

theorem count_at : (tabs (F := F) E N).atD 1 ![0] = N one :=
  (dif_pos (show ∀ a, (![0] : Fin 1 → ℕ) a + 1 ≤ S1.size a by decide)).trans (congrArg N (s1_eq _ _))

/-- The body leaves the output block alone at the first half of each row tile only. -/
theorem idle_out (R : Ranges E N) (t : Fin (cfgA (F := F) R).N) :
    (cfgA (F := F) R).idle (4 : Fin 5) ((cfgA (F := F) R).grid.coords t) = decide (t.val % 2 = 0) := by
  show (!(k0_cond3 (grid0.coords t) ((tabs (F := F) E N).atD 1 ![0]) == 1#1) && !(k0_cond4 (grid0.coords t) ((tabs (F := F) E N).atD 1 ![0]) == 1#1)) = _
  rw [count_at]
  have h3 := ends_iff (grid0.coords t) (N one) R.le
  have h4 := clears_iff (grid0.coords t) (N one) R.le
  unfold ends at h3; unfold clears at h4
  rw [(coords_val t).1, (coords_val t).2] at h3 h4
  have ht : t.val % 2 < 2 := Nat.mod_lt _ (by omega)
  by_cases h : t.val % 2 = 0
  · have h3' : ¬k0_cond3 (grid0.coords t) (N one) = 1#1 := fun h' => by have := h3.1 h'; omega
    have h4' : ¬k0_cond4 (grid0.coords t) (N one) = 1#1 := fun h' => by have := h4.1 h'; omega
    simp [h, h3', h4']
  · have h1 : t.val % 2 = 1 := by omega
    by_cases hu : t.val / 2 < (N one).toNat
    · have h3' := h3.2 ⟨hu, h1⟩
      simp [h, h3']
    · have h4' := h4.2 ⟨hu, h1⟩
      simp [h, h4']

end Cert.ExpertsIdeal.Own

end
-- ==== Proof.ExpertsStored.lean ====
/- What the grouped expert kernel's body leaves, in closed form: the tile's rows as the first half keeps them, the
   accumulator after one half and after both, and the output block, whose row `8 r + s` is the band of 128 columns
   from `128 s` of the accumulator's row `r`. -/
module

public import proofs.«01_k».proof.Proof.ExpertsRuns
public import Idealize.ShloMosaic.Lib.VecWindow
public import Idealize.ShloMosaic.Lib.Pointwise.Index
public import Idealize.ShloMosaic.Lib.ValueLayout
public import Idealize.ShloMosaic.Lib.Pipeline.ValueKit

@[expose] public section

set_option maxRecDepth 16384
set_option Elab.async false

noncomputable section

namespace Cert.ExpertsIdeal.Own

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Every eighth row of the input block from row `s` on, as the body loads it. -/
abbrev rowsFrom (x0 : S3584x128.Idx → Elt F .f32) (B : LoadRect S3584x128) : B.shape.Idx → Elt F .f32 := fun y => x0 (B.idx y)

/-- The tile's rows, put together from the eight bands and cast. -/
def rows (x0 : S3584x128.Idx → Elt F .f32) : FVec F S448x1024 .bf16 :=
  k0_pay1 (rowsFrom x0 (⟨![0, 0], S448x128.size, ![8, 1], inb_S3584x128_S448x128_0_0_s_8_1⟩ : LoadRect S3584x128)) (rowsFrom x0 (⟨![1, 0], S448x128.size, ![8, 1], inb_S3584x128_S448x128_1_0_s_8_1⟩ : LoadRect S3584x128)) (rowsFrom x0 (⟨![2, 0], S448x128.size, ![8, 1], inb_S3584x128_S448x128_2_0_s_8_1⟩ : LoadRect S3584x128)) (rowsFrom x0 (⟨![3, 0], S448x128.size, ![8, 1], inb_S3584x128_S448x128_3_0_s_8_1⟩ : LoadRect S3584x128)) (rowsFrom x0 (⟨![4, 0], S448x128.size, ![8, 1], inb_S3584x128_S448x128_4_0_s_8_1⟩ : LoadRect S3584x128)) (rowsFrom x0 (⟨![5, 0], S448x128.size, ![8, 1], inb_S3584x128_S448x128_5_0_s_8_1⟩ : LoadRect S3584x128)) (rowsFrom x0 (⟨![6, 0], S448x128.size, ![8, 1], inb_S3584x128_S448x128_6_0_s_8_1⟩ : LoadRect S3584x128)) (rowsFrom x0 (⟨![7, 0], S448x128.size, ![8, 1], inb_S3584x128_S448x128_7_0_s_8_1⟩ : LoadRect S3584x128))

/-- The accumulator after the first half. -/
def accOne (x0 : S3584x128.Idx → Elt F .f32) (x1 x2 : S1x1024x1792.Idx → Elt F .bf16) (x3 : S1x1792x1024.Idx → Elt F .bf16) :
    FVec F S448x1024 .f32 :=
  k0_pay3 (rows x0) x1 x2 k0_pay2 x3

/-- The output block of an accumulator. -/
def spread (a : FVec F S448x1024 .f32) : FVec F S3584x128 .f32 :=
  fun y => a (ix2 (n0 := 448) (n1 := 1024) ⟨(y 0).val / 8, by have h : (y 0).val < 3584 := (y 0).isLt; show _ < 448; omega⟩
    ⟨(y 0).val % 8 * 128 + (y 1).val, by have h : (y 1).val < 128 := (y 1).isLt; show _ < 1024; omega⟩)

/-- The stores of an accumulator, the last first. -/
def bands (a : FVec F S448x1024 .f32) : List (View.Piece (Elt F) S3584x128 .f32) :=
  [⟨⟨(⟨![7, 0], S448x128.size, ![8, 1], inb_S3584x128_S448x128_7_0_s_8_1⟩ : LoadRect S3584x128), spos_8_1⟩, k0_pay11 a⟩,
    ⟨⟨(⟨![6, 0], S448x128.size, ![8, 1], inb_S3584x128_S448x128_6_0_s_8_1⟩ : LoadRect S3584x128), spos_8_1⟩, k0_pay10 a⟩,
    ⟨⟨(⟨![5, 0], S448x128.size, ![8, 1], inb_S3584x128_S448x128_5_0_s_8_1⟩ : LoadRect S3584x128), spos_8_1⟩, k0_pay9 a⟩,
    ⟨⟨(⟨![4, 0], S448x128.size, ![8, 1], inb_S3584x128_S448x128_4_0_s_8_1⟩ : LoadRect S3584x128), spos_8_1⟩, k0_pay8 a⟩,
    ⟨⟨(⟨![3, 0], S448x128.size, ![8, 1], inb_S3584x128_S448x128_3_0_s_8_1⟩ : LoadRect S3584x128), spos_8_1⟩, k0_pay7 a⟩,
    ⟨⟨(⟨![2, 0], S448x128.size, ![8, 1], inb_S3584x128_S448x128_2_0_s_8_1⟩ : LoadRect S3584x128), spos_8_1⟩, k0_pay6 a⟩,
    ⟨⟨(⟨![1, 0], S448x128.size, ![8, 1], inb_S3584x128_S448x128_1_0_s_8_1⟩ : LoadRect S3584x128), spos_8_1⟩, k0_pay5 a⟩,
    ⟨⟨(⟨![0, 0], S448x128.size, ![8, 1], inb_S3584x128_S448x128_0_0_s_8_1⟩ : LoadRect S3584x128), spos_8_1⟩, k0_pay4 a⟩]

theorem band0 (a : FVec F S448x1024 .f32) : ∀ x : S448x128.Idx,
    k0_pay4 a x = spread a ((⟨(⟨![0, 0], S448x128.size, ![8, 1], inb_S3584x128_S448x128_0_0_s_8_1⟩ : LoadRect S3584x128), spos_8_1⟩ : Rect S3584x128).emb x) := fun x => by
  have h0 : (x 0).val < 448 := (x 0).isLt
  refine congrArg a (funext fun b => Fin.ext ?_)
  fin_cases b
  · show 0 + (x 0).val = (0 + 8 * (x 0).val) / 8
    omega
  · show 0 + (x 1).val = (0 + 8 * (x 0).val) % 8 * 128 + (0 + 1 * (x 1).val)
    omega

theorem band1 (a : FVec F S448x1024 .f32) : ∀ x : S448x128.Idx,
    k0_pay5 a x = spread a ((⟨(⟨![1, 0], S448x128.size, ![8, 1], inb_S3584x128_S448x128_1_0_s_8_1⟩ : LoadRect S3584x128), spos_8_1⟩ : Rect S3584x128).emb x) := fun x => by
  have h0 : (x 0).val < 448 := (x 0).isLt
  refine congrArg a (funext fun b => Fin.ext ?_)
  fin_cases b
  · show 0 + (x 0).val = (1 + 8 * (x 0).val) / 8
    omega
  · show 128 + (x 1).val = (1 + 8 * (x 0).val) % 8 * 128 + (0 + 1 * (x 1).val)
    omega

theorem band2 (a : FVec F S448x1024 .f32) : ∀ x : S448x128.Idx,
    k0_pay6 a x = spread a ((⟨(⟨![2, 0], S448x128.size, ![8, 1], inb_S3584x128_S448x128_2_0_s_8_1⟩ : LoadRect S3584x128), spos_8_1⟩ : Rect S3584x128).emb x) := fun x => by
  have h0 : (x 0).val < 448 := (x 0).isLt
  refine congrArg a (funext fun b => Fin.ext ?_)
  fin_cases b
  · show 0 + (x 0).val = (2 + 8 * (x 0).val) / 8
    omega
  · show 256 + (x 1).val = (2 + 8 * (x 0).val) % 8 * 128 + (0 + 1 * (x 1).val)
    omega

theorem band3 (a : FVec F S448x1024 .f32) : ∀ x : S448x128.Idx,
    k0_pay7 a x = spread a ((⟨(⟨![3, 0], S448x128.size, ![8, 1], inb_S3584x128_S448x128_3_0_s_8_1⟩ : LoadRect S3584x128), spos_8_1⟩ : Rect S3584x128).emb x) := fun x => by
  have h0 : (x 0).val < 448 := (x 0).isLt
  refine congrArg a (funext fun b => Fin.ext ?_)
  fin_cases b
  · show 0 + (x 0).val = (3 + 8 * (x 0).val) / 8
    omega
  · show 384 + (x 1).val = (3 + 8 * (x 0).val) % 8 * 128 + (0 + 1 * (x 1).val)
    omega

theorem band4 (a : FVec F S448x1024 .f32) : ∀ x : S448x128.Idx,
    k0_pay8 a x = spread a ((⟨(⟨![4, 0], S448x128.size, ![8, 1], inb_S3584x128_S448x128_4_0_s_8_1⟩ : LoadRect S3584x128), spos_8_1⟩ : Rect S3584x128).emb x) := fun x => by
  have h0 : (x 0).val < 448 := (x 0).isLt
  refine congrArg a (funext fun b => Fin.ext ?_)
  fin_cases b
  · show 0 + (x 0).val = (4 + 8 * (x 0).val) / 8
    omega
  · show 512 + (x 1).val = (4 + 8 * (x 0).val) % 8 * 128 + (0 + 1 * (x 1).val)
    omega

theorem band5 (a : FVec F S448x1024 .f32) : ∀ x : S448x128.Idx,
    k0_pay9 a x = spread a ((⟨(⟨![5, 0], S448x128.size, ![8, 1], inb_S3584x128_S448x128_5_0_s_8_1⟩ : LoadRect S3584x128), spos_8_1⟩ : Rect S3584x128).emb x) := fun x => by
  have h0 : (x 0).val < 448 := (x 0).isLt
  refine congrArg a (funext fun b => Fin.ext ?_)
  fin_cases b
  · show 0 + (x 0).val = (5 + 8 * (x 0).val) / 8
    omega
  · show 640 + (x 1).val = (5 + 8 * (x 0).val) % 8 * 128 + (0 + 1 * (x 1).val)
    omega

theorem band6 (a : FVec F S448x1024 .f32) : ∀ x : S448x128.Idx,
    k0_pay10 a x = spread a ((⟨(⟨![6, 0], S448x128.size, ![8, 1], inb_S3584x128_S448x128_6_0_s_8_1⟩ : LoadRect S3584x128), spos_8_1⟩ : Rect S3584x128).emb x) := fun x => by
  have h0 : (x 0).val < 448 := (x 0).isLt
  refine congrArg a (funext fun b => Fin.ext ?_)
  fin_cases b
  · show 0 + (x 0).val = (6 + 8 * (x 0).val) / 8
    omega
  · show 768 + (x 1).val = (6 + 8 * (x 0).val) % 8 * 128 + (0 + 1 * (x 1).val)
    omega

theorem band7 (a : FVec F S448x1024 .f32) : ∀ x : S448x128.Idx,
    k0_pay11 a x = spread a ((⟨(⟨![7, 0], S448x128.size, ![8, 1], inb_S3584x128_S448x128_7_0_s_8_1⟩ : LoadRect S3584x128), spos_8_1⟩ : Rect S3584x128).emb x) := fun x => by
  have h0 : (x 0).val < 448 := (x 0).isLt
  refine congrArg a (funext fun b => Fin.ext ?_)
  fin_cases b
  · show 0 + (x 0).val = (7 + 8 * (x 0).val) / 8
    omega
  · show 896 + (x 1).val = (7 + 8 * (x 0).val) % 8 * 128 + (0 + 1 * (x 1).val)
    omega

/-- What the stores of an accumulator leave, whatever the block held. -/
theorem read_bands {sig : RefSig} {κ : Kind} {sp : Space} (v : View sig κ sp S3584x128 .f32) (f : v.ty.Contents (Elt F)) (a : FVec F S448x1024 .f32) :
    v.read (Elt F) (v.writes (Elt F) f (bands a)) = spread a := by
  funext y
  refine View.read_writes_apply_of_pieces v f (spread a) (bands a) ?_ y ?_
  · intro p hp
    simp only [bands, List.mem_cons, List.not_mem_nil, _root_.or_false] at hp
    rcases hp with rfl | rfl | rfl | rfl | rfl | rfl | rfl | rfl
    · exact band7 a
    · exact band6 a
    · exact band5 a
    · exact band4 a
    · exact band3 a
    · exact band2 a
    · exact band1 a
    · exact band0 a
  · have h0 : (y 0).val < 3584 := (y 0).isLt
    have h1 : (y 1).val < 128 := (y 1).isLt
    have hm : (y 0).val % 8 < 8 := Nat.mod_lt _ (by omega)
    have hc : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    have key : ∀ (r : Rect S3584x128) (w : r.shape.Idx → Elt F .f32), (⟨r, w⟩ : View.Piece (Elt F) S3584x128 .f32) ∈ bands a → (∃ x, r.emb x = y) → ∃ p ∈ bands a, y ∈ p.1.set := by
      rintro r w hr ⟨x, rfl⟩
      exact ⟨_, hr, by rw [← Rect.map_emb_univ]; exact Finset.mem_map_of_mem _ (Finset.mem_univ x)⟩
    rcases hc with h | h | h | h | h | h | h | h
    · refine key _ _ (show (⟨⟨(⟨![0, 0], S448x128.size, ![8, 1], inb_S3584x128_S448x128_0_0_s_8_1⟩ : LoadRect S3584x128), spos_8_1⟩, k0_pay4 a⟩ : View.Piece (Elt F) S3584x128 .f32) ∈ bands a by simp [bands])
        ⟨ix2 (n0 := 448) (n1 := 128) ⟨(y 0).val / 8, by show _ < 448; omega⟩ ⟨(y 1).val, h1⟩, funext fun b => Fin.ext ?_⟩
      fin_cases b
      · show 0 + 8 * ((y 0).val / 8) = (y 0).val
        omega
      · show 0 + 1 * (y 1).val = (y 1).val
        omega
    · refine key _ _ (show (⟨⟨(⟨![1, 0], S448x128.size, ![8, 1], inb_S3584x128_S448x128_1_0_s_8_1⟩ : LoadRect S3584x128), spos_8_1⟩, k0_pay5 a⟩ : View.Piece (Elt F) S3584x128 .f32) ∈ bands a by simp [bands])
        ⟨ix2 (n0 := 448) (n1 := 128) ⟨(y 0).val / 8, by show _ < 448; omega⟩ ⟨(y 1).val, h1⟩, funext fun b => Fin.ext ?_⟩
      fin_cases b
      · show 1 + 8 * ((y 0).val / 8) = (y 0).val
        omega
      · show 0 + 1 * (y 1).val = (y 1).val
        omega
    · refine key _ _ (show (⟨⟨(⟨![2, 0], S448x128.size, ![8, 1], inb_S3584x128_S448x128_2_0_s_8_1⟩ : LoadRect S3584x128), spos_8_1⟩, k0_pay6 a⟩ : View.Piece (Elt F) S3584x128 .f32) ∈ bands a by simp [bands])
        ⟨ix2 (n0 := 448) (n1 := 128) ⟨(y 0).val / 8, by show _ < 448; omega⟩ ⟨(y 1).val, h1⟩, funext fun b => Fin.ext ?_⟩
      fin_cases b
      · show 2 + 8 * ((y 0).val / 8) = (y 0).val
        omega
      · show 0 + 1 * (y 1).val = (y 1).val
        omega
    · refine key _ _ (show (⟨⟨(⟨![3, 0], S448x128.size, ![8, 1], inb_S3584x128_S448x128_3_0_s_8_1⟩ : LoadRect S3584x128), spos_8_1⟩, k0_pay7 a⟩ : View.Piece (Elt F) S3584x128 .f32) ∈ bands a by simp [bands])
        ⟨ix2 (n0 := 448) (n1 := 128) ⟨(y 0).val / 8, by show _ < 448; omega⟩ ⟨(y 1).val, h1⟩, funext fun b => Fin.ext ?_⟩
      fin_cases b
      · show 3 + 8 * ((y 0).val / 8) = (y 0).val
        omega
      · show 0 + 1 * (y 1).val = (y 1).val
        omega
    · refine key _ _ (show (⟨⟨(⟨![4, 0], S448x128.size, ![8, 1], inb_S3584x128_S448x128_4_0_s_8_1⟩ : LoadRect S3584x128), spos_8_1⟩, k0_pay8 a⟩ : View.Piece (Elt F) S3584x128 .f32) ∈ bands a by simp [bands])
        ⟨ix2 (n0 := 448) (n1 := 128) ⟨(y 0).val / 8, by show _ < 448; omega⟩ ⟨(y 1).val, h1⟩, funext fun b => Fin.ext ?_⟩
      fin_cases b
      · show 4 + 8 * ((y 0).val / 8) = (y 0).val
        omega
      · show 0 + 1 * (y 1).val = (y 1).val
        omega
    · refine key _ _ (show (⟨⟨(⟨![5, 0], S448x128.size, ![8, 1], inb_S3584x128_S448x128_5_0_s_8_1⟩ : LoadRect S3584x128), spos_8_1⟩, k0_pay9 a⟩ : View.Piece (Elt F) S3584x128 .f32) ∈ bands a by simp [bands])
        ⟨ix2 (n0 := 448) (n1 := 128) ⟨(y 0).val / 8, by show _ < 448; omega⟩ ⟨(y 1).val, h1⟩, funext fun b => Fin.ext ?_⟩
      fin_cases b
      · show 5 + 8 * ((y 0).val / 8) = (y 0).val
        omega
      · show 0 + 1 * (y 1).val = (y 1).val
        omega
    · refine key _ _ (show (⟨⟨(⟨![6, 0], S448x128.size, ![8, 1], inb_S3584x128_S448x128_6_0_s_8_1⟩ : LoadRect S3584x128), spos_8_1⟩, k0_pay10 a⟩ : View.Piece (Elt F) S3584x128 .f32) ∈ bands a by simp [bands])
        ⟨ix2 (n0 := 448) (n1 := 128) ⟨(y 0).val / 8, by show _ < 448; omega⟩ ⟨(y 1).val, h1⟩, funext fun b => Fin.ext ?_⟩
      fin_cases b
      · show 6 + 8 * ((y 0).val / 8) = (y 0).val
        omega
      · show 0 + 1 * (y 1).val = (y 1).val
        omega
    · refine key _ _ (show (⟨⟨(⟨![7, 0], S448x128.size, ![8, 1], inb_S3584x128_S448x128_7_0_s_8_1⟩ : LoadRect S3584x128), spos_8_1⟩, k0_pay11 a⟩ : View.Piece (Elt F) S3584x128 .f32) ∈ bands a by simp [bands])
        ⟨ix2 (n0 := 448) (n1 := 128) ⟨(y 0).val / 8, by show _ < 448; omega⟩ ⟨(y 1).val, h1⟩, funext fun b => Fin.ext ?_⟩
      fin_cases b
      · show 7 + 8 * ((y 0).val / 8) = (y 0).val
        omega
      · show 0 + 1 * (y 1).val = (y 1).val
        omega

section
variable (c : Dev nD) (i : grid0.Coords)
  (arg4 : Memref sig .tc .vmem S3584x128 .f32) (harg4 : arg4.IsWhole)
  (arg5 : Memref sig .tc .vmem S1x1024x1792 .bf16) (harg5 : arg5.IsWhole)
  (arg6 : Memref sig .tc .vmem S1x1024x1792 .bf16) (harg6 : arg6.IsWhole)
  (arg7 : Memref sig .tc .vmem S1x1792x1024 .bf16) (harg7 : arg7.IsWhole)
  (arg8 : Memref sig .tc .vmem S3584x128 .f32) (harg8 : arg8.IsWhole)
  (T0 : S81.Idx → Elt F .i32) (T1 : S1.Idx → Elt F .i32)
  (x0 : S3584x128.Idx → Elt F .f32) (x1 : S1x1024x1792.Idx → Elt F .bf16)
  (x2 : S1x1024x1792.Idx → Elt F .bf16) (x3 : S1x1792x1024.Idx → Elt F .bf16)

theorem first_copy : runFirst.sl.v16 arg4 x0 = rows x0 := by
  refine (View.readCov_full _ inb_S448x1024_S448x1024_0_0 inb_S448x1024_S448x1024_0_0 _ _).trans ?_
  unfold rows rowsFrom
  simp only [View.readAt_rep]

theorem first_zero : runFirst.sl.v23 (F := F) = k0_pay2 :=
  View.readCov_full _ inb_S448x1024_S448x1024_0_0 inb_S448x1024_S448x1024_0_0 _ _

/-- A store of the whole accumulator leaves its payload. -/
theorem whole_acc (f : (View.whole cc0_scratch0).ty.Contents (Elt F)) (w : S448x1024.Idx → Elt F .f32) (L : List (View.Piece (Elt F) S448x1024 .f32)) :
    (View.whole cc0_scratch0).writes (Elt F) f (⟨Rect.unit ![0, 0] S448x1024.size inb_S448x1024_S448x1024_0_0, w⟩ :: L) = w :=
  (View.read_whole _ _).symm.trans (View.read_writes_full (View.whole cc0_scratch0) f inb_S448x1024_S448x1024_0_0 w L)

/-- A store of all the tile's rows leaves its payload. -/
theorem whole_rows (f : (View.whole cc0_scratch1).ty.Contents (Elt F)) (w : S448x1024.Idx → Elt F .bf16) (L : List (View.Piece (Elt F) S448x1024 .bf16)) :
    (View.whole cc0_scratch1).writes (Elt F) f (⟨Rect.unit ![0, 0] S448x1024.size inb_S448x1024_S448x1024_0_0, w⟩ :: L) = w :=
  (View.read_whole _ _).symm.trans (View.read_writes_full (View.whole cc0_scratch1) f inb_S448x1024_S448x1024_0_0 w L)

set_option maxHeartbeats 2000000 in
theorem first_rows (h1 : begins i (word T1)) (h2 : works i (word T1)) (h3 : ¬ends i (word T1)) (h4 : ¬clears i (word T1)) :
    (runFirst c i arg4 harg4 arg5 harg5 arg6 harg6 arg7 harg7 arg8 harg8 T0 T1 x0 x1 x2 x3 h1 h2 h3 h4).2.1 = rows x0 := by
  unfold runFirst
  dsimp only
  unfold runFirst.sl.HS1_1
  refine (whole_rows _ _ _).trans ?_
  unfold rows rowsFrom
  simp only [View.readAt_rep]

set_option maxHeartbeats 2000000 in
theorem first_acc (h1 : begins i (word T1)) (h2 : works i (word T1)) (h3 : ¬ends i (word T1)) (h4 : ¬clears i (word T1)) :
    (runFirst c i arg4 harg4 arg5 harg5 arg6 harg6 arg7 harg7 arg8 harg8 T0 T1 x0 x1 x2 x3 h1 h2 h3 h4).1 = accOne x0 x1 x2 x3 := by
  unfold runFirst
  dsimp only
  unfold runFirst.sl.HS0_2
  refine (whole_acc _ _ _).trans ?_
  unfold accOne
  congr 1
  · exact first_copy arg4 x0
  · exact View.readAt_rep_full _ _ _
  · exact View.readAt_rep_full _ _ _
  · exact first_zero
  · exact View.readAt_rep_full _ _ _

theorem last_stored (a0 : Buf (Elt F) ((c : Thread nD τ).loc cc0_scratch0)) (a1 : Buf (Elt F) ((c : Thread nD τ).loc cc0_scratch1))
    (h1 : ¬begins i (word T1)) (h2 : works i (word T1)) (h3 : ends i (word T1)) (h4 : ¬clears i (word T1)) :
    (runLast c i arg4 harg4 arg5 harg5 arg6 harg6 arg7 harg7 arg8 harg8 T0 T1 x0 x1 x2 x3 a0 a1 h1 h2 h3 h4).1 = bands (k0_pay3 a1 x1 x2 a0 x3) := by
  have e : runLast.sl.v16 c arg5 arg6 arg7 x1 x2 x3 a0 a1 = k0_pay3 a1 x1 x2 a0 x3 := by
    refine (View.readCov_full _ inb_S448x1024_S448x1024_0_0 inb_S448x1024_S448x1024_0_0 _ _).trans ?_
    congr 1
    · funext y
      exact congrArg a1 (funext fun a => Fin.ext (by fin_cases a <;> exact (Nat.zero_add _).trans (Nat.one_mul _)))
    · exact View.readAt_rep_full _ _ _
    · exact View.readAt_rep_full _ _ _
    · funext y
      exact congrArg a0 (funext fun a => Fin.ext (by fin_cases a <;> exact (Nat.zero_add _).trans (Nat.one_mul _)))
    · exact View.readAt_rep_full _ _ _
  unfold runLast
  dsimp only
  rw [e]
  rfl

/-- The zeros that an unused tile's block is given. -/
theorem zero_stored {sig' : RefSig} {κ : Kind} {sp : Space} (v : View sig' κ sp S3584x128 .f32) (f : v.ty.Contents (Elt F)) (a0 : Buf (Elt F) ((c : Thread nD τ).loc cc0_scratch0)) (a1 : Buf (Elt F) ((c : Thread nD τ).loc cc0_scratch1))
    (h1 : ¬begins i (word T1)) (h2 : ¬works i (word T1)) (h3 : ¬ends i (word T1)) (h4 : clears i (word T1)) :
    v.read (Elt F) (v.writes (Elt F) f (runZero c i arg4 harg4 arg5 harg5 arg6 harg6 arg7 harg7 arg8 harg8 T0 T1 x0 x1 x2 x3 a0 a1 h1 h2 h3 h4).1) = k0_pay12 := by
  unfold runZero
  exact View.read_writes_full v f inb_S3584x128_S3584x128_0_0 _ _

end

end Cert.ExpertsIdeal.Own

end
-- ==== Proof.ExpertsFrame.lean ====
/- The grouped expert kernel run from any memory whose two tables are in range: it terminates, faults nowhere, leaves every
   argument as it was, and each pair of grid points leaves the output block of one row tile. -/
module

public import proofs.«01_k».proof.Proof.ExpertsPoints
public import proofs.«01_k».proof.Proof.ExpertsStored
public import Idealize.ShloMosaic.Lib.Pipeline.Quiescent
public import Idealize.ShloMosaic.Lib.Claim

@[expose] public section

set_option maxRecDepth 16384
set_option Elab.async false

noncomputable section

namespace Cert.ExpertsIdeal.Own

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

variable {E : S81.Idx → BitVec 32} {N : S1.Idx → BitVec 32} (R : Ranges E N)
variable (m : (ℓ : Loc nD τ sig) → Buf (Elt F) ℓ) (ρ : Dev nD → PrngReg)

/-- The two tables are what every device was launched with. -/
abbrev Held (E : S81.Idx → BitVec 32) (N : S1.Idx → BitVec 32) (m : (ℓ : Loc nD τ sig) → Buf (Elt F) ℓ) : Prop :=
  (∀ c : Dev nD, m ((c : Thread nD τ).loc main_arg1) = E) ∧ ∀ c : Dev nD, m ((c : Thread nD τ).loc main_arg2) = N

/-- The pipeline at the tables. -/
abbrev pcs : Fin 1 → Pipeline.Cfg sig Λ₀ := Pipeline.pin (pcfgs (F := F)) fun _ => adm R

/-- A point's coordinates. -/
abbrev crd (t : Fin (cfgA (F := F) R).N) : (cfgA (F := F) R).grid.Coords := (cfgA (F := F) R).grid.coords t

/-- The staging memref of each window at a point, and that it is a whole buffer. -/
abbrev ms0 (t : Fin (cfgA (F := F) R).N) : Memref sig .tc .vmem S3584x128 .f32 := spec0_0.stage ((cfgA (F := F) R).slots t (0 : Fin 5))
abbrev hs0 (t : Fin (cfgA (F := F) R).N) : (ms0 R t).IsWhole := hstage0_0 (((cfgA (F := F) R).slots t (0 : Fin 5)).cast nbuf0_0)
abbrev ms1 (t : Fin (cfgA (F := F) R).N) : Memref sig .tc .vmem S1x1024x1792 .bf16 := spec0_1.stage ((cfgA (F := F) R).slots t (1 : Fin 5))
abbrev hs1 (t : Fin (cfgA (F := F) R).N) : (ms1 R t).IsWhole := hstage0_1 (((cfgA (F := F) R).slots t (1 : Fin 5)).cast nbuf0_1)
abbrev ms2 (t : Fin (cfgA (F := F) R).N) : Memref sig .tc .vmem S1x1024x1792 .bf16 := spec0_2.stage ((cfgA (F := F) R).slots t (2 : Fin 5))
abbrev hs2 (t : Fin (cfgA (F := F) R).N) : (ms2 R t).IsWhole := hstage0_2 (((cfgA (F := F) R).slots t (2 : Fin 5)).cast nbuf0_2)
abbrev ms3 (t : Fin (cfgA (F := F) R).N) : Memref sig .tc .vmem S1x1792x1024 .bf16 := spec0_3.stage ((cfgA (F := F) R).slots t (3 : Fin 5))
abbrev hs3 (t : Fin (cfgA (F := F) R).N) : (ms3 R t).IsWhole := hstage0_3 (((cfgA (F := F) R).slots t (3 : Fin 5)).cast nbuf0_3)
abbrev ms4 (t : Fin (cfgA (F := F) R).N) : Memref sig .tc .vmem S3584x128 .f32 := spec0_4.stage ((cfgA (F := F) R).slots t (4 : Fin 5))
abbrev hs4 (t : Fin (cfgA (F := F) R).N) : (ms4 R t).IsWhole := hstage0_4 (((cfgA (F := F) R).slots t (4 : Fin 5)).cast nbuf0_4)

/-- A window's block at a point, read off its array at launch. -/
def iblk (c : Dev nD) (w : Fin (cfgA (F := F) R).W) (t : Fin (cfgA (F := F) R).N) : (((cfgA (F := F) R).win w).xblock (crd R t)).Idx → Elt F ((cfgA (F := F) R).win w).elt :=
  (((cfgA (F := F) R).win w).blk t).view.read (Elt F) (m (((cfgA (F := F) R).win w).arr.view.loc (c : Thread nD τ)))

/-! ## The control path of a point -/

theorem word_eq : word (F := F) N = N one := congrArg N (s1_eq _ _)

theorem begins_at (t : Fin (cfgA (F := F) R).N) : begins (crd R t) (word (F := F) N) ↔ t.val / 2 < (N one).toNat ∧ t.val % 2 = 0 := by
  rw [word_eq, ← (coords_val t).1, ← (coords_val t).2]; exact begins_iff _ _ R.le
theorem works_at (t : Fin (cfgA (F := F) R).N) : works (crd R t) (word (F := F) N) ↔ t.val / 2 < (N one).toNat := by
  rw [word_eq, ← (coords_val t).1]; exact works_iff _ _ R.le
theorem ends_at (t : Fin (cfgA (F := F) R).N) : ends (crd R t) (word (F := F) N) ↔ t.val / 2 < (N one).toNat ∧ t.val % 2 = 1 := by
  rw [word_eq, ← (coords_val t).1, ← (coords_val t).2]; exact ends_iff _ _ R.le
theorem clears_at (t : Fin (cfgA (F := F) R).N) : clears (crd R t) (word (F := F) N) ↔ ¬ t.val / 2 < (N one).toNat ∧ t.val % 2 = 1 := by
  rw [word_eq, ← (coords_val t).1, ← (coords_val t).2]; exact clears_iff _ _ R.le

/-! ## What the points leave -/

/-- The accumulator that the first half of a used tile leaves. -/
def accAt (c : Dev nD) (t : Fin (cfgA (F := F) R).N) : FVec F S448x1024 .f32 :=
  accOne (iblk R m c (0 : Fin 5) t) (iblk R m c (1 : Fin 5) t) (iblk R m c (2 : Fin 5) t) (iblk R m c (3 : Fin 5) t)

/-- The tile's rows that it keeps. -/
def rowsAt (c : Dev nD) (t : Fin (cfgA (F := F) R).N) : FVec F S448x1024 .bf16 := rows (iblk R m c (0 : Fin 5) t)

/-- The point before. -/
abbrev prv (t : Fin (cfgA (F := F) R).N) : Fin (cfgA (F := F) R).N := ⟨t.val - 1, by have := t.isLt; omega⟩

/-- The output block that the second half of a tile leaves. -/
def left (c : Dev nD) (t : Fin (cfgA (F := F) R).N) : FVec F S3584x128 .f32 :=
  if t.val / 2 < (N one).toNat then
    spread (k0_pay3 (rowsAt R m c (prv R t)) (iblk R m c (1 : Fin 5) t) (iblk R m c (2 : Fin 5) t) (accAt R m c (prv R t)) (iblk R m c (3 : Fin 5) t))
  else k0_pay12

/-- The invariant before a point: after the first half of a used tile the scratch buffers hold what it left, otherwise
    anything; and the body's halves of the tables. -/
def Phi (c : Dev nD) (t : Fin ((cfgA (F := F) R).N + 1)) : sProp 𝕄 :=
  iprop(∃ (a0 : Buf (Elt F) ((c : Thread nD τ).loc cc0_scratch0)) (a1 : Buf (Elt F) ((c : Thread nD τ).loc cc0_scratch1)),
    ⌜∀ s : Fin (cfgA (F := F) R).N, s.val + 1 = t.val → s.val / 2 < (N one).toNat → s.val % 2 = 0 → a0 = accAt R m c s ∧ a1 = rowsAt R m c s⌝
      ∗ scr c a0 a1 ∗ (tbE.view.loc (c : Thread nD τ) ↦{fullShare.right} E) ∗ (tbN.view.loc (c : Thread nD τ) ↦{fullShare.right} N))

/-- The proof data of the one pipeline. -/
def dats (_ : Fin 1) (c : Dev nD) : Dat τ (Elt F) Unit ℕ (UR sig nD τ) ℕ (cfgA (F := F) R) c where
  A w := m (((cfgA (F := F) R).win w).arr.view.loc (c : Thread nD τ))
  after w t := match w with
    | ⟨0, _⟩ => iblk R m c (0 : Fin 5) t
    | ⟨1, _⟩ => iblk R m c (1 : Fin 5) t
    | ⟨2, _⟩ => iblk R m c (2 : Fin 5) t
    | ⟨3, _⟩ => iblk R m c (3 : Fin 5) t
    | ⟨4, _⟩ => left R m c t
  Φ t := Phi R m c t
  q _ := fullShare
  owed _ := 0

theorem after_0 (c : Dev nD) (t : Fin (cfgA (F := F) R).N) : (dats R m 0 c).after (0 : Fin 5) t = iblk R m c (0 : Fin 5) t := rfl
theorem after_1 (c : Dev nD) (t : Fin (cfgA (F := F) R).N) : (dats R m 0 c).after (1 : Fin 5) t = iblk R m c (1 : Fin 5) t := rfl
theorem after_2 (c : Dev nD) (t : Fin (cfgA (F := F) R).N) : (dats R m 0 c).after (2 : Fin 5) t = iblk R m c (2 : Fin 5) t := rfl
theorem after_3 (c : Dev nD) (t : Fin (cfgA (F := F) R).N) : (dats R m 0 c).after (3 : Fin 5) t = iblk R m c (3 : Fin 5) t := rfl

theorem after_4 (c : Dev nD) (t : Fin (cfgA (F := F) R).N) : (dats R m 0 c).after (4 : Fin 5) t = left R m c t := rfl

theorem before_0 (c : Dev nD) (t : Fin (cfgA (F := F) R).N) (d) : (dats R m 0 c).before (0 : Fin 5) t d = iblk R m c (0 : Fin 5) t :=
  ((dats R m 0 c).before_in_eq_fetched (0 : Fin 5) rfl (fun _ => rfl) (fun _ _ _ => rfl) (fun t => by rw [after_0]; unfold Dat.blockOf iblk; rfl) t d).trans
    (by unfold Dat.fetched Dat.blockOf iblk; rfl)

theorem before_1 (c : Dev nD) (t : Fin (cfgA (F := F) R).N) (d) : (dats R m 0 c).before (1 : Fin 5) t d = iblk R m c (1 : Fin 5) t :=
  ((dats R m 0 c).before_in_eq_fetched (1 : Fin 5) rfl (fun _ => rfl) (fun _ _ _ => rfl) (fun t => by rw [after_1]; unfold Dat.blockOf iblk; rfl) t d).trans
    (by unfold Dat.fetched Dat.blockOf iblk; rfl)

theorem before_2 (c : Dev nD) (t : Fin (cfgA (F := F) R).N) (d) : (dats R m 0 c).before (2 : Fin 5) t d = iblk R m c (2 : Fin 5) t :=
  ((dats R m 0 c).before_in_eq_fetched (2 : Fin 5) rfl (fun _ => rfl) (fun _ _ _ => rfl) (fun t => by rw [after_2]; unfold Dat.blockOf iblk; rfl) t d).trans
    (by unfold Dat.fetched Dat.blockOf iblk; rfl)

theorem before_3 (c : Dev nD) (t : Fin (cfgA (F := F) R).N) (d) : (dats R m 0 c).before (3 : Fin 5) t d = iblk R m c (3 : Fin 5) t :=
  ((dats R m 0 c).before_in_eq_fetched (3 : Fin 5) rfl (fun _ => rfl) (fun _ _ _ => rfl) (fun t => by rw [after_3]; unfold Dat.blockOf iblk; rfl) t d).trans
    (by unfold Dat.fetched Dat.blockOf iblk; rfl)

/-! ## The body at a point -/

/-- The body at a point on its staging memrefs, as the pipeline calls it. -/
abbrev bodyAt (t : Fin (cfgA (F := F) R).N) : Prog (TpuEff nD τ sig (Elt F) Λ₀ .tc) PUnit :=
  cc0_moe_ffn (crd R t) (Memref.whole main_arg1) (Memref.isWhole_whole _) (Memref.whole main_arg2) (Memref.isWhole_whole _) (ms0 R t) (hs0 R t) (ms1 R t) (hs1 R t) (ms2 R t) (hs2 R t) (ms3 R t) (hs3 R t) (ms4 R t) (hs4 R t) (Memref.whole cc0_scratch0) (Memref.isWhole_whole _) (Memref.whole cc0_scratch1) (Memref.isWhole_whole _)

set_option maxHeartbeats 4000000 in
/-- The body at a point, by its control path: the inputs hold their blocks, the scratch buffers what the invariant says, and
    the path's run applies. -/
theorem sound_body (c : Dev nD) (t : Fin (cfgA (F := F) R).N) :
    iprop((dats R m 0 c).Φ t.castSucc ∗ (dats R m 0 c).owesAt () t.castSucc
        ∗ (∃ d, owns (c : Thread nD τ) (ms0 R t) fullShare ((dats R m 0 c).before (0 : Fin 5) t d))
        ∗ (∃ d, owns (c : Thread nD τ) (ms1 R t) fullShare ((dats R m 0 c).before (1 : Fin 5) t d))
        ∗ (∃ d, owns (c : Thread nD τ) (ms2 R t) fullShare ((dats R m 0 c).before (2 : Fin 5) t d))
        ∗ (∃ d, owns (c : Thread nD τ) (ms3 R t) fullShare ((dats R m 0 c).before (3 : Fin 5) t d))
        ∗ (∃ d, owns (c : Thread nD τ) (ms4 R t) fullShare ((dats R m 0 c).before (4 : Fin 5) t d)))
      ⊢ wp frame (wpE (defs₀ (F := F)) Variants.none c none) Set.univ (bodyAt R t) fun _ =>
          iprop((dats R m 0 c).Φ t.succ ∗ (dats R m 0 c).owesAt () t.succ
            ∗ bigSep Finset.univ fun w : Fin (cfgA (F := F) R).W =>
                match (cfgA (F := F) R).idle w ((cfgA (F := F) R).grid.coords t) with
                | true =>
                  match ((cfgA (F := F) R).win w).flush t with
                  | false => iprop(∃ d, owns (c : Thread nD τ) (((cfgA (F := F) R).win w).stage ((cfgA (F := F) R).slots t w)) fullShare ((dats R m 0 c).before w t d))
                  | true => owns (c : Thread nD τ) (((cfgA (F := F) R).win w).stage ((cfgA (F := F) R).slots t w)) fullShare ((dats R m 0 c).after w t)
                | false => owns (c : Thread nD τ) (((cfgA (F := F) R).win w).stage ((cfgA (F := F) R).slots t w)) fullShare ((dats R m 0 c).after w t)) := by
  rw [bigSep_W0]
  have hm : t.val % 2 < 2 := Nat.mod_lt _ (by omega)
  by_cases hu : t.val / 2 < (N one).toNat <;> by_cases hp : t.val % 2 = 0
  · have i4 : (cfgA (F := F) R).idle (4 : Fin 5) ((cfgA (F := F) R).grid.coords t) = true := (idle_out R t).trans (by simp [hp])
    have f4 : ((cfgA (F := F) R).win (4 : Fin 5)).flush t = false := (flush_out R t).trans (by simp [hp])
    rewrite [i4]
    simp only [before_0, before_1, before_2, before_3, after_0, after_1, after_2, after_3, after_4, f4]
    rewrite [show (dats R m 0 c).Φ t.succ = Phi R m c t.succ from rfl, show (dats R m 0 c).Φ t.castSucc = Phi R m c t.castSucc from rfl,
      show (dats R m 0 c).owesAt () t.succ = (dats R m 0 c).owesAt () t.castSucc from rfl]
    unfold Phi
    have c1 := (begins_at R t).mpr ⟨hu, hp⟩
    have c2 := (works_at R t).mpr hu
    have c3 := (not_congr (ends_at R t)).mpr (by omega)
    have c4 := (not_congr (clears_at R t)).mpr (by omega)
    iintro ⟨⟨%a0, %a1, %ha, ⟨HS0, HS1⟩, HT0, HT1⟩, Ho, ⟨%d0, H0⟩, ⟨%d1, H1⟩, ⟨%d2, H2⟩, ⟨%d3, H3⟩, ⟨%d4, H4⟩⟩
    iapply ((runFirst c (crd R t) (ms0 R t) (hs0 R t) (ms1 R t) (hs1 R t) (ms2 R t) (hs2 R t) (ms3 R t) (hs3 R t) (ms4 R t) (hs4 R t) E N (iblk R m c (0 : Fin 5) t) (iblk R m c (1 : Fin 5) t) (iblk R m c (2 : Fin 5) t) (iblk R m c (3 : Fin 5) t) c1 c2 c3 c4).2.2 _ a0 a1 _)
    isplitl [H0 H1 H2 H3 HT0 HT1 H4 HS0 HS1]
    · isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexact H4
      isplitl [HS0]; · iexact HS0
      iexact HS1
    iintro ⟨⟨H0, H1, H2, H3, HT0, HT1⟩, H4, ⟨HS0, HS1⟩⟩
    isplitl [HS0 HS1 HT0 HT1]
    · iexists _; iexists _
      isplitr; swap
      · isplitl [HS0 HS1]
        · isplitl [HS0]; · iexact HS0
          iexact HS1
        isplitl [HT0]; · iexact HT0
        iexact HT1
      · ipureintro; intro s hs hsu hsp
        have hst : s.val = t.val := by have : s.val + 1 = t.val + 1 := hs; omega
        obtain rfl : s = t := Fin.ext hst
        exact ⟨first_acc c _ _ _ _ _ _ _ _ _ _ _ _ _ _ _ _ _ _ _ _ _, first_rows c _ _ _ _ _ _ _ _ _ _ _ _ _ _ _ _ _ _ _ _ _⟩
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexists d4; iexact H4
  · have i4 : (cfgA (F := F) R).idle (4 : Fin 5) ((cfgA (F := F) R).grid.coords t) = false := (idle_out R t).trans (by simp [hp])
    rewrite [i4]
    simp only [before_0, before_1, before_2, before_3, after_0, after_1, after_2, after_3, after_4]
    rewrite [show (dats R m 0 c).Φ t.succ = Phi R m c t.succ from rfl, show (dats R m 0 c).Φ t.castSucc = Phi R m c t.castSucc from rfl,
      show (dats R m 0 c).owesAt () t.succ = (dats R m 0 c).owesAt () t.castSucc from rfl]
    unfold Phi
    have c1 := (not_congr (begins_at R t)).mpr (by omega)
    have c2 := (works_at R t).mpr hu
    have c3 := (ends_at R t).mpr ⟨hu, by omega⟩
    have c4 := (not_congr (clears_at R t)).mpr (by omega)
    iintro ⟨⟨%a0, %a1, %ha, ⟨HS0, HS1⟩, HT0, HT1⟩, Ho, ⟨%d0, H0⟩, ⟨%d1, H1⟩, ⟨%d2, H2⟩, ⟨%d3, H3⟩, ⟨%d4, H4⟩⟩
    obtain ⟨e0, e1⟩ := ha (prv R t) (by show t.val - 1 + 1 = t.val; omega) (by show (t.val - 1) / 2 < _; omega) (by show (t.val - 1) % 2 = 0; omega)
    iapply ((runLast c (crd R t) (ms0 R t) (hs0 R t) (ms1 R t) (hs1 R t) (ms2 R t) (hs2 R t) (ms3 R t) (hs3 R t) (ms4 R t) (hs4 R t) E N (iblk R m c (0 : Fin 5) t) (iblk R m c (1 : Fin 5) t) (iblk R m c (2 : Fin 5) t) (iblk R m c (3 : Fin 5) t) a0 a1 c1 c2 c3 c4).2.2.2 _)
    isplitl [H0 H1 H2 H3 HT0 HT1 H4 HS0 HS1]
    · isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      iexact HS1
    iintro ⟨⟨H0, H1, H2, H3, HT0, HT1⟩, ⟨%e4, H4⟩, ⟨HS0, HS1⟩⟩
    isplitl [HS0 HS1 HT0 HT1]
    · iexists _; iexists _
      isplitr; swap
      · isplitl [HS0 HS1]
        · isplitl [HS0]; · iexact HS0
          iexact HS1
        isplitl [HT0]; · iexact HT0
        iexact HT1
      · ipureintro; intro s hs hsu hsp
        have hst : s.val = t.val := by have : s.val + 1 = t.val + 1 := hs; omega
        exact absurd hsp (by omega)
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      rw [last_stored, e0, e1]
      refine (read_bands _ _ _).trans ?_
      unfold left; rw [if_pos hu]
  · have i4 : (cfgA (F := F) R).idle (4 : Fin 5) ((cfgA (F := F) R).grid.coords t) = true := (idle_out R t).trans (by simp [hp])
    have f4 : ((cfgA (F := F) R).win (4 : Fin 5)).flush t = false := (flush_out R t).trans (by simp [hp])
    rewrite [i4]
    simp only [before_0, before_1, before_2, before_3, after_0, after_1, after_2, after_3, after_4, f4]
    rewrite [show (dats R m 0 c).Φ t.succ = Phi R m c t.succ from rfl, show (dats R m 0 c).Φ t.castSucc = Phi R m c t.castSucc from rfl,
      show (dats R m 0 c).owesAt () t.succ = (dats R m 0 c).owesAt () t.castSucc from rfl]
    unfold Phi
    have c1 := (not_congr (begins_at R t)).mpr (by omega)
    have c2 := (not_congr (works_at R t)).mpr hu
    have c3 := (not_congr (ends_at R t)).mpr (by omega)
    have c4 := (not_congr (clears_at R t)).mpr (by omega)
    iintro ⟨⟨%a0, %a1, %ha, ⟨HS0, HS1⟩, HT0, HT1⟩, Ho, ⟨%d0, H0⟩, ⟨%d1, H1⟩, ⟨%d2, H2⟩, ⟨%d3, H3⟩, ⟨%d4, H4⟩⟩
    iapply (runSkip c (crd R t) (ms0 R t) (hs0 R t) (ms1 R t) (hs1 R t) (ms2 R t) (hs2 R t) (ms3 R t) (hs3 R t) (ms4 R t) (hs4 R t) E N (iblk R m c (0 : Fin 5) t) (iblk R m c (1 : Fin 5) t) (iblk R m c (2 : Fin 5) t) (iblk R m c (3 : Fin 5) t) c1 c2 c3 c4 _ a0 a1 _)
    isplitl [H0 H1 H2 H3 HT0 HT1 H4 HS0 HS1]
    · isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexact H4
      isplitl [HS0]; · iexact HS0
      iexact HS1
    iintro ⟨⟨H0, H1, H2, H3, HT0, HT1⟩, H4, ⟨HS0, HS1⟩⟩
    isplitl [HS0 HS1 HT0 HT1]
    · iexists _; iexists _
      isplitr; swap
      · isplitl [HS0 HS1]
        · isplitl [HS0]; · iexact HS0
          iexact HS1
        isplitl [HT0]; · iexact HT0
        iexact HT1
      · ipureintro; intro s hs hsu hsp
        have hst : s.val = t.val := by have : s.val + 1 = t.val + 1 := hs; omega
        exact absurd hsu (by rw [hst]; exact hu)
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexists d4; iexact H4
  · have i4 : (cfgA (F := F) R).idle (4 : Fin 5) ((cfgA (F := F) R).grid.coords t) = false := (idle_out R t).trans (by simp [hp])
    rewrite [i4]
    simp only [before_0, before_1, before_2, before_3, after_0, after_1, after_2, after_3, after_4]
    rewrite [show (dats R m 0 c).Φ t.succ = Phi R m c t.succ from rfl, show (dats R m 0 c).Φ t.castSucc = Phi R m c t.castSucc from rfl,
      show (dats R m 0 c).owesAt () t.succ = (dats R m 0 c).owesAt () t.castSucc from rfl]
    unfold Phi
    have c1 := (not_congr (begins_at R t)).mpr (by omega)
    have c2 := (not_congr (works_at R t)).mpr hu
    have c3 := (not_congr (ends_at R t)).mpr (by omega)
    have c4 := (clears_at R t).mpr ⟨hu, by omega⟩
    iintro ⟨⟨%a0, %a1, %ha, ⟨HS0, HS1⟩, HT0, HT1⟩, Ho, ⟨%d0, H0⟩, ⟨%d1, H1⟩, ⟨%d2, H2⟩, ⟨%d3, H3⟩, ⟨%d4, H4⟩⟩
    iapply ((runZero c (crd R t) (ms0 R t) (hs0 R t) (ms1 R t) (hs1 R t) (ms2 R t) (hs2 R t) (ms3 R t) (hs3 R t) (ms4 R t) (hs4 R t) E N (iblk R m c (0 : Fin 5) t) (iblk R m c (1 : Fin 5) t) (iblk R m c (2 : Fin 5) t) (iblk R m c (3 : Fin 5) t) a0 a1 c1 c2 c3 c4).2.2.2 _)
    isplitl [H0 H1 H2 H3 HT0 HT1 H4 HS0 HS1]
    · isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      iexact HS1
    iintro ⟨⟨H0, H1, H2, H3, HT0, HT1⟩, ⟨%e4, H4⟩, ⟨HS0, HS1⟩⟩
    isplitl [HS0 HS1 HT0 HT1]
    · iexists _; iexists _
      isplitr; swap
      · isplitl [HS0 HS1]
        · isplitl [HS0]; · iexact HS0
          iexact HS1
        isplitl [HT0]; · iexact HT0
        iexact HT1
      · ipureintro; intro s hs hsu hsp
        have hst : s.val = t.val := by have : s.val + 1 = t.val + 1 := hs; omega
        exact absurd hsu (by rw [hst]; exact hu)
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      refine (zero_stored c _ _ _ _ _ _ _ _ _ _ _ _ _ _ _ _ _ _ _ _ _ _ _ _ _).trans ?_
      unfold left; rw [if_neg hu]

theorem body_obligation (c : Dev nD) : BodyObligation (dats R m 0 c) (defs₀ (F := F)) Variants.none () Set.univ := fun t => by
  rw [bigSep_W0]
  exact sound_body R m c t

/-! ## The launch -/

/-- The rounds' algebra inside the launch's. -/
abbrev EP : Emb (UR sig nD τ) 𝕄 := emb₁

/-- The rounds library's launch element. -/
def u₀ : UR sig nD τ :=
  initOf (Pipeline.cells (pcs (F := F) R) ((launch0 (F := F)).cellOf_inj fun _ => adm R))
    (Pipeline.launchToks (pcs (F := F) R) ((launch0 (F := F)).cellOf_inj fun _ => adm R))

theorem share_eq (c : Dev nD) (w : Fin (cfgA (F := F) R).W) : (dats R m 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers. -/
theorem phi_first (c : Dev nD) :
    iprop(BI.emp ∗ Pipeline.prefHeld pre0 c (fun _ => fullShare.right) (adm (F := F) R).1 ∗ Pipeline.scopedRest spec0 c) ⊢ (dats R m 0 c).Φ 0 := by
  rw [prefHeld_eq, scopedRest0_eq, show (dats R m 0 c).Φ 0 = Phi R m c 0 from rfl]
  unfold Phi
  iintro ⟨-, ⟨HT0, HT1⟩, ⟨%a0, HS0⟩, ⟨%a1, HS1⟩⟩
  iexists a0; iexists a1
  isplitr
  · ipureintro; intro s hs; exact absurd hs (Nat.succ_ne_zero _)
  isplitl [HS0 HS1]
  · isplitl [HS0]; · iexact HS0
    iexact HS1
  isplitl [HT0]
  · iexact HT0
  iexact HT1

/-- The invariant at the last point gives the scratch buffers back. -/
theorem phi_last (c : Dev nD) : (dats R m 0 c).Φ (Fin.last (cfgA (F := F) R).N) ⊢ iprop(BI.emp ∗ Pipeline.scopedRest spec0 c) := by
  rw [scopedRest0_eq, show (dats R m 0 c).Φ (Fin.last (cfgA (F := F) R).N) = Phi R m c (Fin.last _) from rfl]
  unfold Phi
  iintro ⟨%a0, %a1, -, ⟨HS0, HS1⟩, -, -⟩
  isplitr; · iempintro
  isplitl [HS0]
  · iexists a0; iexact HS0
  iexists a1; iexact HS1

/-- Every array ends at what the pipeline computes, every table at what it ran at. -/
def QC : PUnit × MemSt nD τ sig (Elt F) → Prop := fun r =>
  ∀ c : Dev nD, (∀ w : Fin (cfgA (F := F) R).W, r.2.mem (((cfgA (F := F) R).win w).arr.view.loc (c : Thread nD τ)) = (dats R m 0 c).arrAt w (cfgA (F := F) R).N)
    ∧ ∀ j, r.2.mem ((c : Thread nD τ).loc (pre0.ref j)) = (adm (F := F) R).1 j

theorem tables_held (hp : Held E N m) (c : Dev nD) (j : Fin 2) : m ((c : Thread nD τ).loc (pre0.ref j)) = (adm (F := F) R).1 j := by
  fin_cases j
  · exact hp.1 c
  · exact hp.2 c

set_option backward.isDefEq.respectTransparency.types false in
set_option maxHeartbeats 4000000 in
/-- Every weakly fair execution from such a memory with zero counters terminates, with each array at the computed contents and
    every counter at zero. -/
theorem run_main_quiescent (hp : Held E N m) : θ_run (defs (F := F)) (onTc (τ := τ) (main (F := F))) ⟨m, fun _ => 0, ρ⟩ (fun r => QC R m r ∧ r.2.sem = fun _ => 0) :=
  Pipeline.θ_run_region_noSem_pf_quiescent pcfgs (fun _ => adm R) (dats R m) () ((launch0 (F := F)).cellOf_inj fun _ => adm R) (0 : Fin 1)
    (launch0 (F := F)).win.to₀ (launch0 (F := F)).pre EP defs₀ Variants.none m ρ main
    (hbody := fun c => (body_obligation R m c).loose) (hne := (launch0 (F := F)).block_pos)
    (harr := (launch0 (F := F)).arr_whole) (hstage := (launch0 (F := F)).stage_whole) (howed := fun _ _ => rfl)
    (u₀ := u₀ (F := F) R) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) R) (dats R m) 0 (launch0 (F := F)).win.arr_inj c (launch0 (F := F)).arr_whole
      (share_eq R m c) _ _ fun _ => rfl)
    (hpf := tables_held R m hp)
    (X := fun _ => iprop(emp)) (Y := fun _ => iprop(emp)) (Z := fun _ => iprop(emp))
    (hX := fun c => by rw [unscopedRestP0_eq]; iintro -; isplitr <;> iempintro)
    (hin := phi_first R m)
    (hout := phi_last R m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same run without the counters. -/
theorem run_main (hp : Held E N m) : θ_run (defs (F := F)) (onTc (τ := τ) (main (F := F))) ⟨m, fun _ => 0, ρ⟩ (QC R m) :=
  (θ_run defs _ _).mono (fun _ h => h.1) (run_main_quiescent R m ρ hp)

include R in
/-- The arguments end unchanged. -/
theorem unchanged (hp : Held E N m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats R m 0 c).arrAt_in (0 : Fin 5) rfl _), ((h c).2 0).trans (hp.1 c).symm, ((h c).2 1).trans (hp.2 c).symm, ((h c).1 (1 : Fin 5)).trans ((dats R m 0 c).arrAt_in (1 : Fin 5) rfl _), ((h c).1 (2 : Fin 5)).trans ((dats R m 0 c).arrAt_in (2 : Fin 5) rfl _), ((h c).1 (3 : Fin 5)).trans ((dats R m 0 c).arrAt_in (3 : Fin 5) rfl _)⟩) (run_main R m ρ hp)

include R in
/-- The frame at tables in range. -/
theorem frame (hp : Held E N m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged R m ρ hp) ((θ_run defs _ _).mono (fun _ h => h.2) (run_main_quiescent R m ρ hp))

end Cert.ExpertsIdeal.Own

end
-- ==== Proof.ExpertsSpec.lean ====
/- The grouped feed-forward layer by coordinates: each row's tile names one of the eight experts, the row goes through that
   expert's two input matrices, the gated product of the two, and its output matrix; rows of unused tiles come out zero. -/
module

public import Idealize.ShloMosaic.Lib.Pointwise

@[expose] public section

noncomputable section

namespace Cert.Moe

open Idealize.ShloMosaic Idealize.ShloMosaic.Pointwise

/-- The gate `g · (1 / (1 + e^(−g)))` times `u`. -/
def gated (g u : EReal) : EReal := g * Ideal.div 1 (1 + Ideal.exp (0 - g)) * u

/-- What the layer takes, by coordinates: rows, gate and up matrices (expert, input, hidden), down matrices (expert, hidden,
    output), the tiles' experts, and how many tiles are used. -/
structure Layer where
  x : ℕ → ℕ → EReal
  gate : ℕ → ℕ → ℕ → EReal
  up : ℕ → ℕ → ℕ → EReal
  down : ℕ → ℕ → ℕ → EReal
  expert : ℕ → ℕ
  used : ℕ

/-- Row `r`'s hidden element `f` by expert `e`. -/
def Layer.hidden (a : Layer) (e r f : ℕ) : EReal :=
  gated (∑ d : Fin 1024, a.x r d.val * a.gate e d.val f) (∑ d : Fin 1024, a.x r d.val * a.up e d.val f)

/-- Row `r`'s output column `c` by expert `e`. -/
def Layer.row (a : Layer) (e r c : ℕ) : EReal := ∑ f ∈ Finset.range 3584, a.hidden e r f * a.down e f c

/-- The layer's row `r`, column `c`: tiles hold 448 rows. -/
def Layer.out (a : Layer) (r c : ℕ) : EReal := if r / 448 < a.used then a.row (a.expert (r / 448)) r c else 0

/-- The two halves of the hidden width. -/
theorem Layer.row_halves (a : Layer) (e r c : ℕ) :
    a.row e r c = (∑ f : Fin 1792, a.hidden e r f.val * a.down e f.val c)
      + ∑ f : Fin 1792, a.hidden e r (1792 + f.val) * a.down e (1792 + f.val) c := by
  unfold Layer.row
  rw [show 3584 = 1792 + 1792 from rfl, Finset.sum_range_add, Finset.sum_range, Finset.sum_range]

/-- The arrays hold the layer: the rows as `8` bands of `128` columns. -/
structure Holds (X : (⟨2, ![290304, 128]⟩ : Shape).Idx → EReal) (E : (⟨1, ![81]⟩ : Shape).Idx → BitVec 32)
    (N : (⟨1, ![1]⟩ : Shape).Idx → BitVec 32) (G U : (⟨3, ![8, 1024, 3584]⟩ : Shape).Idx → EReal)
    (D : (⟨3, ![8, 3584, 1024]⟩ : Shape).Idx → EReal) (a : Layer) : Prop where
  x : ∀ (R : Fin 290304) (k : Fin 128) (r d : ℕ), R.val = 8 * r + d / 128 → k.val = d % 128 → X (ix2 R k) = a.x r d
  gate : ∀ (e : Fin 8) (d : Fin 1024) (f : Fin 3584), G (ix3 e d f) = a.gate e.val d.val f.val
  up : ∀ (e : Fin 8) (d : Fin 1024) (f : Fin 3584), U (ix3 e d f) = a.up e.val d.val f.val
  down : ∀ (e : Fin 8) (f : Fin 3584) (d : Fin 1024), D (ix3 e f d) = a.down e.val f.val d.val
  expert : ∀ k : Fin 81, (E (ix1 k)).toNat = a.expert k.val
  used : (N (ix1 0)).toNat = a.used

/-- The layer that arrays hold. -/
def layerOf (X : (⟨2, ![290304, 128]⟩ : Shape).Idx → EReal) (E : (⟨1, ![81]⟩ : Shape).Idx → BitVec 32)
    (N : (⟨1, ![1]⟩ : Shape).Idx → BitVec 32) (G U : (⟨3, ![8, 1024, 3584]⟩ : Shape).Idx → EReal)
    (D : (⟨3, ![8, 3584, 1024]⟩ : Shape).Idx → EReal) : Layer where
  x r d := if h : 8 * r + d / 128 < 290304 then X (ix2 ⟨8 * r + d / 128, h⟩ ⟨d % 128, Nat.mod_lt _ (by omega)⟩) else 0
  gate e d f := if h : e < 8 ∧ d < 1024 ∧ f < 3584 then G (ix3 ⟨e, h.1⟩ ⟨d, h.2.1⟩ ⟨f, h.2.2⟩) else 0
  up e d f := if h : e < 8 ∧ d < 1024 ∧ f < 3584 then U (ix3 ⟨e, h.1⟩ ⟨d, h.2.1⟩ ⟨f, h.2.2⟩) else 0
  down e f d := if h : e < 8 ∧ f < 3584 ∧ d < 1024 then D (ix3 ⟨e, h.1⟩ ⟨f, h.2.1⟩ ⟨d, h.2.2⟩) else 0
  expert k := if h : k < 81 then (E (ix1 ⟨k, h⟩)).toNat else 0
  used := (N (ix1 0)).toNat

theorem holds_layerOf (X : (⟨2, ![290304, 128]⟩ : Shape).Idx → EReal) (E : (⟨1, ![81]⟩ : Shape).Idx → BitVec 32)
    (N : (⟨1, ![1]⟩ : Shape).Idx → BitVec 32) (G U : (⟨3, ![8, 1024, 3584]⟩ : Shape).Idx → EReal)
    (D : (⟨3, ![8, 3584, 1024]⟩ : Shape).Idx → EReal) : Holds X E N G U D (layerOf X E N G U D) where
  x R k r d hR hk := by
    have h : 8 * r + d / 128 < 290304 := hR ▸ R.isLt
    have e1 : R = ⟨8 * r + d / 128, h⟩ := Fin.ext hR
    have e2 : k = ⟨d % 128, Nat.mod_lt _ (by omega)⟩ := Fin.ext hk
    dsimp only [layerOf]; rw [dif_pos h, e1, e2]
  gate e d f := by
    dsimp only [layerOf]; rw [dif_pos (show e.val < 8 ∧ d.val < 1024 ∧ f.val < 3584 from ⟨e.isLt, d.isLt, f.isLt⟩)]
  up e d f := by
    dsimp only [layerOf]; rw [dif_pos (show e.val < 8 ∧ d.val < 1024 ∧ f.val < 3584 from ⟨e.isLt, d.isLt, f.isLt⟩)]
  down e f d := by
    dsimp only [layerOf]; rw [dif_pos (show e.val < 8 ∧ f.val < 3584 ∧ d.val < 1024 from ⟨e.isLt, f.isLt, d.isLt⟩)]
  expert k := by dsimp only [layerOf]; rw [dif_pos k.isLt]
  used := rfl

end Cert.Moe

end
-- ==== Proof.ExpertsNumbers.lean ====
/- The numbers that the steps of the grouped expert kernel's body give, element by element. -/
module

public import proofs.«01_k».proof.Proof.ExpertsStored
public import proofs.«01_k».proof.Proof.Consts
public import proofs.«01_k».proof.Proof.ExpertsSpec
public import Idealize.ShloMosaic.Lib.Pointwise
public import Idealize.ShloMosaic.Lib.Tactic.CleanTypes

@[expose] public section

set_option maxRecDepth 16384
set_option Elab.async false

noncomputable section

namespace Cert.ExpertsIdeal.Own

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pointwise

/-- One half of a tile: the accumulator plus the half's share of the hidden width. -/
theorem pay3_apply (xb : FVec Ideal S448x1024 .bf16) (wg wu : FVec Ideal S1x1024x1792 .bf16) (acc : FVec Ideal S448x1024 .f32)
    (wd : FVec Ideal S1x1792x1024 .bf16) (r : Fin 448) (c : Fin 1024) :
    (k0_pay3 (F := Ideal) xb wg wu acc wd (ix2 r c) : EReal) = acc (ix2 r c)
      + ∑ f : Fin 1792, Moe.gated (∑ d : Fin 1024, (xb (ix2 r d) : EReal) * wg (ix3 0 d f))
          (∑ d : Fin 1024, (xb (ix2 r d) : EReal) * wu (ix3 0 d f)) * wd (ix3 0 f c) := by
  pointwise [k0_pay3, Moe.gated]

/-- An element of one of the bands in the input block. -/
theorem at_band (x0 : S3584x128.Idx → Elt Ideal .f32) (r : Fin 448) (c : Fin 1024) (s k : ℕ) (inb) (hs : s = c.val / 128) (hk : k = c.val % 128)
    (hk' : k < 128 := by omega) :
    rowsFrom x0 (⟨![s, 0], S448x128.size, ![8, 1], inb⟩ : LoadRect S3584x128) (ix2 (n0 := 448) (n1 := 128) r ⟨k, hk'⟩)
      = x0 (ix2 ⟨8 * r.val + c.val / 128, by omega⟩ ⟨c.val % 128, by omega⟩) := by
  refine congrArg x0 (funext fun a => Fin.ext ?_)
  fin_cases a
  · show s + 8 * r.val = 8 * r.val + c.val / 128
    omega
  · show 0 + 1 * k = c.val % 128
    omega

/-- The rows in the body's order: row `r`'s column `c` is in the block's row `8 r + c / 128`. -/
theorem rows_apply (x0 : S3584x128.Idx → Elt Ideal .f32) (r : Fin 448) (c : Fin 1024) :
    rows (F := Ideal) x0 (ix2 r c) = x0 (ix2 ⟨8 * r.val + c.val / 128, by omega⟩ ⟨c.val % 128, by omega⟩) := by
  have hr := r.isLt
  have hc := c.isLt
  pointwise [rows, k0_pay1]
  by_cases h0 : c.val < 128
  · rw [dif_pos h0]; exact at_band x0 r c 0 _ _ (by omega) (by omega)
  rw [dif_neg h0]
  by_cases h1 : c.val - 128 < 128
  · rw [dif_pos h1]; exact at_band x0 r c 1 _ _ (by omega) (by omega)
  rw [dif_neg h1]
  by_cases h2 : c.val - 128 - 128 < 128
  · rw [dif_pos h2]; exact at_band x0 r c 2 _ _ (by omega) (by omega)
  rw [dif_neg h2]
  by_cases h3 : c.val - 128 - 128 - 128 < 128
  · rw [dif_pos h3]; exact at_band x0 r c 3 _ _ (by omega) (by omega)
  rw [dif_neg h3]
  by_cases h4 : c.val - 128 - 128 - 128 - 128 < 128
  · rw [dif_pos h4]; exact at_band x0 r c 4 _ _ (by omega) (by omega)
  rw [dif_neg h4]
  by_cases h5 : c.val - 128 - 128 - 128 - 128 - 128 < 128
  · rw [dif_pos h5]; exact at_band x0 r c 5 _ _ (by omega) (by omega)
  rw [dif_neg h5]
  by_cases h6 : c.val - 128 - 128 - 128 - 128 - 128 - 128 < 128
  · rw [dif_pos h6]; exact at_band x0 r c 6 _ _ (by omega) (by omega)
  rw [dif_neg h6]
  exact at_band x0 r c 7 _ _ (by omega) (by omega)

theorem clear_apply (r : Fin 448) (c : Fin 1024) : k0_pay2 (F := Ideal) (ix2 r c) = (0 : EReal) := by
  pointwise [k0_pay2, Consts.ofBits_zero]

theorem zeros_apply (r : Fin 3584) (c : Fin 128) : k0_pay12 (F := Ideal) (ix2 r c) = (0 : EReal) := by
  pointwise [k0_pay12, Consts.ofBits_zero]

end Cert.ExpertsIdeal.Own

end
-- ==== Proof.ExpertsArray.lean ====
/- What the grouped expert kernel's result array holds: every tile's second point writes back that tile's rows of the layer,
   and the tiles cover the array. -/
module

public import proofs.«01_k».proof.Proof.ExpertsFrame
public import proofs.«01_k».proof.Proof.ExpertsNumbers
public import Idealize.ShloMosaic.Lib.Pipeline.ValueKit

@[expose] public section

set_option maxRecDepth 16384
set_option Elab.async false

noncomputable section

namespace Cert.ExpertsIdeal.Own

open Cert.ExpertsIdeal Cert.ExpertsIdeal.Gen Idealize.ShloMosaic Idealize.ShloMosaic.TcCoe Idealize.ShloMosaic.Pointwise

variable {E : S81.Idx → BitVec 32} {N : S1.Idx → BitVec 32} (R : Ranges E N)
variable (m : (ℓ : Loc nD τ sig) → Buf (Elt Ideal) ℓ)

/-! ## The blocks, element by element -/

/-- A row block's element: its array's at the row tile the point reads. -/
theorem rows_at (c : Dev nD) (t : Fin (cfgA (F := Ideal) R).N) (p : Fin 3584) (k : Fin 128) (P : Fin 290304)
    (hP : P.val = rowOf (N one).toNat (crd R t) * 3584 + p.val) :
    (iblk R m c (0 : Fin 5) t : S3584x128.Idx → EReal) (ix2 p k) = m ((c : Thread nD τ).loc main_arg0) (ix2 P k) := by
  refine congrArg (m ((c : Thread nD τ).loc main_arg0)) (funext fun a => Fin.ext ?_)
  have e := index_rows (F := Ideal) R (crd R t)
  match a with
  | ⟨0, _⟩ =>
    show cc0_transform_0 inb_S1_S1_0 numel1_S1 (tabs (F := Ideal) E N) (crd R t) 0 * 3584 + 1 * p.val = P.val
    rw [e, hP]; show rowOf _ _ * 3584 + 1 * p.val = _; omega
  | ⟨1, _⟩ =>
    show cc0_transform_0 inb_S1_S1_0 numel1_S1 (tabs (F := Ideal) E N) (crd R t) 1 * 128 + 1 * k.val = k.val
    rw [e]; show 0 * 128 + 1 * k.val = _; omega

/-- A gate block's element: the expert's matrix, at the half of the hidden width the point reads. -/
theorem gate_at (c : Dev nD) (t : Fin (cfgA (F := Ideal) R).N) (d : Fin 1024) (f : Fin 1792) (e : Fin 8) (f' : Fin 3584)
    (he : e.val = (E (tile (crd R t 0).val (crd R t 0).isLt)).toNat) (hf : f'.val = halfOf (N one).toNat (crd R t) * 1792 + f.val) :
    (iblk R m c (1 : Fin 5) t : S1x1024x1792.Idx → EReal) (ix3 0 d f) = m ((c : Thread nD τ).loc main_arg3) (ix3 e d f') := by
  refine congrArg (m ((c : Thread nD τ).loc main_arg3)) (funext fun a => Fin.ext ?_)
  have h := index_gate (F := Ideal) R (crd R t)
  match a with
  | ⟨0, _⟩ =>
    show cc0_transform_1 k0_off1_inb numel1_S1 inb_S1_S1_0 (tabs (F := Ideal) E N) (crd R t) 0 * 1 + 1 * 0 = e.val
    rw [h, he]; show (E _).toNat * 1 + 1 * 0 = _; omega
  | ⟨1, _⟩ =>
    show cc0_transform_1 k0_off1_inb numel1_S1 inb_S1_S1_0 (tabs (F := Ideal) E N) (crd R t) 1 * 1024 + 1 * d.val = d.val
    rw [h]; show 0 * 1024 + 1 * d.val = _; omega
  | ⟨2, _⟩ =>
    show cc0_transform_1 k0_off1_inb numel1_S1 inb_S1_S1_0 (tabs (F := Ideal) E N) (crd R t) 2 * 1792 + 1 * f.val = f'.val
    rw [h, hf]; show halfOf _ _ * 1792 + 1 * f.val = _; omega

/-- A up block's element: the expert's matrix, at the half of the hidden width the point reads. -/
theorem up_at (c : Dev nD) (t : Fin (cfgA (F := Ideal) R).N) (d : Fin 1024) (f : Fin 1792) (e : Fin 8) (f' : Fin 3584)
    (he : e.val = (E (tile (crd R t 0).val (crd R t 0).isLt)).toNat) (hf : f'.val = halfOf (N one).toNat (crd R t) * 1792 + f.val) :
    (iblk R m c (2 : Fin 5) t : S1x1024x1792.Idx → EReal) (ix3 0 d f) = m ((c : Thread nD τ).loc main_arg4) (ix3 e d f') := by
  refine congrArg (m ((c : Thread nD τ).loc main_arg4)) (funext fun a => Fin.ext ?_)
  have h := index_up (F := Ideal) R (crd R t)
  match a with
  | ⟨0, _⟩ =>
    show cc0_transform_2 k0_off1_inb numel1_S1 inb_S1_S1_0 (tabs (F := Ideal) E N) (crd R t) 0 * 1 + 1 * 0 = e.val
    rw [h, he]; show (E _).toNat * 1 + 1 * 0 = _; omega
  | ⟨1, _⟩ =>
    show cc0_transform_2 k0_off1_inb numel1_S1 inb_S1_S1_0 (tabs (F := Ideal) E N) (crd R t) 1 * 1024 + 1 * d.val = d.val
    rw [h]; show 0 * 1024 + 1 * d.val = _; omega
  | ⟨2, _⟩ =>
    show cc0_transform_2 k0_off1_inb numel1_S1 inb_S1_S1_0 (tabs (F := Ideal) E N) (crd R t) 2 * 1792 + 1 * f.val = f'.val
    rw [h, hf]; show halfOf _ _ * 1792 + 1 * f.val = _; omega

/-- A down block's element: the expert's matrix, at the half of the hidden width the point reads. -/
theorem down_at (c : Dev nD) (t : Fin (cfgA (F := Ideal) R).N) (f : Fin 1792) (d : Fin 1024) (e : Fin 8) (f' : Fin 3584)
    (he : e.val = (E (tile (crd R t 0).val (crd R t 0).isLt)).toNat) (hf : f'.val = halfOf (N one).toNat (crd R t) * 1792 + f.val) :
    (iblk R m c (3 : Fin 5) t : S1x1792x1024.Idx → EReal) (ix3 0 f d) = m ((c : Thread nD τ).loc main_arg5) (ix3 e f' d) := by
  refine congrArg (m ((c : Thread nD τ).loc main_arg5)) (funext fun a => Fin.ext ?_)
  have h := index_down (F := Ideal) R (crd R t)
  match a with
  | ⟨0, _⟩ =>
    show cc0_transform_3 k0_off1_inb numel1_S1 inb_S1_S1_0 (tabs (F := Ideal) E N) (crd R t) 0 * 1 + 1 * 0 = e.val
    rw [h, he]; show (E _).toNat * 1 + 1 * 0 = _; omega
  | ⟨1, _⟩ =>
    show cc0_transform_3 k0_off1_inb numel1_S1 inb_S1_S1_0 (tabs (F := Ideal) E N) (crd R t) 1 * 1792 + 1 * f.val = f'.val
    rw [h, hf]; show halfOf _ _ * 1792 + 1 * f.val = _; omega
  | ⟨2, _⟩ =>
    show cc0_transform_3 k0_off1_inb numel1_S1 inb_S1_S1_0 (tabs (F := Ideal) E N) (crd R t) 2 * 1024 + 1 * d.val = d.val
    rw [h]; show 0 * 1024 + 1 * d.val = _; omega

/-! ## The points of a used tile, by the layer's coordinates -/

section
variable {m} {c : Dev nD} {a : Moe.Layer}
variable (H : Moe.Holds (m ((c : Thread nD τ).loc main_arg0)) E N (m ((c : Thread nD τ).loc main_arg3))
  (m ((c : Thread nD τ).loc main_arg4)) (m ((c : Thread nD τ).loc main_arg5)) a)
include H

theorem used_eq : (N one).toNat = a.used := (congrArg (fun x => (N x).toNat) (s1_eq one (ix1 0))).trans H.used

theorem expert_eq (t : Fin (cfgA (F := Ideal) R).N) :
    (E (tile (crd R t 0).val (crd R t 0).isLt)).toNat = a.expert (t.val / 2) := by
  rw [show tile (crd R t 0).val (crd R t 0).isLt = ix1 (⟨(crd R t 0).val, (crd R t 0).isLt⟩ : Fin 81) from
    (tile_eq (ix1 (⟨(crd R t 0).val, (crd R t 0).isLt⟩ : Fin 81)) _ _ rfl).symm, H.expert]
  exact congrArg a.expert (coords_val t).1

variable (t : Fin (cfgA (F := Ideal) R).N) (hu : t.val / 2 < (N one).toNat)
include hu

theorem half_eq : halfOf (N one).toNat (crd R t) = t.val % 2 := by
  unfold halfOf
  rw [if_pos (show (crd R t 0).val < _ by rw [(coords_val t).1]; exact hu)]
  exact (coords_val t).2

theorem row_eq : rowOf (N one).toNat (crd R t) = t.val / 2 := by
  unfold rowOf
  rw [if_pos (show (crd R t 0).val < _ by rw [(coords_val t).1]; exact hu)]
  exact (coords_val t).1

/-- The rows that a point's input block holds. -/
theorem rows_layer (r : Fin 448) (d : Fin 1024) :
    (rows (F := Ideal) (iblk R m c (0 : Fin 5) t) (ix2 r d) : EReal) = a.x (448 * (t.val / 2) + r.val) d.val := by
  have ht : t.val < 162 := t.isLt
  rw [rows_apply]
  refine (rows_at R m c t _ _ ⟨t.val / 2 * 3584 + (8 * r.val + d.val / 128), by omega⟩ ?_).trans (H.x _ _ _ _ ?_ rfl)
  · rw [row_eq R H t hu]
  · show t.val / 2 * 3584 + (8 * r.val + d.val / 128) = 8 * (448 * (t.val / 2) + r.val) + d.val / 128
    omega

/-- The point's block of the gate matrix. -/
theorem gate_layer (d : Fin 1024) (f : Fin 1792) :
    (iblk R m c (1 : Fin 5) t : S1x1024x1792.Idx → EReal) (ix3 0 d f) = a.gate (a.expert (t.val / 2)) d.val (1792 * (t.val % 2) + f.val) := by
  have he := R.expert (tile (crd R t 0).val (crd R t 0).isLt)
  refine (gate_at R m c t d f ⟨_, he⟩ ⟨1792 * (t.val % 2) + f.val, by omega⟩ rfl ?_).trans ((H.gate _ _ _).trans ?_)
  · rw [half_eq R H t hu]; show 1792 * (t.val % 2) + f.val = t.val % 2 * 1792 + f.val; omega
  · exact congrArg (fun x => a.gate x d.val (1792 * (t.val % 2) + f.val)) (expert_eq R H t)

/-- The point's block of the up matrix. -/
theorem up_layer (d : Fin 1024) (f : Fin 1792) :
    (iblk R m c (2 : Fin 5) t : S1x1024x1792.Idx → EReal) (ix3 0 d f) = a.up (a.expert (t.val / 2)) d.val (1792 * (t.val % 2) + f.val) := by
  have he := R.expert (tile (crd R t 0).val (crd R t 0).isLt)
  refine (up_at R m c t d f ⟨_, he⟩ ⟨1792 * (t.val % 2) + f.val, by omega⟩ rfl ?_).trans ((H.up _ _ _).trans ?_)
  · rw [half_eq R H t hu]; show 1792 * (t.val % 2) + f.val = t.val % 2 * 1792 + f.val; omega
  · exact congrArg (fun x => a.up x d.val (1792 * (t.val % 2) + f.val)) (expert_eq R H t)

/-- The point's block of the down matrix. -/
theorem down_layer (f : Fin 1792) (d : Fin 1024) :
    (iblk R m c (3 : Fin 5) t : S1x1792x1024.Idx → EReal) (ix3 0 f d) = a.down (a.expert (t.val / 2)) (1792 * (t.val % 2) + f.val) d.val := by
  have he := R.expert (tile (crd R t 0).val (crd R t 0).isLt)
  refine (down_at R m c t f d ⟨_, he⟩ ⟨1792 * (t.val % 2) + f.val, by omega⟩ rfl ?_).trans ((H.down _ _ _).trans ?_)
  · rw [half_eq R H t hu]; show 1792 * (t.val % 2) + f.val = t.val % 2 * 1792 + f.val; omega
  · exact congrArg (fun x => a.down x (1792 * (t.val % 2) + f.val) d.val) (expert_eq R H t)

/-- A point's share of a row: the accumulator plus its half of the hidden width. -/
theorem share_at (xb : FVec Ideal S448x1024 .bf16) (acc : FVec Ideal S448x1024 .f32) (r : Fin 448) (k : Fin 1024)
    (hx : ∀ d : Fin 1024, (xb (ix2 r d) : EReal) = a.x (448 * (t.val / 2) + r.val) d.val) :
    (k0_pay3 (F := Ideal) xb (iblk R m c (1 : Fin 5) t) (iblk R m c (2 : Fin 5) t) acc (iblk R m c (3 : Fin 5) t) (ix2 r k) : EReal)
      = acc (ix2 r k) + ∑ f : Fin 1792, a.hidden (a.expert (t.val / 2)) (448 * (t.val / 2) + r.val) (1792 * (t.val % 2) + f.val)
          * a.down (a.expert (t.val / 2)) (1792 * (t.val % 2) + f.val) k.val := by
  rw [pay3_apply]
  refine congrArg (acc (ix2 r k) + ·) (Finset.sum_congr rfl fun f _ => ?_)
  unfold Moe.Layer.hidden
  rw [down_layer R H t hu f k]
  refine congrArg (· * _) (congrArg₂ Moe.gated (Finset.sum_congr rfl fun d _ => ?_) (Finset.sum_congr rfl fun d _ => ?_))
  · rw [hx, gate_layer R H t hu d f]
  · rw [hx, up_layer R H t hu d f]

/-- The accumulator that the first point of a used tile leaves. -/
theorem acc_layer (hp : t.val % 2 = 0) (r : Fin 448) (k : Fin 1024) :
    (accAt R m c t (ix2 r k) : EReal) = ∑ f : Fin 1792, a.hidden (a.expert (t.val / 2)) (448 * (t.val / 2) + r.val) f.val
          * a.down (a.expert (t.val / 2)) f.val k.val := by
  unfold accAt accOne
  rw [share_at R H t hu _ _ r k (rows_layer R H t hu r), clear_apply, zero_add]
  simp only [hp, Nat.mul_zero, Nat.zero_add]

omit hu in
/-- What the second point of a tile leaves is the layer's. -/
theorem left_layer (hp : t.val % 2 = 1) (p : Fin 3584) (k : Fin 128) :
    (left R m c t (ix2 p k) : EReal) = a.out (448 * (t.val / 2) + p.val / 8) (p.val % 8 * 128 + k.val) := by
  have h1 : (t.val - 1) / 2 = t.val / 2 := by omega
  have h2 : (t.val - 1) % 2 = 0 := by omega
  have h3 : (448 * (t.val / 2) + p.val / 8) / 448 = t.val / 2 := by omega
  unfold left Moe.Layer.out
  rw [h3, ← used_eq H]
  by_cases hu : t.val / 2 < (N one).toNat
  · rw [if_pos hu, if_pos hu, Moe.Layer.row_halves]
    have hu' : (prv R t).val / 2 < (N one).toNat := by show (t.val - 1) / 2 < _; rw [h1]; exact hu
    show (k0_pay3 (F := Ideal) _ _ _ _ _ (ix2 (⟨p.val / 8, by omega⟩ : Fin 448) (⟨p.val % 8 * 128 + k.val, by omega⟩ : Fin 1024)) : EReal) = _
    unfold rowsAt
    rw [share_at R H t hu _ _ _ _ fun d => (rows_layer R H (prv R t) hu' _ d).trans (by rw [show (prv R t).val / 2 = t.val / 2 from h1]),
      acc_layer R H (prv R t) hu' h2]
    simp only [show (prv R t).val / 2 = t.val / 2 from h1, hp, Nat.mul_one]
  · rw [if_neg hu, if_neg hu]
    exact zeros_apply _ _

end

/-! ## The array -/

/-- The layer over the whole array: row `8 r + s`, column `k` holds row `r`, column `128 s + k`. -/
def resultOf (a : Moe.Layer) : Vec Ideal S290304x128 .f32 := fun y => a.out ((y 0).val / 8) ((y 0).val % 8 * 128 + (y 1).val)

theorem index_out : ∀ t : Fin grid0.N, cc0_transform_4 (grid0.coords t) = ![t.val / 2, 0] := by decide +kernel

/-- The tiles' output blocks cover the array. -/
theorem covers : ((cfgA (F := Ideal) R).win (4 : Fin 5)).Covers := by
  refine ⟨fun x => ?_, fun β => ?_⟩
  · match x with
    | ⟨0, _⟩ => show 0 < 3584; omega
    | ⟨1, _⟩ => show 0 < 128; omega
  have h0 : (β 0).val < 81 := (β 0).isLt.trans_le (by show (290304 + 3584 - 1) / 3584 ≤ 81; omega)
  have h1 : (β 1).val < 1 := (β 1).isLt.trans_le (by show (128 + 128 - 1) / 128 ≤ 1; omega)
  refine ⟨⟨2 * (β 0).val + 1, by show 2 * (β 0).val + 1 < 162; omega⟩, ?_, fun x => ⟨?_, .inl rfl⟩⟩
  · rw [flush_out]; exact decide_eq_true (by show (2 * (β 0).val + 1) % 2 = 1; omega)
  · refine (congrFun (index_out ⟨2 * (β 0).val + 1, by show 2 * (β 0).val + 1 < 162; omega⟩) x).trans ?_
    match x with
    | ⟨0, _⟩ => show (2 * (β 0).val + 1) / 2 = (β 0).val; omega
    | ⟨1, _⟩ => show 0 = (β 1).val; omega

/-- THE KERNEL'S RESULT ARRAY after the run is the layer. -/
theorem array_eq {c : Dev nD} {a : Moe.Layer} (H : Moe.Holds (m ((c : Thread nD τ).loc main_arg0)) E N (m ((c : Thread nD τ).loc main_arg3))
    (m ((c : Thread nD τ).loc main_arg4)) (m ((c : Thread nD τ).loc main_arg5)) a) :
    (dats R m 0 c).arrAt (4 : Fin 5) (cfgA (F := Ideal) R).N = resultOf a := by
  refine (dats R m 0 c).arrAt_eq_of_covers (4 : Fin 5) _ (covers R) fun t hf y => ?_
  have hp : t.val % 2 = 1 := of_decide_eq_true ((flush_out R t).symm.trans hf)
  obtain ⟨p, k, rfl⟩ : ∃ (p : Fin 3584) (k : Fin 128), y = ix2 p k := ⟨y 0, y 1, by ext e; fin_cases e <;> rfl⟩
  refine (left_layer R H t hp p k).trans ?_
  have e0 : ((((cfgA (F := Ideal) R).win (4 : Fin 5)).blk t).view.emb (ix2 p k) 0).val = t.val / 2 * 3584 + p.val := by
    show cc0_transform_4 (grid0.coords t) 0 * 3584 + 1 * p.val = _
    rw [index_out]; show t.val / 2 * 3584 + 1 * p.val = _; omega
  have e1 : ((((cfgA (F := Ideal) R).win (4 : Fin 5)).blk t).view.emb (ix2 p k) 1).val = k.val := by
    show cc0_transform_4 (grid0.coords t) 1 * 128 + 1 * k.val = _
    rw [index_out]; show 0 * 128 + 1 * k.val = _; omega
  refine Eq.trans ?_ (congrArg₂ (fun x y => a.out (x / 8) (x % 8 * 128 + y)) e0 e1).symm
  show _ = a.out ((t.val / 2 * 3584 + p.val) / 8) ((t.val / 2 * 3584 + p.val) % 8 * 128 + k.val)
  rw [show (t.val / 2 * 3584 + p.val) / 8 = 448 * (t.val / 2) + p.val / 8 by omega, show (t.val / 2 * 3584 + p.val) % 8 = p.val % 8 by omega]

end Cert.ExpertsIdeal.Own

end
-- ==== Proof.ExpertsRange.lean ====
/- The precondition on the tables, as numbers: every tile's expert is one of the eight, and at least one tile is used. -/
module

public import proofs.«01_k».proof.Proof.ExpertsFrame
public import proofs.«01_k».proof.Proof.Gen.Pre_table_ranges

@[expose] public section

set_option maxRecDepth 16384
set_option Elab.async false

noncomputable section

namespace Cert.ExpertsIdeal.Own

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem of_sge {x y : BitVec 32} (h : IntOp.cmpi .sge x y = 1#1) : y.toInt ≤ x.toInt := by
  unfold IntOp.cmpi at h
  by_contra hn
  have hf : y.sle x = false := by
    rw [BitVec.sle_eq_decide]; exact decide_eq_false hn
  simp [hf] at h

theorem of_slt {x y : BitVec 32} (h : IntOp.cmpi .slt x y = 1#1) : x.toInt < y.toInt := by
  unfold IntOp.cmpi at h
  by_contra hn
  have hf : x.slt y = false := by
    rw [BitVec.slt_eq_decide]; exact decide_eq_false hn
  simp [hf] at h

/-- A word whose signed value lies in a range of small naturals has that value unsigned. -/
theorem nat_range {x : BitVec 32} {a b : ℤ} (ha : 0 ≤ a) (h0 : a ≤ x.toInt) (h1 : x.toInt ≤ b) :
    a ≤ (x.toNat : ℤ) ∧ (x.toNat : ℤ) ≤ b := by
  have hx := x.isLt
  rw [BitVec.toInt_eq_toNat_cond] at h0 h1
  split at h0 <;> omega

/-- The tables of a memory. -/
def tblE (m : (ℓ : Loc nD τ sig) → Buf (Elt Ideal) ℓ) : S81.Idx → BitVec 32 := m (((0 : Dev nD) : Thread nD τ).loc main_arg1)
def tblN (m : (ℓ : Loc nD τ sig) → Buf (Elt Ideal) ℓ) : S1.Idx → BitVec 32 := m (((0 : Dev nD) : Thread nD τ).loc main_arg2)

theorem held (m : (ℓ : Loc nD τ sig) → Buf (Elt Ideal) ℓ) : Held (tblE m) (tblN m) m :=
  ⟨fun c => by obtain rfl : c = 0 := Subsingleton.elim _ _; rfl, fun c => by obtain rfl : c = 0 := Subsingleton.elim _ _; rfl⟩

theorem ranges_of_pre {m : (ℓ : Loc nD τ sig) → Buf (Elt Ideal) ℓ} (hm : Cert.Pre_ExpertsIdeal m) : Ranges (tblE m) (tblN m) := by
  obtain ⟨h0, h1, h2⟩ := hm 0
  dsimp only [Cert.Pre_table_ranges.fn] at h0 h1 h2
  have k : ∀ x, 0 ≤ ((tblE m x).toNat : ℤ) ∧ ((tblE m x).toNat : ℤ) ≤ 7 := fun x =>
    nat_range (le_refl 0) (of_sge (congrFun h0 x)) (Int.le_of_lt_add_one (of_slt (congrFun h1 x)))
  have n : 1 ≤ ((tblN m one).toNat : ℤ) ∧ ((tblN m one).toNat : ℤ) ≤ 2147483647 :=
    nat_range (by omega) (of_sge (congrFun h2 one)) (Int.le_of_lt_add_one (BitVec.toInt_lt (x := tblN m one)))
  exact ⟨fun x => by have := (k x).2; omega, by have := n.1; omega, by have := n.2; omega⟩

end Cert.ExpertsIdeal.Own

end
-- ==== Proof.ExpertsRangeBits.lean ====
/- For the program as printed: the precondition on the tables, as numbers: every tile's expert is one of the eight, and at least one tile is used. -/
module

public import proofs.«01_k».proof.Proof.ExpertsFrameBits
public import proofs.«01_k».proof.Proof.Gen.Pre_table_ranges

@[expose] public section

set_option maxRecDepth 16384
set_option Elab.async false

noncomputable section

namespace Cert.Experts.Own

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem of_sge {x y : BitVec 32} (h : IntOp.cmpi .sge x y = 1#1) : y.toInt ≤ x.toInt := by
  unfold IntOp.cmpi at h
  by_contra hn
  have hf : y.sle x = false := by
    rw [BitVec.sle_eq_decide]; exact decide_eq_false hn
  simp [hf] at h

theorem of_slt {x y : BitVec 32} (h : IntOp.cmpi .slt x y = 1#1) : x.toInt < y.toInt := by
  unfold IntOp.cmpi at h
  by_contra hn
  have hf : x.slt y = false := by
    rw [BitVec.slt_eq_decide]; exact decide_eq_false hn
  simp [hf] at h

/-- A word whose signed value lies in a range of small naturals has that value unsigned. -/
theorem nat_range {x : BitVec 32} {a b : ℤ} (ha : 0 ≤ a) (h0 : a ≤ x.toInt) (h1 : x.toInt ≤ b) :
    a ≤ (x.toNat : ℤ) ∧ (x.toNat : ℤ) ≤ b := by
  have hx := x.isLt
  rw [BitVec.toInt_eq_toNat_cond] at h0 h1
  split at h0 <;> omega

/-- The tables of a memory. -/
def tblE (m : (ℓ : Loc nD τ sig) → Buf (Elt Bits) ℓ) : S81.Idx → BitVec 32 := m (((0 : Dev nD) : Thread nD τ).loc main_arg1)
def tblN (m : (ℓ : Loc nD τ sig) → Buf (Elt Bits) ℓ) : S1.Idx → BitVec 32 := m (((0 : Dev nD) : Thread nD τ).loc main_arg2)

theorem held (m : (ℓ : Loc nD τ sig) → Buf (Elt Bits) ℓ) : Held (tblE m) (tblN m) m :=
  ⟨fun c => by obtain rfl : c = 0 := Subsingleton.elim _ _; rfl, fun c => by obtain rfl : c = 0 := Subsingleton.elim _ _; rfl⟩

theorem ranges_of_pre {m : (ℓ : Loc nD τ sig) → Buf (Elt Bits) ℓ} (hm : Cert.Pre_Experts m) : Ranges (tblE m) (tblN m) := by
  obtain ⟨h0, h1, h2⟩ := hm 0
  dsimp only [Cert.Pre_table_ranges.fn] at h0 h1 h2
  have k : ∀ x, 0 ≤ ((tblE m x).toNat : ℤ) ∧ ((tblE m x).toNat : ℤ) ≤ 7 := fun x =>
    nat_range (le_refl 0) (of_sge (congrFun h0 x)) (Int.le_of_lt_add_one (of_slt (congrFun h1 x)))
  have n : 1 ≤ ((tblN m one).toNat : ℤ) ∧ ((tblN m one).toNat : ℤ) ≤ 2147483647 :=
    nat_range (by omega) (of_sge (congrFun h2 one)) (Int.le_of_lt_add_one (BitVec.toInt_lt (x := tblN m one)))
  exact ⟨fun x => by have := (k x).2; omega, by have := n.1; omega, by have := n.2; omega⟩

end Cert.Experts.Own

end
-- ==== Proof.ExpertsRef.lean ====
/- The grouped layer's reference, its operations grouped into steps over whole arrays, each step read at an index, and the
   whole of it: the layer's formula. -/
module

public import proofs.«01_k».proof.Proof.Gen.ExpertsReferenceIdeal.Run
public import proofs.«01_k».proof.Proof.Consts
public import proofs.«01_k».proof.Proof.ExpertsSpec
public import proofs.«01_k».proof.Proof.ExpertsPoints
public import Idealize.ShloMosaic.Lib.Pointwise
public import Idealize.ShloMosaic.Lib.Tactic.CleanTypes

@[expose] public section

set_option maxRecDepth 16384

noncomputable section

namespace Cert.MoeRef

open Cert.ExpertsReferenceIdeal Cert.ExpertsReferenceIdeal.Gen Idealize.ShloMosaic Idealize.ShloMosaic.TcCoe Idealize.ShloMosaic.Pointwise

section Steps
variable {F : FTy → Type} [FloatOps F]

/-- The rows through every expert's matrix into the hidden width. -/
def into (X : FVec F S290304x128 .f32) (W : FVec F S8x1024x3584 .bf16) : FVec F S8x36288x3584 .f32 :=
  transpose S8x36288x3584 [0, 2, 1] (Host.dotGeneral dot_S8x1024x3584_S36288x1024_S8x3584x36288_1_1_02_0_n_n none
    (extf .f32 W bitsLt_bf16_f32) (shapeCast _ X shapeCasts_S290304x128_S36288x1024)) transposes_S8x3584x36288_S8x36288x3584_0_2_1

/-- The gated product. -/
def gate (v w : FVec F S8x36288x3584 .f32) : FVec F S8x36288x3584 .f32 :=
  mulf (mulf v (Host.divf (broadcastInDim S8x36288x3584 ![] bcast_S_S8x36288x3584 (constant S_ .f32 0x3F800000#32))
    (addf (broadcastInDim S8x36288x3584 ![] bcast_S_S8x36288x3584 (constant S_ .f32 0x3F800000#32)) (Host.exp (Host.negf v))))) w

/-- Back to the rows' width. -/
def back (h : FVec F S8x36288x3584 .f32) (D : FVec F S8x3584x1024 .bf16) : FVec F S8x36288x1024 .f32 :=
  Host.dotGeneral dot_S8x36288x3584_S8x3584x1024_S8x36288x1024_2_1_1_2_0_0 none h (extf .f32 D bitsLt_bf16_f32)

/-- Which tiles are used, row by row. -/
def usedRows (N : IVec S1 32) : IVec S36288 1 :=
  shapeCast _ (broadcastInDim S81x448 ![0, 1] bcast_S81x1_S81x448_0_1 (broadcastInDim S81x1 ![0] bcast_S81_S81x1_0
    (cmpi .slt (iotaInDim S81 32 0) (broadcastInDim S81 ![] bcast_S_S81 (shapeCast _ N shapeCasts_S1_S_))))) shapeCasts_S81x448_S36288

/-- The tiles' experts, row by row. -/
def expertRows (E : IVec S81 32) : IVec S36288 32 :=
  shapeCast _ (broadcastInDim S81x448 ![0, 1] bcast_S81x1_S81x448_0_1 (broadcastInDim S81x1 ![0] bcast_S81_S81x1_0 E)) shapeCasts_S81x448_S36288

/-- Which expert's output each row takes. -/
def mine (u : IVec S36288 1) (e : IVec S36288 32) : IVec S8x36288 1 :=
  andi (broadcastInDim S8x36288 ![0, 1] bcast_S1x36288_S8x36288_0_1 (broadcastInDim S1x36288 ![1] bcast_S36288_S1x36288_1 u))
    (cmpi .eq (broadcastInDim S8x36288 ![0, 1] bcast_S1x36288_S8x36288_0_1 (broadcastInDim S1x36288 ![1] bcast_S36288_S1x36288_1 e))
      (broadcastInDim S8x36288 ![0, 1] bcast_S8x1_S8x36288_0_1 (broadcastInDim S8x1 ![0] bcast_S8_S8x1_0 (iotaInDim S8 32 0))))

/-- The other experts' outputs replaced by zero. -/
def picked (k : IVec S8x36288 1) (y : FVec F S8x36288x1024 .f32) : FVec F S8x36288x1024 .f32 :=
  select (broadcastInDim S8x36288x1024 ![0, 1, 2] bcast_S8x36288x1_S8x36288x1024_0_1_2 (broadcastInDim S8x36288x1 ![0, 1] bcast_S8x36288_S8x36288x1_0_1 k))
    y (broadcastInDim S8x36288x1024 ![] bcast_S_S8x36288x1024 (id (constant S_ .f32 0x00000000#32)))

/-- The sum over the experts. -/
def total (y : FVec F S8x36288x1024 .f32) : FVec F S36288x1024 .f32 :=
  Host.reduceAdd y (constant S_ .f32 0x00000000#32) reducesTo_S8x36288x1024_S36288x1024_d0 h_S_

/-- The reference's result from its arguments. -/
def result (X : FVec F S290304x128 .f32) (E : IVec S81 32) (N : IVec S1 32) (G U : FVec F S8x1024x3584 .bf16)
    (D : FVec F S8x3584x1024 .bf16) : FVec F S290304x128 .f32 :=
  shapeCast _ (total (picked (mine (usedRows N) (expertRows E)) (back (gate (into X G) (into X U)) D))) shapeCasts_S36288x1024_S290304x128

end Steps

theorem into_apply (X : FVec Ideal S290304x128 .f32) (W : FVec Ideal S8x1024x3584 .bf16) (e : Fin 8) (r : Fin 36288) (f : Fin 3584) :
    (into X W (ix3 e r f) : EReal) = ∑ d : Fin 1024, (W (ix3 e d f) : EReal) * X (ix2 ⟨8 * r.val + d.val / 128, by omega⟩ ⟨d.val % 128, by omega⟩) := by
  pointwise [into]
  simp only [mul_comm 8 r.val]

theorem gate_apply (v w : FVec Ideal S8x36288x3584 .f32) (e : Fin 8) (r : Fin 36288) (f : Fin 3584) :
    (gate v w (ix3 e r f) : EReal) = Moe.gated (v (ix3 e r f)) (w (ix3 e r f)) := by
  pointwise [gate, Moe.gated, Consts.ofBits_one]
  rw [zero_sub]

theorem back_apply (h : FVec Ideal S8x36288x3584 .f32) (D : FVec Ideal S8x3584x1024 .bf16) (e : Fin 8) (r : Fin 36288) (c : Fin 1024) :
    (back h D (ix3 e r c) : EReal) = ∑ f : Fin 3584, (h (ix3 e r f) : EReal) * D (ix3 e f c) := by
  pointwise [back]

theorem used_apply (N : IVec S1 32) (r : Fin 36288) (h : (N (ix1 0)).toNat ≤ 2147483647) :
    usedRows N (ix1 r) = if r.val / 448 < (N (ix1 0)).toNat then 1#1 else 0#1 := by
  pointwise [usedRows]
  exact ExpertsIdeal.Own.slt_eq _ _ (by omega) h

theorem expert_apply (E : IVec S81 32) (r : Fin 36288) : expertRows E (ix1 r) = E (ix1 ⟨r.val / 448, by omega⟩) := by
  pointwise [expertRows]

theorem mine_apply (u : IVec S36288 1) (e : IVec S36288 32) (k : Fin 8) (r : Fin 36288) :
    mine u e (ix2 k r) = IntOp.andi (u (ix1 r)) (IntOp.cmpi .eq (e (ix1 r)) (BitVec.ofNat 32 k.val)) := by
  pointwise [mine]

theorem picked_apply (k : IVec S8x36288 1) (y : FVec Ideal S8x36288x1024 .f32) (e : Fin 8) (r : Fin 36288) (c : Fin 1024) :
    (picked k y (ix3 e r c) : EReal) = if k (ix2 e r) = 1#1 then (y (ix3 e r c) : EReal) else 0 := by
  pointwise [picked]
  rw [show (id (constant (F := Ideal) S_ .f32 0#32) ix0 : EReal) = 0 from Consts.ofBits_zero]
  rfl

theorem total_apply (y : FVec Ideal S8x36288x1024 .f32) (r : Fin 36288) (c : Fin 1024) :
    (total y (ix2 r c) : EReal) = ∑ e : Fin 8, (y (ix3 e r c) : EReal) := by
  pointwise [total, Consts.ofBits_zero]

theorem cast_apply (y : FVec Ideal S36288x1024 .f32) (R : Fin 290304) (k : Fin 128) :
    shapeCast S290304x128 y shapeCasts_S36288x1024_S290304x128 (ix2 R k) = y (ix2 ⟨R.val / 8, by omega⟩ ⟨R.val % 8 * 128 + k.val, by omega⟩) := by
  pointwise

/-- Which rows an expert's output is taken for, as numbers. -/
theorem takes_iff (p : Prop) [Decidable p] (v : BitVec 32) (e : Fin 8) :
    IntOp.andi (if p then 1#1 else 0#1) (IntOp.cmpi .eq v (BitVec.ofNat 32 e.val)) = 1#1 ↔ p ∧ v.toNat = e.val := by
  have h : v = BitVec.ofNat 32 e.val ↔ v.toNat = e.val := by
    rw [← BitVec.toNat_inj, BitVec.toNat_ofNat, Nat.mod_eq_of_lt (by omega)]
  rw [← h]
  by_cases hv : v = BitVec.ofNat 32 e.val
  · by_cases hp : p <;> simp [hp, hv, IntOp.andi, IntOp.cmpi]
  · have hb : (v == BitVec.ofNat 32 e.val) = false := beq_eq_false_iff_ne.mpr hv
    by_cases hp : p <;> simp [hp, hv, hb, IntOp.andi, IntOp.cmpi]

variable {X : FVec Ideal S290304x128 .f32} {E : IVec S81 32} {N : IVec S1 32} {G U : FVec Ideal S8x1024x3584 .bf16}
  {D : FVec Ideal S8x3584x1024 .bf16} {a : Moe.Layer}

/-- A row's output by an expert is the layer's. -/
theorem row_at (H : Moe.Holds X E N G U D a) (e : Fin 8) (r : Fin 36288) (c : Fin 1024) :
    (back (gate (into X G) (into X U)) D (ix3 e r c) : EReal) = a.row e.val r.val c.val := by
  rw [back_apply, Moe.Layer.row, Finset.sum_range]
  refine Finset.sum_congr rfl fun f _ => ?_
  rw [gate_apply, into_apply, into_apply, Moe.Layer.hidden, H.down]
  simp only [H.gate, H.up, fun d : Fin 1024 => H.x ⟨8 * r.val + d.val / 128, by omega⟩ ⟨d.val % 128, by omega⟩ r.val d.val rfl rfl]
  simp only [mul_comm (a.gate _ _ _), mul_comm (a.up _ _ _)]

/-- THE REFERENCE'S RESULT at row `8 r + s`, column `k`: the layer's row `r`, column `128 s + k`. -/
theorem result_at (H : Moe.Holds X E N G U D a) (hN : a.used ≤ 2147483647) (hE : ∀ k : Fin 81, a.expert k.val < 8)
    (R : Fin 290304) (k : Fin 128) :
    (result X E N G U D (ix2 R k) : EReal) = a.out (R.val / 8) (R.val % 8 * 128 + k.val) := by
  unfold result
  rw [cast_apply, total_apply]
  have hp : ∀ e : Fin 8, (picked (mine (usedRows N) (expertRows E)) (back (gate (into X G) (into X U)) D)
        (ix3 e (⟨R.val / 8, by omega⟩ : Fin 36288) (⟨R.val % 8 * 128 + k.val, by omega⟩ : Fin 1024)) : EReal)
      = if R.val / 8 / 448 < a.used ∧ a.expert (R.val / 8 / 448) = e.val then a.row e.val (R.val / 8) (R.val % 8 * 128 + k.val) else 0 := fun e => by
    rw [picked_apply, mine_apply, used_apply _ _ (H.used.trans_le hN), expert_apply, row_at H]
    refine if_congr ((takes_iff _ _ e).trans ?_) rfl rfl
    rw [H.used, H.expert]
  rw [Finset.sum_congr rfl fun e _ => hp e, Moe.Layer.out]
  by_cases hu : R.val / 8 / 448 < a.used
  · rw [if_pos hu, Finset.sum_eq_single ⟨a.expert (R.val / 8 / 448), hE ⟨R.val / 8 / 448, by omega⟩⟩, if_pos ⟨hu, rfl⟩]
    · exact fun e _ he => if_neg fun h => he (Fin.ext h.2.symm)
    · exact fun h => absurd (Finset.mem_univ _) h
  · rw [if_neg hu]
    exact Finset.sum_eq_zero fun e _ => if_neg fun h => hu h.1

end Cert.MoeRef

end
-- ==== Proof.ExpertsClaims.lean ====
/- The claims on the grouped expert kernel: the frames at tables in range, and the equation: kernel and reference both end
   with the layer of the arrays they were launched with. -/
module

public import proofs.«01_k».proof.Defs
public import proofs.«01_k».proof.Proof.ExpertsArray
public import proofs.«01_k».proof.Proof.ExpertsRange
public import proofs.«01_k».proof.Proof.ExpertsRangeBits
public import proofs.«01_k».proof.Proof.ExpertsRef
public import Idealize.ShloMosaic.Lib.Quiescent

@[expose] public section

noncomputable section

open Idealize.ShloMosaic Idealize.ShloMosaic.TcCoe Idealize.SL.Sem Idealize.ShloMosaic.Pointwise

namespace Cert.Proof.Experts

theorem frame_p : Cert.quiescent_Experts := fun m ρ h => Cert.Experts.Own.frame (Cert.Experts.Own.ranges_of_pre h) m ρ (Cert.Experts.Own.held m)
theorem frame_pi : Cert.quiescent_ExpertsIdeal := fun m ρ h => Cert.ExpertsIdeal.Own.frame (Cert.ExpertsIdeal.Own.ranges_of_pre h) m ρ (Cert.ExpertsIdeal.Own.held m)
theorem frame_ri : Cert.quiescent_ExpertsReferenceIdeal := fun m ρ _ =>
  (θ_run Cert.ExpertsReferenceIdeal.defs _ _).mono (fun r h => ⟨fun c => (h c).2,
      Idealize.ShloMosaic.sem_eq_zero_of_no_sems (by decide) r.2⟩)
    (Cert.ExpertsReferenceIdeal.Value.run (F := Ideal) m ρ)
theorem frame_ri_pre : Cert.quiescent_ExpertsReferenceIdeal_pre_table_ranges := fun m ρ _ => frame_ri m ρ trivial

/-- The ideal kernel is the kernel's own text. -/
theorem preserves : Cert.preserves_Experts_ExpertsIdeal := trivial

/-- Kernel and reference, over the extended reals, end with equal results. -/
theorem algebraic : Cert.algebraic_ExpertsIdeal_ExpertsReferenceIdeal := by
  intro m ρ m' ρ' hpre hagree
  have R := Cert.ExpertsIdeal.Own.ranges_of_pre hpre
  have hh := Cert.ExpertsIdeal.Own.held m
  refine ⟨fun c => (Cert.ExpertsIdeal.Own.dats R m 0 c).arrAt (4 : Fin 5) (Cert.ExpertsIdeal.Own.cfgA (F := Ideal) R).N,
    (θ_run Cert.ExpertsIdeal.defs _ _).mono (fun _ h c => ⟨(h.1 c).1 (4 : Fin 5), h.2 c⟩)
      (θ_run_and (Cert.ExpertsIdeal.Own.run_main R m ρ hh) (Cert.ExpertsIdeal.Own.unchanged R m ρ hh)), ?_⟩
  refine (θ_run Cert.ExpertsReferenceIdeal.defs _ _).mono (fun _ h c => ⟨(h c).1.trans ?_, (h c).2⟩)
    (Cert.ExpertsReferenceIdeal.Value.run (F := Ideal) m' ρ')
  obtain ⟨e0, e1, e2, e3, e4, e5⟩ := hagree c
  have H := Cert.Moe.holds_layerOf (m ((c.tc : Thread Cert.ExpertsIdeal.nD Cert.ExpertsIdeal.τ).loc Cert.ExpertsIdeal.main_arg0))
    (Cert.ExpertsIdeal.Own.tblE m) (Cert.ExpertsIdeal.Own.tblN m)
    (m ((c.tc : Thread Cert.ExpertsIdeal.nD Cert.ExpertsIdeal.τ).loc Cert.ExpertsIdeal.main_arg3))
    (m ((c.tc : Thread Cert.ExpertsIdeal.nD Cert.ExpertsIdeal.τ).loc Cert.ExpertsIdeal.main_arg4))
    (m ((c.tc : Thread Cert.ExpertsIdeal.nD Cert.ExpertsIdeal.τ).loc Cert.ExpertsIdeal.main_arg5))
  have hN := (Cert.ExpertsIdeal.Own.used_eq H).symm.trans_le R.le
  refine Eq.trans ?_ (Cert.ExpertsIdeal.Own.array_eq R m H).symm
  funext y
  obtain ⟨r, k, rfl⟩ : ∃ (r : Fin 290304) (k : Fin 128), y = ix2 r k := ⟨y 0, y 1, by ext e; fin_cases e <;> rfl⟩
  rw [e0, e1.trans (hh.1 c), e2.trans (hh.2 c), e3, e4, e5]
  exact Cert.MoeRef.result_at H hN (fun k => (H.expert k).symm.trans_lt (R.expert _)) r k

end Cert.Proof.Experts

end
-- ==== Proof.DenseSpec.lean ====
/- The dense feed-forward part row by row: the gated layer added to a row, the per-layer input added to that under a gate
   taken from the normed row, and the norm of the sum. -/
module

public import proofs.«01_k».proof.Proof.ExpertsSpec

@[expose] public section

noncomputable section

namespace Cert.Ffn

open Idealize.ShloMosaic Idealize.ShloMosaic.Pointwise

/-- The inverse root of a row's mean square, the small number added (both numbers as the programs spell them). -/
def scale (v : Fin 1024 → EReal) : EReal :=
  Ideal.rsqrt (Ideal.div (∑ d : Fin 1024, v d * v d) (Ideal.ofBits .f32 0x44800000#32) + Ideal.ofBits .f32 0x358637BD#32)

/-- A row's norm with the weights `g`. -/
def normed (v g : Fin 1024 → EReal) (d : Fin 1024) : EReal := v d * scale v * g d

/-- The gate `1 / (1 + e^(−z))`. -/
def sigm (z : EReal) : EReal := Ideal.div 1 (1 + Ideal.exp (0 - z))

/-- The gated hidden element of a row, from its columns of the two input matrices. -/
def hidden (h g u : Fin 1024 → EReal) : EReal := Moe.gated (∑ d : Fin 1024, h d * g d) (∑ d : Fin 1024, h d * u d)

/-- The layer added to a row: `x` the row, `h` its normed form, `G`, `U`, `D` the matrices. -/
def mid (x h : Fin 1024 → EReal) (G U : Fin 1024 → Fin 3584 → EReal) (D : Fin 3584 → Fin 1024 → EReal) (c : Fin 1024) : EReal :=
  x c + ∑ f : Fin 3584, hidden h (G · f) (U · f) * D f c

/-- The per-layer input `p` added to a row `y` under the gate. -/
def ple (y g : Fin 1024 → EReal) (p : Fin 256 → EReal) (W : Fin 1024 → Fin 1024 → EReal) (Q : Fin 256 → Fin 1024 → EReal)
    (c : Fin 1024) : EReal :=
  y c + sigm (∑ d : Fin 1024, normed y g d * W d c) * ∑ k : Fin 256, p k * Q k c

/-- The first result, from arrays. -/
def out (X H : (⟨2, ![16384, 1024]⟩ : Shape).Idx → EReal) (G U : (⟨2, ![1024, 3584]⟩ : Shape).Idx → EReal)
    (D : (⟨2, ![3584, 1024]⟩ : Shape).Idx → EReal) (P : (⟨2, ![16384, 256]⟩ : Shape).Idx → EReal)
    (W : (⟨2, ![1024, 1024]⟩ : Shape).Idx → EReal) (Q : (⟨2, ![256, 1024]⟩ : Shape).Idx → EReal)
    (g : (⟨1, ![1024]⟩ : Shape).Idx → EReal) (r : Fin 16384) (c : Fin 1024) : EReal :=
  ple (mid (fun d => X (ix2 r d)) (fun d => H (ix2 r d)) (fun d f => G (ix2 d f)) (fun d f => U (ix2 d f)) fun f d => D (ix2 f d))
    (fun d => g (ix1 d)) (fun k => P (ix2 r k)) (fun d e => W (ix2 d e)) (fun k e => Q (ix2 k e)) c

/-- The two halves of the hidden width. -/
theorem mid_halves (x h : Fin 1024 → EReal) (G U : Fin 1024 → Fin 3584 → EReal) (D : Fin 3584 → Fin 1024 → EReal) (c : Fin 1024) :
    mid x h G U D c
      = x c + (∑ f : Fin 1792, hidden h (G · ⟨f.val, by omega⟩) (U · ⟨f.val, by omega⟩) * D ⟨f.val, by omega⟩ c)
        + ∑ f : Fin 1792, hidden h (G · ⟨1792 + f.val, by omega⟩) (U · ⟨1792 + f.val, by omega⟩) * D ⟨1792 + f.val, by omega⟩ c := by
  unfold mid
  rw [add_assoc]
  exact congrArg (x c + ·) (Fin.sum_univ_add (a := 1792) (b := 1792) fun f : Fin (1792 + 1792) => hidden h (G · f) (U · f) * D f c)

end Cert.Ffn

end
-- ==== Proof.DenseNumbers.lean ====
/- The numbers that the steps of the dense feed-forward kernel's body give, element by element. -/
module

public import proofs.«01_k».proof.Proof.Gen.DenseIdeal.Skeleton
public import proofs.«01_k».proof.Proof.Consts
public import proofs.«01_k».proof.Proof.DenseSpec
public import Idealize.ShloMosaic.Lib.Pointwise
public import Idealize.ShloMosaic.Lib.Tactic.CleanTypes

@[expose] public section

set_option maxRecDepth 16384
set_option Elab.async false

noncomputable section

namespace Cert.Ffn

open Cert.DenseIdeal Cert.DenseIdeal.Gen
open Idealize.ShloMosaic Idealize.ShloMosaic.TcCoe Idealize.ShloMosaic.Pointwise

/-- One half of the hidden width added to the accumulator. -/
theorem pay1_apply (h : FVec Ideal S512x1024 .bf16) (wg wu : FVec Ideal S1024x1792 .bf16) (acc : FVec Ideal S512x1024 .f32)
    (wd : FVec Ideal S1792x1024 .bf16) (r : Fin 512) (c : Fin 1024) :
    (k0_pay1 (F := Ideal) h wg wu acc wd (ix2 r c) : EReal) = acc (ix2 r c)
      + ∑ f : Fin 1792, hidden (fun d => h (ix2 r d)) (fun d => wg (ix2 d f)) (fun d => wu (ix2 d f)) * wd (ix2 f c) := by
  pointwise [k0_pay1, hidden, Moe.gated, Consts.ofBits_one, Consts.ofBits_zero]

/-- The per-layer input added. -/
theorem pay3_apply (y : FVec Ideal S512x1024 .f32) (g : FVec Ideal S1x1024 .f32) (W : FVec Ideal S1024x1024 .bf16)
    (p : FVec Ideal S512x256 .f32) (Q : FVec Ideal S256x1024 .bf16) (r : Fin 512) (c : Fin 1024) :
    (k0_pay3 (F := Ideal) y g W p Q (ix2 r c) : EReal)
      = ple (fun d => y (ix2 r d)) (fun d => g (ix2 0 d)) (fun k => p (ix2 r k)) (fun d e => W (ix2 d e)) (fun k e => Q (ix2 k e)) c := by
  pointwise [k0_pay3, ple, sigm, normed, scale, Consts.ofBits_one, Consts.ofBits_zero]

/-- The next norm. -/
theorem pay2_apply (y : FVec Ideal S512x1024 .f32) (g : FVec Ideal S1x1024 .f32) (q : FVec Ideal S512x1024 .f32)
    (r : Fin 512) (c : Fin 1024) (hq : ∀ d : Fin 1024, (q (ix2 r d) : EReal) = HMul.hMul (α := EReal) (y (ix2 r d)) (y (ix2 r d))) :
    (k0_pay2 (F := Ideal) y (k0_pay4 (F := Ideal) g) q (ix2 r c) : EReal)
      = normed (fun d => y (ix2 r d)) (fun d => g (ix2 0 d)) c := by
  pointwise [k0_pay2, k0_pay4, normed, scale]
  simp only [hq, Consts.ofBits_zero, zero_add]

end Cert.Ffn

end
-- ==== Proof.DenseArray.lean ====
/- What the dense feed-forward kernel's result arrays hold: the two points of a row block leave the first result in the one output
   block and its norm in the other, and the row blocks cover the arrays. -/
module

public import proofs.«01_k».proof.Proof.Gen.DenseIdeal.Value
public import proofs.«01_k».proof.Proof.DenseNumbers
public import Idealize.ShloMosaic.Lib.Pipeline.ValueKit
public import Idealize.ShloMosaic.Lib.StableHlo.ReadAt

@[expose] public section

set_option maxRecDepth 16384

noncomputable section

namespace Cert.Ffn

open Cert.DenseIdeal Cert.DenseIdeal.Gen Idealize.ShloMosaic Idealize.ShloMosaic.TcCoe Idealize.ShloMosaic.Pointwise

variable (m : (ℓ : Loc nD τ sig) → Buf (Elt Ideal) ℓ)

/-! ## What the points leave, as steps of the body -/

/-- The first point of a row block starts from the rows themselves. -/
theorem left_first (c : Dev nD) (t : Fin cfg0.N) (h : t.val % 2 = 0) :
    (outsAt0 m c t.val t.isLt).1
      = k0_pay1 (F := Ideal) (iblk m c 1 t) (iblk m c 2 t) (iblk m c 3 t) (iblk m c 0 t) (iblk m c 4 t) := by
  rw [outsAt0_A m c t h (by omega)]
  frame_out

/-- The rows once the second half is added. -/
def midAt (c : Dev nD) (t : Fin cfg0.N) : FVec Ideal S512x1024 .f32 :=
  k0_pay1 (F := Ideal) (iblk m c 1 t) (iblk m c 2 t) (iblk m c 3 t)
    (outsAt0 m c (t.val - 1) (Nat.lt_of_le_of_lt (Nat.sub_le _ _) t.isLt)).1 (iblk m c 4 t)

/-- The second point's first output. -/
theorem left_second (c : Dev nD) (t : Fin cfg0.N) (h : t.val % 2 = 1) :
    (outsAt0 m c t.val t.isLt).1
      = k0_pay3 (F := Ideal) (midAt m c t) (iblk m c 8 t) (iblk m c 6 t) (iblk m c 5 t) (iblk m c 7 t) := by
  rw [outsAt0_B m c t (by omega) h]
  frame_out
  rfl

/-- The second point's second output. -/
theorem left_norm (c : Dev nD) (t : Fin cfg0.N) (h : t.val % 2 = 1) :
    (outsAt0 m c t.val t.isLt).2
      = k0_pay2 (F := Ideal) (k0_pay3 (F := Ideal) (midAt m c t) (iblk m c 8 t) (iblk m c 6 t) (iblk m c 5 t) (iblk m c 7 t))
          (k0_pay4 (F := Ideal) (iblk m c 9 t)) (k0_pay5 (F := Ideal) (midAt m c t) (iblk m c 8 t) (iblk m c 6 t) (iblk m c 5 t) (iblk m c 7 t)) := by
  rw [outsAt0_B m c t (by omega) h]
  frame_out
  rfl

/-! ## The blocks, element by element -/

theorem idx0 : ∀ t : Fin grid0.N, win0_0.index t = ![t.val / 2, 0] := by decide +kernel
theorem idx1 : ∀ t : Fin grid0.N, win0_1.index t = ![t.val / 2, 0] := by decide +kernel
theorem idx2 : ∀ t : Fin grid0.N, win0_2.index t = ![0, t.val % 2] := by decide +kernel
theorem idx3 : ∀ t : Fin grid0.N, win0_3.index t = ![0, t.val % 2] := by decide +kernel
theorem idx4 : ∀ t : Fin grid0.N, win0_4.index t = ![t.val % 2, 0] := by decide +kernel
theorem idx5 : ∀ t : Fin grid0.N, win0_5.index t = ![t.val / 2, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![t.val / 2, 0] := by decide +kernel
theorem idx11 : ∀ t : Fin grid0.N, win0_11.index t = ![t.val / 2, 0] := by decide +kernel

section
variable {m}
variable (c : Dev nD) (t : Fin cfg0.N)

theorem x_at (r : Fin 512) (d : Fin 1024) (R : Fin 16384) (hR : R.val = 512 * (t.val / 2) + r.val) :
    iblk m c 0 t (ix2 r d) = m ((c : Thread nD τ).loc main_arg0) (ix2 R d) := by
  blk_ext [iblk, V, idx0 t]

theorem h_at (r : Fin 512) (d : Fin 1024) (R : Fin 16384) (hR : R.val = 512 * (t.val / 2) + r.val) :
    iblk m c 1 t (ix2 r d) = m ((c : Thread nD τ).loc main_arg1) (ix2 R d) := by
  blk_ext [iblk, V, idx1 t]

theorem gate_at (d : Fin 1024) (f : Fin 1792) (K : Fin 3584) (hK : K.val = 1792 * (t.val % 2) + f.val) :
    iblk m c 2 t (ix2 d f) = m ((c : Thread nD τ).loc main_arg2) (ix2 d K) := by
  blk_ext [iblk, V, idx2 t]

theorem up_at (d : Fin 1024) (f : Fin 1792) (K : Fin 3584) (hK : K.val = 1792 * (t.val % 2) + f.val) :
    iblk m c 3 t (ix2 d f) = m ((c : Thread nD τ).loc main_arg3) (ix2 d K) := by
  blk_ext [iblk, V, idx3 t]

theorem down_at (f : Fin 1792) (d : Fin 1024) (K : Fin 3584) (hK : K.val = 1792 * (t.val % 2) + f.val) :
    iblk m c 4 t (ix2 f d) = m ((c : Thread nD τ).loc main_arg4) (ix2 K d) := by
  blk_ext [iblk, V, idx4 t]

theorem input_at (r : Fin 512) (k : Fin 256) (R : Fin 16384) (hR : R.val = 512 * (t.val / 2) + r.val) :
    iblk m c 5 t (ix2 r k) = m ((c : Thread nD τ).loc main_arg5) (ix2 R k) := by
  blk_ext [iblk, V, idx5 t]

theorem open_at (d e : Fin 1024) : iblk m c 6 t (ix2 d e) = m ((c : Thread nD τ).loc main_arg6) (ix2 d e) := by
  blk_ext [iblk, V, idx6 t]

theorem proj_at (k : Fin 256) (e : Fin 1024) : iblk m c 7 t (ix2 k e) = m ((c : Thread nD τ).loc main_arg7) (ix2 k e) := by
  blk_ext [iblk, V, idx7 t]

theorem host_g (d : Fin 1024) : V m c main_v0 (ix2 0 d) = m ((c : Thread nD τ).loc main_arg8) (ix1 d) := by
  unfold V
  after_reads_at

theorem host_next (d : Fin 1024) : V m c main_v1 (ix2 0 d) = m ((c : Thread nD τ).loc main_arg9) (ix1 d) := by
  unfold V
  after_reads_at

theorem g_at (d : Fin 1024) : iblk m c 8 t (ix2 0 d) = m ((c : Thread nD τ).loc main_arg8) (ix1 d) := by
  refine Eq.trans ?_ (host_g c d)
  blk_ext [iblk, idx8 t]

theorem next_at (d : Fin 1024) : iblk m c 9 t (ix2 0 d) = m ((c : Thread nD τ).loc main_arg9) (ix1 d) := by
  refine Eq.trans ?_ (host_next c d)
  blk_ext [iblk, idx9 t]

end

/-! ## The points, by the row formulas -/

section
variable {m}
variable (c : Dev nD) (t : Fin cfg0.N)

/-- The layer added to row `R` of the arguments. -/
abbrev midOf (m : (ℓ : Loc nD τ sig) → Buf (Elt Ideal) ℓ) (c : Dev nD) (R : Fin 16384) : Fin 1024 → EReal :=
  mid (fun d => m ((c : Thread nD τ).loc main_arg0) (ix2 R d)) (fun d => m ((c : Thread nD τ).loc main_arg1) (ix2 R d))
    (fun d f => m ((c : Thread nD τ).loc main_arg2) (ix2 d f)) (fun d f => m ((c : Thread nD τ).loc main_arg3) (ix2 d f))
    fun f d => m ((c : Thread nD τ).loc main_arg4) (ix2 f d)

/-- The first result's row `R`. -/
abbrev outOf (m : (ℓ : Loc nD τ sig) → Buf (Elt Ideal) ℓ) (c : Dev nD) (R : Fin 16384) : Fin 1024 → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) R

/-- A point's half of the hidden width. -/
theorem half_at (acc : FVec Ideal S512x1024 .f32) (r : Fin 512) (k : Fin 1024) (R : Fin 16384) (hR : R.val = 512 * (t.val / 2) + r.val) :
    (k0_pay1 (F := Ideal) (iblk m c 1 t) (iblk m c 2 t) (iblk m c 3 t) acc (iblk m c 4 t) (ix2 r k) : EReal)
      = acc (ix2 r k) + ∑ f : Fin 1792, HMul.hMul (α := EReal) (β := EReal)
          (hidden (fun d => m ((c : Thread nD τ).loc main_arg1) (ix2 R d))
            (fun d => m ((c : Thread nD τ).loc main_arg2) (ix2 d ⟨1792 * (t.val % 2) + f.val, by omega⟩))
            fun d => m ((c : Thread nD τ).loc main_arg3) (ix2 d ⟨1792 * (t.val % 2) + f.val, by omega⟩))
          (m ((c : Thread nD τ).loc main_arg4) (ix2 ⟨1792 * (t.val % 2) + f.val, by omega⟩ k)) := by
  rw [pay1_apply]
  refine congrArg (acc (ix2 r k) + ·) (Finset.sum_congr rfl fun f _ => ?_)
  refine congrArg₂ (HMul.hMul (α := EReal) (β := EReal)) ?_ (down_at c t f k _ rfl)
  congr 1
  · exact funext fun d => h_at c t r d R hR
  · exact funext fun d => gate_at c t d f _ rfl
  · exact funext fun d => up_at c t d f _ rfl

/-- After both halves the rows hold the layer added. -/
theorem mid_at (h : t.val % 2 = 1) (r : Fin 512) (k : Fin 1024) (R : Fin 16384) (hR : R.val = 512 * (t.val / 2) + r.val) :
    (midAt m c t (ix2 r k) : EReal) = midOf m c R k := by
  have hp : t.val - 1 < cfg0.N := Nat.lt_of_le_of_lt (Nat.sub_le _ _) t.isLt
  have h2 : (t.val - 1) % 2 = 0 := by omega
  have e : (outsAt0 m c (t.val - 1) hp).1 = _ := left_first m c ⟨t.val - 1, hp⟩ h2
  unfold midAt
  rw [half_at c t _ r k R hR, e, half_at c ⟨t.val - 1, hp⟩ _ r k R (by show R.val = 512 * ((t.val - 1) / 2) + r.val; omega),
    x_at c ⟨t.val - 1, hp⟩ r k R (by show R.val = 512 * ((t.val - 1) / 2) + r.val; omega)]
  unfold midOf
  rw [mid_halves]
  simp only [h, h2, Nat.mul_zero, Nat.zero_add, Nat.mul_one]

/-- The second point leaves the first result. -/
theorem first_at (h : t.val % 2 = 1) (r : Fin 512) (k : Fin 1024) (R : Fin 16384) (hR : R.val = 512 * (t.val / 2) + r.val) :
    (k0_pay3 (F := Ideal) (midAt m c t) (iblk m c 8 t) (iblk m c 6 t) (iblk m c 5 t) (iblk m c 7 t) (ix2 r k) : EReal) = outOf m c R k := by
  rw [pay3_apply]
  unfold outOf out
  congr 1
  · exact funext fun d => mid_at c t h r d R hR
  · exact funext fun d => g_at c t d
  · exact funext fun d => input_at c t r d R hR
  · exact funext fun d => funext fun e => open_at c t d e
  · exact funext fun d => funext fun e => proj_at c t d e

/-- The second point leaves the first result's norm. -/
theorem second_at (h : t.val % 2 = 1) (r : Fin 512) (k : Fin 1024) (R : Fin 16384) (hR : R.val = 512 * (t.val / 2) + r.val) :
    ((outsAt0 m c t.val t.isLt).2 (ix2 r k) : EReal)
      = normed (outOf m c R) (fun d => m ((c : Thread nD τ).loc main_arg9) (ix1 d)) k := by
  rw [left_norm m c t h, pay2_apply _ _ _ r k fun d => rfl]
  congr 1
  · exact funext fun d => first_at c t h r d R hR
  · exact funext fun d => next_at c t d

end

/-! ## The arrays -/

/-- The first result as an array. -/
def firstOf (c : Dev nD) : Vec Ideal S16384x1024 .f32 := fun y => outOf m c (y 0) (y 1)

/-- The second result as an array. -/
def secondOf (c : Dev nD) : Vec Ideal S16384x1024 .bf16 := fun y =>
  normed (outOf m c (y 0)) (fun d => m ((c : Thread nD τ).loc main_arg9) (ix1 d)) (y 1)

/-- THE KERNEL'S FIRST RESULT ARRAY after the run. -/
theorem array_first (c : Dev nD) : (dats m 0 c).arrAt 10 cfg0.N = firstOf m c := by
  refine (dats m 0 c).arrAt_eq_of_covers 10 _ (by decide +kernel) fun t hf y => ?_
  have ht : t.val < 64 := t.isLt
  have hp := (flush0_10 t).mp hf
  blk_simp
  rw [after0_10, left_second m c t hp]
  obtain ⟨r, k, rfl⟩ : ∃ (r : Fin 512) (k : Fin 1024), y = ix2 r k := ⟨y 0, y 1, by ext e; fin_cases e <;> rfl⟩
  refine (first_at c t hp r k ⟨512 * (t.val / 2) + r.val, by omega⟩ rfl).trans ?_
  show firstOf m c (ix2 ⟨512 * (t.val / 2) + r.val, by omega⟩ k) = _
  blk_ext [idx10 t]

/-- THE KERNEL'S SECOND RESULT ARRAY after the run. -/
theorem array_second (c : Dev nD) : (dats m 0 c).arrAt 11 cfg0.N = secondOf m c := by
  refine (dats m 0 c).arrAt_eq_of_covers 11 _ (by decide +kernel) fun t hf y => ?_
  have ht : t.val < 64 := t.isLt
  have hp := (flush0_11 t).mp hf
  blk_simp
  rw [after0_11]
  obtain ⟨r, k, rfl⟩ : ∃ (r : Fin 512) (k : Fin 1024), y = ix2 r k := ⟨y 0, y 1, by ext e; fin_cases e <;> rfl⟩
  refine (second_at c t hp r k ⟨512 * (t.val / 2) + r.val, by omega⟩ rfl).trans ?_
  show secondOf m c (ix2 ⟨512 * (t.val / 2) + r.val, by omega⟩ k) = _
  blk_ext [idx11 t]

end Cert.Ffn

end
-- ==== Proof.DenseRef.lean ====
/- The dense feed-forward part's reference, its operations grouped into steps over whole arrays, each step read at an index, and
   the whole of it: the row formulas. -/
module

public import proofs.«01_k».proof.Proof.Gen.DenseReferenceIdeal.Run
public import proofs.«01_k».proof.Proof.Consts
public import proofs.«01_k».proof.Proof.DenseSpec
public import Idealize.ShloMosaic.Lib.Pointwise
public import Idealize.ShloMosaic.Lib.Tactic.CleanTypes

@[expose] public section

set_option maxRecDepth 16384

noncomputable section

namespace Cert.FfnRef

open Cert.DenseReferenceIdeal Cert.DenseReferenceIdeal.Gen Idealize.ShloMosaic Idealize.ShloMosaic.TcCoe Idealize.ShloMosaic.Pointwise
open Cert.Ffn (mid ple normed scale sigm out)

section Steps
variable {F : FTy → Type} [FloatOps F]

/-- The rows into the hidden width. -/
def into (H : FVec F S16384x1024 .bf16) (W : FVec F S1024x3584 .bf16) : FVec F S16384x3584 .f32 :=
  Host.dotGeneral dot_S16384x1024_S1024x3584_S16384x3584_1_0_0_1_n_n none (extf .f32 H bitsLt_bf16_f32) (extf .f32 W bitsLt_bf16_f32)

/-- The gated product. -/
def gate (v w : FVec F S16384x3584 .f32) : FVec F S16384x3584 .f32 :=
  mulf (mulf v (Host.divf (broadcastInDim S16384x3584 ![] bcast_S_S16384x3584 (constant S_ .f32 0x3F800000#32))
    (addf (broadcastInDim S16384x3584 ![] bcast_S_S16384x3584 (constant S_ .f32 0x3F800000#32)) (Host.exp (Host.negf v))))) w

/-- The layer added to the rows. -/
def added (X : FVec F S16384x1024 .f32) (h : FVec F S16384x3584 .f32) (D : FVec F S3584x1024 .bf16) : FVec F S16384x1024 .f32 :=
  addf X (Host.dotGeneral dot_S16384x3584_S3584x1024_S16384x1024_1_0_0_1_n_n none h (extf .f32 D bitsLt_bf16_f32))

/-- The rows' norm. -/
def norm (Y : FVec F S16384x1024 .f32) (g : FVec F S1024 .f32) : FVec F S16384x1024 .f32 :=
  mulf (mulf Y (broadcastInDim S16384x1024 ![0, 1] bcast_S16384x1_S16384x1024_0_1 (Host.rsqrt (addf
      (Host.divf (broadcastInDim S16384x1 ![0] bcast_S16384_S16384x1_0
          (Host.reduceAdd (mulf Y Y) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The gate of the per-layer input. -/
def open' (N : FVec F S16384x1024 .f32) (W : FVec F S1024x1024 .bf16) : FVec F S16384x1024 .f32 :=
  Host.divf (broadcastInDim S16384x1024 ![] bcast_S_S16384x1024 (constant S_ .f32 0x3F800000#32))
    (addf (broadcastInDim S16384x1024 ![] bcast_S_S16384x1024 (constant S_ .f32 0x3F800000#32)) (Host.exp (Host.negf
      (Host.dotGeneral dot_S16384x1024_S1024x1024_S16384x1024_1_0_0_1_n_n none N (extf .f32 W bitsLt_bf16_f32)))))

/-- The per-layer input added. -/
def fed (Y s : FVec F S16384x1024 .f32) (P : FVec F S16384x256 .f32) (Q : FVec F S256x1024 .bf16) : FVec F S16384x1024 .f32 :=
  addf Y (mulf s (Host.dotGeneral dot_S16384x256_S256x1024_S16384x1024_1_0_0_1_n_n none P (extf .f32 Q bitsLt_bf16_f32)))

/-- The first result from the arguments. -/
def first (X : FVec F S16384x1024 .f32) (H : FVec F S16384x1024 .bf16) (G U : FVec F S1024x3584 .bf16) (D : FVec F S3584x1024 .bf16)
    (P : FVec F S16384x256 .f32) (W : FVec F S1024x1024 .bf16) (Q : FVec F S256x1024 .bf16) (g : FVec F S1024 .f32) :
    FVec F S16384x1024 .f32 :=
  fed (added X (gate (into H G) (into H U)) D) (open' (norm (added X (gate (into H G) (into H U)) D) g) W) P Q

end Steps

theorem into_apply (H : FVec Ideal S16384x1024 .bf16) (W : FVec Ideal S1024x3584 .bf16) (r : Fin 16384) (f : Fin 3584) :
    (into H W (ix2 r f) : EReal) = ∑ d : Fin 1024, (H (ix2 r d) : EReal) * W (ix2 d f) := by
  pointwise [into]

theorem gate_apply (v w : FVec Ideal S16384x3584 .f32) (r : Fin 16384) (f : Fin 3584) :
    (gate v w (ix2 r f) : EReal) = Moe.gated (v (ix2 r f)) (w (ix2 r f)) := by
  pointwise [gate, Moe.gated, Consts.ofBits_one]
  rw [zero_sub]

theorem added_apply (X : FVec Ideal S16384x1024 .f32) (h : FVec Ideal S16384x3584 .f32) (D : FVec Ideal S3584x1024 .bf16) (r : Fin 16384)
    (c : Fin 1024) : (added X h D (ix2 r c) : EReal) = X (ix2 r c) + ∑ f : Fin 3584, (h (ix2 r f) : EReal) * D (ix2 f c) := by
  pointwise [added]

theorem norm_apply (Y : FVec Ideal S16384x1024 .f32) (g : FVec Ideal S1024 .f32) (r : Fin 16384) (c : Fin 1024) :
    (norm Y g (ix2 r c) : EReal) = normed (fun d => Y (ix2 r d)) (fun d => g (ix1 d)) c := by
  pointwise [norm, normed, scale, Consts.ofBits_zero]

theorem open_apply (N : FVec Ideal S16384x1024 .f32) (W : FVec Ideal S1024x1024 .bf16) (r : Fin 16384) (c : Fin 1024) :
    (open' N W (ix2 r c) : EReal) = sigm (∑ d : Fin 1024, (N (ix2 r d) : EReal) * W (ix2 d c)) := by
  pointwise [open', sigm, Consts.ofBits_one]
  rw [zero_sub]

theorem fed_apply (Y s : FVec Ideal S16384x1024 .f32) (P : FVec Ideal S16384x256 .f32) (Q : FVec Ideal S256x1024 .bf16) (r : Fin 16384)
    (c : Fin 1024) : (fed Y s P Q (ix2 r c) : EReal) = Y (ix2 r c) + s (ix2 r c) * ∑ k : Fin 256, (P (ix2 r k) : EReal) * Q (ix2 k c) := by
  pointwise [fed]

variable (X : FVec Ideal S16384x1024 .f32) (H : FVec Ideal S16384x1024 .bf16) (G U : FVec Ideal S1024x3584 .bf16)
  (D : FVec Ideal S3584x1024 .bf16) (P : FVec Ideal S16384x256 .f32) (W : FVec Ideal S1024x1024 .bf16) (Q : FVec Ideal S256x1024 .bf16)
  (g gn : FVec Ideal S1024 .f32)

/-- The layer added, row by row. -/
theorem mid_at (r : Fin 16384) (c : Fin 1024) : (added X (gate (into H G) (into H U)) D (ix2 r c) : EReal)
    = mid (fun d => X (ix2 r d)) (fun d => H (ix2 r d)) (fun d f => G (ix2 d f)) (fun d f => U (ix2 d f)) (fun f d => D (ix2 f d)) c := by
  rw [added_apply, mid]
  refine congrArg (X (ix2 r c) + ·) (Finset.sum_congr rfl fun f _ => ?_)
  rw [gate_apply, into_apply, into_apply, Ffn.hidden]

/-- THE REFERENCE'S FIRST RESULT. -/
theorem first_at (r : Fin 16384) (c : Fin 1024) : (first X H G U D P W Q g (ix2 r c) : EReal) = out X H G U D P W Q g r c := by
  rw [first, fed_apply, open_apply, out, ple]
  simp only [norm_apply, mid_at]

/-- THE REFERENCE'S SECOND RESULT, before the cast. -/
theorem second_at (r : Fin 16384) (c : Fin 1024) :
    (norm (first X H G U D P W Q g) gn (ix2 r c) : EReal) = normed (out X H G U D P W Q g r) (fun d => gn (ix1 d)) c := by
  rw [norm_apply]
  simp only [first_at]

end Cert.FfnRef

end
-- ==== Proof.DenseClaims.lean ====
/- The claims on the dense feed-forward part: the frames, and the equation: kernel and reference both end with the row formulas of
   the arrays they were launched with. -/
module

public import proofs.«01_k».proof.Defs
public import proofs.«01_k».proof.Proof.Gen.Dense.Frame
public import proofs.«01_k».proof.Proof.DenseArray
public import proofs.«01_k».proof.Proof.DenseRef
public import Idealize.ShloMosaic.Lib.Quiescent

@[expose] public section

noncomputable section

open Idealize.ShloMosaic Idealize.ShloMosaic.TcCoe Idealize.SL.Sem Idealize.ShloMosaic.Pointwise

namespace Cert.Proof.Dense

theorem frame_p : Cert.quiescent_Dense := fun m ρ _ => Cert.Dense.Gen.frame m ρ
theorem frame_pi : Cert.quiescent_DenseIdeal := fun m ρ _ => Cert.DenseIdeal.Gen.frame m ρ
theorem frame_ri : Cert.quiescent_DenseReferenceIdeal := fun m ρ _ =>
  (θ_run Cert.DenseReferenceIdeal.defs _ _).mono (fun r h => ⟨fun c => (h c).2.2,
      Idealize.ShloMosaic.sem_eq_zero_of_no_sems (by decide) r.2⟩)
    (Cert.DenseReferenceIdeal.Value.run (F := Ideal) m ρ)

/-- The ideal kernel is the kernel's own text. -/
theorem preserves : Cert.preserves_Dense_DenseIdeal := trivial

/-- Kernel and reference, over the extended reals, end with equal results. -/
theorem algebraic : Cert.algebraic_DenseIdeal_DenseReferenceIdeal := by
  intro m ρ m' ρ' _ hagree
  refine ⟨fun c => Cert.Ffn.firstOf m c, fun c => Cert.Ffn.secondOf m c,
    (θ_run Cert.DenseIdeal.defs _ _).mono (fun _ h c => ⟨(h c).1.trans (Cert.Ffn.array_first m c),
      (h c).2.1.trans (Cert.Ffn.array_second m c), (h c).2.2⟩) (Cert.DenseIdeal.Value.run_blocks (F := Ideal) m ρ), ?_⟩
  refine (θ_run Cert.DenseReferenceIdeal.defs _ _).mono (fun _ h c => ⟨(h c).1.trans ?_, (h c).2.1.trans ?_, (h c).2.2⟩)
    (Cert.DenseReferenceIdeal.Value.run (F := Ideal) m' ρ')
  · obtain ⟨e0, e1, e2, e3, e4, e5, e6, e7, e8, _⟩ := hagree c
    unfold Cert.DenseReferenceIdeal.Value.res_main_v34
    rw [e0, e1, e2, e3, e4, e5, e6, e7, e8]
    funext y
    obtain ⟨r, k, rfl⟩ : ∃ (r : Fin 16384) (k : Fin 1024), y = ix2 r k := ⟨y 0, y 1, by ext e; fin_cases e <;> rfl⟩
    exact Cert.FfnRef.first_at _ _ _ _ _ _ _ _ _ r k
  · obtain ⟨e0, e1, e2, e3, e4, e5, e6, e7, e8, e9⟩ := hagree c
    unfold Cert.DenseReferenceIdeal.Value.res_main_v48
    rw [e0, e1, e2, e3, e4, e5, e6, e7, e8, e9]
    funext y
    obtain ⟨r, k, rfl⟩ : ∃ (r : Fin 16384) (k : Fin 1024), y = ix2 r k := ⟨y 0, y 1, by ext e; fin_cases e <;> rfl⟩
    exact Cert.FfnRef.second_at _ _ _ _ _ _ _ _ _ _ r k

end Cert.Proof.Dense

end
-- ==== Proof.MergeSpec.lean ====
/- The merge row by row: the two branches, each through its matrix and under its gate, their sum through the output matrix and
   added to the row. -/
module

public import proofs.«01_k».proof.Proof.DenseSpec

@[expose] public section

noncomputable section

namespace Cert.Join

open Idealize.ShloMosaic Idealize.ShloMosaic.Pointwise
open Cert.Ffn (sigm)

/-- One merged element: `h` the normed row, `a` and `b` the branches' rows, `G` and `K` the columns of their gates, `A` and `B`
    the columns of their matrices. -/
def merged (h : Fin 1024 → EReal) (a b : Fin 512 → EReal) (G K : Fin 1024 → EReal) (A B : Fin 512 → EReal) : EReal :=
  sigm (∑ d : Fin 1024, h d * G d) * (∑ k : Fin 512, a k * A k) + sigm (∑ d : Fin 1024, h d * K d) * ∑ k : Fin 512, b k * B k

/-- The row with the merge added. -/
def row (x h : Fin 1024 → EReal) (a b : Fin 512 → EReal) (W : Fin 1024 → Fin 2048 → EReal) (A B : Fin 512 → Fin 1024 → EReal)
    (O : Fin 1024 → Fin 1024 → EReal) (c : Fin 1024) : EReal :=
  x c + ∑ e : Fin 1024, merged h a b (W · ⟨e.val, by omega⟩) (W · ⟨1024 + e.val, by omega⟩) (A · e) (B · e) * O e c

/-- The first result, from arrays. -/
def out (X H : (⟨2, ![16384, 1024]⟩ : Shape).Idx → EReal) (P Q : (⟨2, ![16384, 512]⟩ : Shape).Idx → EReal)
    (W : (⟨2, ![1024, 2048]⟩ : Shape).Idx → EReal) (A B : (⟨2, ![512, 1024]⟩ : Shape).Idx → EReal)
    (O : (⟨2, ![1024, 1024]⟩ : Shape).Idx → EReal) (r : Fin 16384) (c : Fin 1024) : EReal :=
  row (fun d => X (ix2 r d)) (fun d => H (ix2 r d)) (fun k => P (ix2 r k)) (fun k => Q (ix2 r k)) (fun d e => W (ix2 d e))
    (fun k e => A (ix2 k e)) (fun k e => B (ix2 k e)) (fun d e => O (ix2 d e)) c

end Cert.Join

end
-- ==== Proof.MergeNumbers.lean ====
/- The numbers that the steps of the merge kernel's body give, element by element. -/
module

public import proofs.«01_k».proof.Proof.Gen.MergeIdeal.Skeleton
public import proofs.«01_k».proof.Proof.Consts
public import proofs.«01_k».proof.Proof.MergeSpec
public import Idealize.ShloMosaic.Lib.Pointwise
public import Idealize.ShloMosaic.Lib.Tactic.CleanTypes

@[expose] public section

set_option maxRecDepth 16384
set_option Elab.async false

noncomputable section

namespace Cert.Join

open Cert.MergeIdeal Cert.MergeIdeal.Gen
open Idealize.ShloMosaic Idealize.ShloMosaic.TcCoe Idealize.ShloMosaic.Pointwise
open Cert.Ffn (sigm normed scale)

/-- The merge added to the rows. -/
theorem pay2_apply (h : FVec Ideal S512x1024 .bf16) (W : FVec Ideal S1024x2048 .bf16) (a : FVec Ideal S512x512 .bf16)
    (A : FVec Ideal S512x1024 .bf16) (b : FVec Ideal S512x512 .bf16) (B : FVec Ideal S512x1024 .bf16) (x : FVec Ideal S512x1024 .f32)
    (O : FVec Ideal S1024x1024 .bf16) (r : Fin 512) (c : Fin 1024) :
    (k0_pay2 (F := Ideal) h W a A b B x O (ix2 r c) : EReal)
      = row (fun d => x (ix2 r d)) (fun d => h (ix2 r d)) (fun k => a (ix2 r k)) (fun k => b (ix2 r k)) (fun d e => W (ix2 d e))
          (fun k e => A (ix2 k e)) (fun k e => B (ix2 k e)) (fun d e => O (ix2 d e)) c := by
  pointwise [k0_pay2, row, merged, sigm, Consts.ofBits_one, Consts.ofBits_zero]

/-- The next norm. -/
theorem pay1_apply (y : FVec Ideal S512x1024 .f32) (g : FVec Ideal S1x1024 .f32) (r : Fin 512) (c : Fin 1024) :
    (k0_pay1 (F := Ideal) y g (ix2 r c) : EReal) = normed (fun d => y (ix2 r d)) (fun d => g (ix2 0 d)) c := by
  pointwise [k0_pay1, normed, scale, Consts.ofBits_zero]

end Cert.Join

end
-- ==== Proof.MergeArray.lean ====
/- What the merge kernel's result arrays hold: a point leaves the rows of its block in one output block and their norm in the
   other, and the blocks cover the arrays. -/
module

public import proofs.«01_k».proof.Proof.Gen.MergeIdeal.Value
public import proofs.«01_k».proof.Proof.MergeNumbers
public import Idealize.ShloMosaic.Lib.Pipeline.ValueKit
public import Idealize.ShloMosaic.Lib.StableHlo.ReadAt

@[expose] public section

set_option maxRecDepth 16384

noncomputable section

namespace Cert.Join

open Cert.MergeIdeal Cert.MergeIdeal.Gen Idealize.ShloMosaic Idealize.ShloMosaic.TcCoe Idealize.ShloMosaic.Pointwise
open Cert.Ffn (normed)

variable (m : (ℓ : Loc nD τ sig) → Buf (Elt Ideal) ℓ)

/-! ## What a point leaves, as steps of the body -/

/-- The rows with the merge added. -/
def rows (c : Dev nD) (t : Fin cfg0.N) : FVec Ideal S512x1024 .f32 :=
  k0_pay2 (F := Ideal) (iblk m c 1 t) (iblk m c 4 t) (iblk m c 2 t) (iblk m c 5 t) (iblk m c 3 t) (iblk m c 6 t) (iblk m c 0 t) (iblk m c 7 t)

theorem left_rows (c : Dev nD) (t : Fin cfg0.N) : (dats m 0 c).after 9 t = rows m c t := by
  rw [after0_9]
  unfold out0_9 k0_pay3
  frame_out
  rfl

theorem left_norm (c : Dev nD) (t : Fin cfg0.N) : (dats m 0 c).after 10 t = k0_pay1 (F := Ideal) (rows m c t) (iblk m c 8 t) := by
  rw [after0_10]
  unfold out0_10 k0_pay3
  frame_out
  rfl

/-! ## The blocks, element by element -/

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![t.val, 0] := by decide +kernel
theorem idx10 : ∀ t : Fin grid0.N, win0_10.index t = ![t.val, 0] := by decide +kernel

section
variable {m}
variable (c : Dev nD) (t : Fin cfg0.N)

theorem x_at (r : Fin 512) (d : Fin 1024) (R : Fin 16384) (hR : R.val = 512 * t.val + r.val) :
    iblk m c 0 t (ix2 r d) = m ((c : Thread nD τ).loc main_arg0) (ix2 R d) := by
  blk_ext [iblk, V, idx0 t]

theorem h_at (r : Fin 512) (d : Fin 1024) (R : Fin 16384) (hR : R.val = 512 * t.val + r.val) :
    iblk m c 1 t (ix2 r d) = m ((c : Thread nD τ).loc main_arg1) (ix2 R d) := by
  blk_ext [iblk, V, idx1 t]

theorem mla_at (r : Fin 512) (k : Fin 512) (R : Fin 16384) (hR : R.val = 512 * t.val + r.val) :
    iblk m c 2 t (ix2 r k) = m ((c : Thread nD τ).loc main_arg2) (ix2 R k) := by
  blk_ext [iblk, V, idx2 t]

theorem dil_at (r : Fin 512) (k : Fin 512) (R : Fin 16384) (hR : R.val = 512 * t.val + r.val) :
    iblk m c 3 t (ix2 r k) = m ((c : Thread nD τ).loc main_arg3) (ix2 R k) := by
  blk_ext [iblk, V, idx3 t]

theorem gates_at (d : Fin 1024) (e : Fin 2048) : iblk m c 4 t (ix2 d e) = m ((c : Thread nD τ).loc main_arg4) (ix2 d e) := by
  blk_ext [iblk, V, idx4 t]

theorem wmla_at (k : Fin 512) (e : Fin 1024) : iblk m c 5 t (ix2 k e) = m ((c : Thread nD τ).loc main_arg5) (ix2 k e) := by
  blk_ext [iblk, V, idx5 t]

theorem wdil_at (k : Fin 512) (e : Fin 1024) : iblk m c 6 t (ix2 k e) = m ((c : Thread nD τ).loc main_arg6) (ix2 k e) := by
  blk_ext [iblk, V, idx6 t]

theorem wout_at (d e : Fin 1024) : iblk m c 7 t (ix2 d e) = m ((c : Thread nD τ).loc main_arg7) (ix2 d e) := by
  blk_ext [iblk, V, idx7 t]

theorem host_next (d : Fin 1024) : V m c main_v0 (ix2 0 d) = m ((c : Thread nD τ).loc main_arg8) (ix1 d) := by
  unfold V
  after_reads_at

theorem next_at (d : Fin 1024) : iblk m c 8 t (ix2 0 d) = m ((c : Thread nD τ).loc main_arg8) (ix1 d) := by
  refine Eq.trans ?_ (host_next c d)
  blk_ext [iblk, idx8 t]

end

/-! ## The points, by the row formulas -/

section
variable {m}
variable (c : Dev nD) (t : Fin cfg0.N)

/-- The first result's row `R`. -/
abbrev outOf (m : (ℓ : Loc nD τ sig) → Buf (Elt Ideal) ℓ) (c : Dev nD) (R : Fin 16384) : Fin 1024 → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) R

theorem first_at (r : Fin 512) (k : Fin 1024) (R : Fin 16384) (hR : R.val = 512 * t.val + r.val) :
    (rows m c t (ix2 r k) : EReal) = outOf m c R k := by
  unfold rows
  rw [pay2_apply]
  unfold outOf out
  congr 1
  · exact funext fun d => x_at c t r d R hR
  · exact funext fun d => h_at c t r d R hR
  · exact funext fun d => mla_at c t r d R hR
  · exact funext fun d => dil_at c t r d R hR
  · exact funext fun d => funext fun e => gates_at c t d e
  · exact funext fun d => funext fun e => wmla_at c t d e
  · exact funext fun d => funext fun e => wdil_at c t d e
  · exact funext fun d => funext fun e => wout_at c t d e

theorem second_at (r : Fin 512) (k : Fin 1024) (R : Fin 16384) (hR : R.val = 512 * t.val + r.val) :
    (k0_pay1 (F := Ideal) (rows m c t) (iblk m c 8 t) (ix2 r k) : EReal)
      = normed (outOf m c R) (fun d => m ((c : Thread nD τ).loc main_arg8) (ix1 d)) k := by
  rw [pay1_apply]
  congr 1
  · exact funext fun d => first_at c t r d R hR
  · exact funext fun d => next_at c t d

end

/-! ## The arrays -/

/-- The first result as an array. -/
def firstOf (c : Dev nD) : Vec Ideal S16384x1024 .f32 := fun y => outOf m c (y 0) (y 1)

/-- The second result as an array. -/
def secondOf (c : Dev nD) : Vec Ideal S16384x1024 .bf16 := fun y =>
  normed (outOf m c (y 0)) (fun d => m ((c : Thread nD τ).loc main_arg8) (ix1 d)) (y 1)

/-- THE KERNEL'S FIRST RESULT ARRAY after the run. -/
theorem array_first (c : Dev nD) : (dats m 0 c).arrAt 9 cfg0.N = firstOf m c := by
  refine (dats m 0 c).arrAt_eq_of_covers 9 _ (by decide +kernel) fun t hf y => ?_
  have ht : t.val < 32 := t.isLt
  blk_simp
  rw [left_rows]
  obtain ⟨r, k, rfl⟩ : ∃ (r : Fin 512) (k : Fin 1024), y = ix2 r k := ⟨y 0, y 1, by ext e; fin_cases e <;> rfl⟩
  refine (first_at c t r k ⟨512 * t.val + r.val, by omega⟩ rfl).trans ?_
  show firstOf m c (ix2 ⟨512 * t.val + r.val, by omega⟩ k) = _
  blk_ext [idx9 t]

/-- THE KERNEL'S SECOND RESULT ARRAY after the run. -/
theorem array_second (c : Dev nD) : (dats m 0 c).arrAt 10 cfg0.N = secondOf m c := by
  refine (dats m 0 c).arrAt_eq_of_covers 10 _ (by decide +kernel) fun t hf y => ?_
  have ht : t.val < 32 := t.isLt
  blk_simp
  rw [left_norm]
  obtain ⟨r, k, rfl⟩ : ∃ (r : Fin 512) (k : Fin 1024), y = ix2 r k := ⟨y 0, y 1, by ext e; fin_cases e <;> rfl⟩
  refine (second_at c t r k ⟨512 * t.val + r.val, by omega⟩ rfl).trans ?_
  show secondOf m c (ix2 ⟨512 * t.val + r.val, by omega⟩ k) = _
  blk_ext [idx10 t]

end Cert.Join

end
-- ==== Proof.MergeRef.lean ====
/- The merge's reference, its operations grouped into steps over whole arrays, each step read at an index, and the whole of it:
   the row formulas. -/
module

public import proofs.«01_k».proof.Proof.Gen.MergeReferenceIdeal.Run
public import proofs.«01_k».proof.Proof.Consts
public import proofs.«01_k».proof.Proof.MergeSpec
public import Idealize.ShloMosaic.Lib.Pointwise
public import Idealize.ShloMosaic.Lib.Tactic.CleanTypes

@[expose] public section

set_option maxRecDepth 16384

noncomputable section

namespace Cert.JoinRef

open Cert.MergeReferenceIdeal Cert.MergeReferenceIdeal.Gen Idealize.ShloMosaic Idealize.ShloMosaic.TcCoe Idealize.ShloMosaic.Pointwise
open Cert.Ffn (normed scale sigm)
open Cert.Join (merged out row)

section Steps
variable {F : FTy → Type} [FloatOps F]

/-- The two gates' inputs, side by side. -/
def gates (H : FVec F S16384x1024 .bf16) (W : FVec F S1024x2048 .bf16) : FVec F S16384x2048 .f32 :=
  Host.dotGeneral dot_S16384x1024_S1024x2048_S16384x2048_1_0_0_1_n_n none (extf .f32 H bitsLt_bf16_f32) (extf .f32 W bitsLt_bf16_f32)

/-- A branch under its gate. -/
def branch (z : FVec F S16384x1024 .f32) (P : FVec F S16384x512 .bf16) (A : FVec F S512x1024 .bf16) : FVec F S16384x1024 .f32 :=
  mulf (Host.divf (broadcastInDim S16384x1024 ![] bcast_S_S16384x1024 (constant S_ .f32 0x3F800000#32))
    (addf (broadcastInDim S16384x1024 ![] bcast_S_S16384x1024 (constant S_ .f32 0x3F800000#32)) (Host.exp (Host.negf z))))
    (Host.dotGeneral dot_S16384x512_S512x1024_S16384x1024_1_0_0_1_n_n none (extf .f32 P bitsLt_bf16_f32) (extf .f32 A bitsLt_bf16_f32))

/-- The merge from the gates' inputs and the branches. -/
def both (Z : FVec F S16384x2048 .f32) (P Q : FVec F S16384x512 .bf16) (A B : FVec F S512x1024 .bf16) : FVec F S16384x1024 .f32 :=
  addf (branch (extractStridedSlice S16384x1024 ![0, 0] Z slices_S16384x2048_S16384x1024_0_0) P A)
    (branch (extractStridedSlice S16384x1024 ![0, 1024] Z slices_S16384x2048_S16384x1024_0_1024) Q B)

/-- The merge added to the rows. -/
def added (X M : FVec F S16384x1024 .f32) (O : FVec F S1024x1024 .bf16) : FVec F S16384x1024 .f32 :=
  addf X (Host.dotGeneral dot_S16384x1024_S1024x1024_S16384x1024_1_0_0_1_n_n none M (extf .f32 O bitsLt_bf16_f32))

/-- The rows' norm. -/
def norm (Y : FVec F S16384x1024 .f32) (g : FVec F S1024 .f32) : FVec F S16384x1024 .f32 :=
  mulf (mulf Y (broadcastInDim S16384x1024 ![0, 1] bcast_S16384x1_S16384x1024_0_1 (Host.rsqrt (addf
      (Host.divf (broadcastInDim S16384x1 ![0] bcast_S16384_S16384x1_0
          (Host.reduceAdd (mulf Y Y) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

end Steps

theorem gates_apply (H : FVec Ideal S16384x1024 .bf16) (W : FVec Ideal S1024x2048 .bf16) (r : Fin 16384) (f : Fin 2048) :
    (gates H W (ix2 r f) : EReal) = ∑ d : Fin 1024, (H (ix2 r d) : EReal) * W (ix2 d f) := by
  pointwise [gates]

theorem branch_apply (z : FVec Ideal S16384x1024 .f32) (P : FVec Ideal S16384x512 .bf16) (A : FVec Ideal S512x1024 .bf16)
    (r : Fin 16384) (c : Fin 1024) :
    (branch z P A (ix2 r c) : EReal) = sigm (z (ix2 r c)) * ∑ k : Fin 512, (P (ix2 r k) : EReal) * A (ix2 k c) := by
  pointwise [branch, sigm, Consts.ofBits_one]
  rw [zero_sub]

theorem left_apply (Z : FVec Ideal S16384x2048 .f32) (r : Fin 16384) (c : Fin 1024) :
    (extractStridedSlice S16384x1024 ![0, 0] Z slices_S16384x2048_S16384x1024_0_0 (ix2 r c) : EReal) = Z (ix2 r ⟨c.val, by omega⟩) := by
  pointwise []

theorem right_apply (Z : FVec Ideal S16384x2048 .f32) (r : Fin 16384) (c : Fin 1024) :
    (extractStridedSlice S16384x1024 ![0, 1024] Z slices_S16384x2048_S16384x1024_0_1024 (ix2 r c) : EReal)
      = Z (ix2 r ⟨1024 + c.val, by omega⟩) := by
  pointwise []

theorem added_apply (X M : FVec Ideal S16384x1024 .f32) (O : FVec Ideal S1024x1024 .bf16) (r : Fin 16384) (c : Fin 1024) :
    (added X M O (ix2 r c) : EReal) = X (ix2 r c) + ∑ e : Fin 1024, (M (ix2 r e) : EReal) * O (ix2 e c) := by
  pointwise [added]

theorem norm_apply (Y : FVec Ideal S16384x1024 .f32) (g : FVec Ideal S1024 .f32) (r : Fin 16384) (c : Fin 1024) :
    (norm Y g (ix2 r c) : EReal) = normed (fun d => Y (ix2 r d)) (fun d => g (ix1 d)) c := by
  pointwise [norm, normed, scale, Consts.ofBits_zero]

variable (X : FVec Ideal S16384x1024 .f32) (H : FVec Ideal S16384x1024 .bf16) (P Q : FVec Ideal S16384x512 .bf16)
  (W : FVec Ideal S1024x2048 .bf16) (A B : FVec Ideal S512x1024 .bf16) (O : FVec Ideal S1024x1024 .bf16) (g : FVec Ideal S1024 .f32)

theorem both_at (r : Fin 16384) (e : Fin 1024) : (both (gates H W) P Q A B (ix2 r e) : EReal)
    = merged (fun d => H (ix2 r d)) (fun k => P (ix2 r k)) (fun k => Q (ix2 r k)) (fun d => W (ix2 d ⟨e.val, by omega⟩))
        (fun d => W (ix2 d ⟨1024 + e.val, by omega⟩)) (fun k => A (ix2 k e)) fun k => B (ix2 k e) := by
  unfold both
  refine (addf_apply ..).trans ?_
  rw [branch_apply, branch_apply, left_apply, right_apply, gates_apply, gates_apply]
  rfl

/-- THE REFERENCE'S FIRST RESULT. -/
theorem first_at (r : Fin 16384) (c : Fin 1024) : (added X (both (gates H W) P Q A B) O (ix2 r c) : EReal) = out X H P Q W A B O r c := by
  rw [added_apply, out, row]
  refine congrArg (X (ix2 r c) + ·) (Finset.sum_congr rfl fun e _ => ?_)
  rw [both_at]

/-- THE REFERENCE'S SECOND RESULT, before the cast. -/
theorem second_at (r : Fin 16384) (c : Fin 1024) :
    (norm (added X (both (gates H W) P Q A B) O) g (ix2 r c) : EReal) = normed (out X H P Q W A B O r) (fun d => g (ix1 d)) c := by
  rw [norm_apply]
  simp only [first_at]

end Cert.JoinRef

end
-- ==== Proof.MergeClaims.lean ====
/- The claims on the merge: the frames, and the equation: kernel and reference both end with the row formulas of the arrays they
   were launched with. -/
module

public import proofs.«01_k».proof.Defs
public import proofs.«01_k».proof.Proof.Gen.Merge.Frame
public import proofs.«01_k».proof.Proof.MergeArray
public import proofs.«01_k».proof.Proof.MergeRef
public import Idealize.ShloMosaic.Lib.Quiescent

@[expose] public section

noncomputable section

open Idealize.ShloMosaic Idealize.ShloMosaic.TcCoe Idealize.SL.Sem Idealize.ShloMosaic.Pointwise

namespace Cert.Proof.Merge

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeReferenceIdeal := fun m ρ _ =>
  (θ_run Cert.MergeReferenceIdeal.defs _ _).mono (fun r h => ⟨fun c => (h c).2.2,
      Idealize.ShloMosaic.sem_eq_zero_of_no_sems (by decide) r.2⟩)
    (Cert.MergeReferenceIdeal.Value.run (F := Ideal) m ρ)

/-- The ideal kernel is the kernel's own text. -/
theorem preserves : Cert.preserves_Merge_MergeIdeal := trivial

/-- Kernel and reference, over the extended reals, end with equal results. -/
theorem algebraic : Cert.algebraic_MergeIdeal_MergeReferenceIdeal := by
  intro m ρ m' ρ' _ hagree
  refine ⟨fun c => Cert.Join.firstOf m c, fun c => Cert.Join.secondOf m c,
    (θ_run Cert.MergeIdeal.defs _ _).mono (fun _ h c => ⟨(h c).1.trans (Cert.Join.array_first m c),
      (h c).2.1.trans (Cert.Join.array_second m c), (h c).2.2⟩) (Cert.MergeIdeal.Value.run_blocks (F := Ideal) m ρ), ?_⟩
  refine (θ_run Cert.MergeReferenceIdeal.defs _ _).mono (fun _ h c => ⟨(h c).1.trans ?_, (h c).2.1.trans ?_, (h c).2.2⟩)
    (Cert.MergeReferenceIdeal.Value.run (F := Ideal) m' ρ')
  · obtain ⟨e0, e1, e2, e3, e4, e5, e6, e7, _⟩ := hagree c
    rw [e0, e1, e2, e3, e4, e5, e6, e7]
    funext y
    obtain ⟨r, k, rfl⟩ : ∃ (r : Fin 16384) (k : Fin 1024), y = ix2 r k := ⟨y 0, y 1, by ext e; fin_cases e <;> rfl⟩
    exact Cert.JoinRef.first_at _ _ _ _ _ _ _ _ r k
  · obtain ⟨e0, e1, e2, e3, e4, e5, e6, e7, e8⟩ := hagree c
    unfold Cert.MergeReferenceIdeal.Value.res_main_v42
    rw [e0, e1, e2, e3, e4, e5, e6, e7, e8]
    funext y
    obtain ⟨r, k, rfl⟩ : ∃ (r : Fin 16384) (k : Fin 1024), y = ix2 r k := ⟨y 0, y 1, by ext e; fin_cases e <;> rfl⟩
    exact Cert.JoinRef.second_at _ _ _ _ _ _ _ _ _ r k

end Cert.Proof.Merge

end
-- ==== Proof.DilatedSpec.lean ====
/- The dilated branch's projection element by element: the heads of the first group, of queries, keys and values. -/
module

public import Idealize.ShloMosaic.Lib.Pointwise

@[expose] public section

noncomputable section

namespace Cert.Dil

open Idealize.ShloMosaic Idealize.ShloMosaic.Pointwise

/-- The column of `w` that lane `l` of slab `j` is projected by: slabs 0 to 3 are the queries', 4 to 7 the keys', 8 to 11 the
    values', each 1536 columns wide with the first group's 512 first. -/
def col (j : Fin 12) (l : Fin 128) : Fin 4608 := ⟨j.val / 4 * 1536 + (j.val % 4 * 128 + l.val), by omega⟩

/-- Row `r`'s product with column `f`. -/
def prod (H : (⟨2, ![16384, 1024]⟩ : Shape).Idx → EReal) (W : (⟨2, ![1024, 4608]⟩ : Shape).Idx → EReal) (r : Fin 16384)
    (f : Fin 4608) : EReal := ∑ d : Fin 1024, H (ix2 r d) * W (ix2 d f)

/-- The result, from arrays. -/
def out (H : (⟨2, ![16384, 1024]⟩ : Shape).Idx → EReal) (W : (⟨2, ![1024, 4608]⟩ : Shape).Idx → EReal) (j : Fin 12) (r : Fin 16384)
    (l : Fin 128) : EReal := prod H W r (col j l)

end Cert.Dil

end
-- ==== Proof.DilatedArray.lean ====
/- What the dilated projection's result array holds: a point keeps its product in scratch, the next point writes it out, and the
   blocks cover the array. -/
module

public import proofs.«01_k».proof.Proof.Gen.DilatedIdeal.Value
public import proofs.«01_k».proof.Proof.Consts
public import proofs.«01_k».proof.Proof.DilatedSpec
public import Idealize.ShloMosaic.Lib.Pipeline.ValueKit
public import Idealize.ShloMosaic.Lib.Pipeline.CanonAppend
public import Idealize.ShloMosaic.Lib.Pipeline.ReadBack
public import Idealize.ShloMosaic.Lib.Tactic.CleanTypes

@[expose] public section

set_option maxRecDepth 16384

noncomputable section

namespace Cert.Dil

open Cert.DilatedIdeal Cert.DilatedIdeal.Gen Idealize.ShloMosaic Idealize.ShloMosaic.TcCoe Idealize.ShloMosaic.Pointwise

variable (m : (ℓ : Loc nD τ sig) → Buf (Elt Ideal) ℓ)

/-! ## The steps of the body, element by element -/

theorem pay7_apply (h : FVec Ideal S2048x1024 .bf16) (w : FVec Ideal S1024x512 .bf16) (r : Fin 2048) (k : Fin 512) :
    (k0_pay7 (F := Ideal) h w (ix2 r k) : EReal) = ∑ d : Fin 1024, (h (ix2 r d) : EReal) * w (ix2 d k) := by
  pointwise [k0_pay7, Consts.ofBits_zero]

/-- A product's slabs of 128 columns. -/
def spread (a : FVec Ideal S2048x512 .f32) : FVec Ideal S4x2048x128 .f32 := fun y =>
  a (ix2 (n0 := 2048) (n1 := 512) ⟨(y 1).val, (y 1).isLt⟩
    ⟨(y 0).val * 128 + (y 2).val, by
      have h0 : (y 0).val < 4 := (y 0).isLt
      have h2 : (y 2).val < 128 := (y 2).isLt
      omega⟩)

/-- The four stores of a product into the scratch, the last first. -/
abbrev kept (a : FVec Ideal S2048x512 .f32) : List (View.Piece (Elt Ideal) S4x2048x128 .f32) :=
  [⟨Rect.unit ![3, 0, 0] ![1, 2048, 128] inb_S4x2048x128_S1x2048x128_3_0_0, k0_pay5 a⟩,
    ⟨Rect.unit ![2, 0, 0] ![1, 2048, 128] inb_S4x2048x128_S1x2048x128_2_0_0, k0_pay4 a⟩,
    ⟨Rect.unit ![1, 0, 0] ![1, 2048, 128] inb_S4x2048x128_S1x2048x128_1_0_0, k0_pay3 a⟩,
    ⟨Rect.unit ![0, 0, 0] ![1, 2048, 128] inb_S4x2048x128_S1x2048x128_0_0_0, k0_pay2 a⟩]

theorem one (x : S1x2048x128.Idx) : ∃ (r : Fin 2048) (l : Fin 128), x = ix3 0 r l :=
  ⟨x 1, x 2, by
    ext e
    fin_cases e
    · have h : (x 0).val < 1 := (x 0).isLt
      show (x 0).val = 0
      omega
    · rfl
    · rfl⟩

theorem pay2_apply (a : FVec Ideal S2048x512 .f32) (r : Fin 2048) (l : Fin 128) :
    k0_pay2 a (ix3 0 r l) = a (ix2 r ⟨l.val, by omega⟩) := by
  pointwise [k0_pay2]

theorem pay3_apply (a : FVec Ideal S2048x512 .f32) (r : Fin 2048) (l : Fin 128) :
    k0_pay3 a (ix3 0 r l) = a (ix2 r ⟨128 + l.val, by omega⟩) := by
  pointwise [k0_pay3]

theorem pay4_apply (a : FVec Ideal S2048x512 .f32) (r : Fin 2048) (l : Fin 128) :
    k0_pay4 a (ix3 0 r l) = a (ix2 r ⟨256 + l.val, by omega⟩) := by
  pointwise [k0_pay4]

theorem pay5_apply (a : FVec Ideal S2048x512 .f32) (r : Fin 2048) (l : Fin 128) :
    k0_pay5 a (ix3 0 r l) = a (ix2 r ⟨384 + l.val, by omega⟩) := by
  pointwise [k0_pay5]

/-- Each store is its part of the spread product. -/
theorem kept_pieces (a : FVec Ideal S2048x512 .f32) : ∀ p ∈ kept a, ∀ x : p.1.shape.Idx, p.2 x = spread a (p.1.emb x) := by
  intro p hp
  simp only [kept, List.mem_cons, List.not_mem_nil, or_false] at hp
  rcases hp with rfl | rfl | rfl | rfl <;> intro x <;> obtain ⟨r, l, rfl⟩ := one x
  · refine (pay5_apply a r l).trans (congrArg a (funext fun b => Fin.ext ?_))
    fin_cases b
    · show r.val = 0 + 1 * r.val
      omega
    · show 384 + l.val = (3 + 1 * 0) * 128 + (0 + 1 * l.val)
      omega
  · refine (pay4_apply a r l).trans (congrArg a (funext fun b => Fin.ext ?_))
    fin_cases b
    · show r.val = 0 + 1 * r.val
      omega
    · show 256 + l.val = (2 + 1 * 0) * 128 + (0 + 1 * l.val)
      omega
  · refine (pay3_apply a r l).trans (congrArg a (funext fun b => Fin.ext ?_))
    fin_cases b
    · show r.val = 0 + 1 * r.val
      omega
    · show 128 + l.val = (1 + 1 * 0) * 128 + (0 + 1 * l.val)
      omega
  · refine (pay2_apply a r l).trans (congrArg a (funext fun b => Fin.ext ?_))
    fin_cases b
    · show r.val = 0 + 1 * r.val
      omega
    · show l.val = (0 + 1 * 0) * 128 + (0 + 1 * l.val)
      omega

/-- The four stores cover the scratch. -/
theorem kept_cover (a : FVec Ideal S2048x512 .f32) (y : S4x2048x128.Idx) : ∃ p ∈ kept a, y ∈ p.1.set :=
  View.cover_of_tiledL (kept a) S1x2048x128.size (by sl_kernel_rfl) y

/-- The product that point `t` takes. -/
abbrev taken (c : Dev nD) (t : Fin cfg0.N) : FVec Ideal S2048x512 .f32 := k0_pay7 (F := Ideal) (iblk m c 0 t) (iblk m c 1 t)

/-- After any point the scratch holds the product of its blocks. -/
theorem scratch (c : Dev nD) (t : Fin cfg0.N) : (outsAt0 m c t.val t.isLt).2 = spread (taken m c t) := by
  by_cases h : t.val % 25 = 0
  · rw [outsAt0_A m c t h]
    frame_out
    funext y
    exact View.canon_append_of_pieces (spread (taken m c t)) [_] (kept (taken m c t)) (kept_pieces _) y (kept_cover _ y)
  · rw [outsAt0_B m c t h]
    frame_out
    funext y
    exact View.canon_apply_of_pieces (spread (taken m c t)) (kept (taken m c t)) (kept_pieces _) y (kept_cover _ y)

theorem pay8_apply (w : FVec Ideal S1x2048x128 .f32) (r : Fin 2048) (l : Fin 128) :
    (k0_pay8 (F := Ideal) w (ix3 0 r l) : EReal) = w (ix3 0 r l) := by
  pointwise [k0_pay8]

theorem pay9_apply (w : FVec Ideal S1x2048x128 .f32) (r : Fin 2048) (l : Fin 128) :
    (k0_pay9 (F := Ideal) w (ix3 0 r l) : EReal) = w (ix3 0 r l) := by
  pointwise [k0_pay9]

theorem pay10_apply (w : FVec Ideal S1x2048x128 .f32) (r : Fin 2048) (l : Fin 128) :
    (k0_pay10 (F := Ideal) w (ix3 0 r l) : EReal) = w (ix3 0 r l) := by
  pointwise [k0_pay10]

theorem pay11_apply (w : FVec Ideal S1x2048x128 .f32) (r : Fin 2048) (l : Fin 128) :
    (k0_pay1 (F := Ideal) (k0_pay11 w) (ix3 0 r l) : EReal) = w (ix3 0 r l) := by
  pointwise [k0_pay1, k0_pay11]

/-- One slab of the scratch. -/
abbrev slab (X : Vec Ideal S4x2048x128 .f32) (o : Fin S4x2048x128.rank → ℕ) (h : ∀ a, o a + ![1, 2048, 128] a ≤ S4x2048x128.size a) :
    Vec Ideal S1x2048x128 .f32 := fun x => X ((Rect.unit o ![1, 2048, 128] h).emb x)

/-- The four stores into the output block, the last first, from what the scratch holds. -/
abbrev wrote (X : Vec Ideal S4x2048x128 .f32) : List (View.Piece (Elt Ideal) S4x2048x128 .bf16) :=
  [⟨Rect.unit ![3, 0, 0] ![1, 2048, 128] inb_S4x2048x128_S1x2048x128_3_0_0,
      k0_pay1 (F := Ideal) (k0_pay11 (slab X ![3, 0, 0] inb_S4x2048x128_S1x2048x128_3_0_0))⟩,
    ⟨Rect.unit ![2, 0, 0] ![1, 2048, 128] inb_S4x2048x128_S1x2048x128_2_0_0,
      k0_pay10 (F := Ideal) (slab X ![2, 0, 0] inb_S4x2048x128_S1x2048x128_2_0_0)⟩,
    ⟨Rect.unit ![1, 0, 0] ![1, 2048, 128] inb_S4x2048x128_S1x2048x128_1_0_0,
      k0_pay9 (F := Ideal) (slab X ![1, 0, 0] inb_S4x2048x128_S1x2048x128_1_0_0)⟩,
    ⟨Rect.unit ![0, 0, 0] ![1, 2048, 128] inb_S4x2048x128_S1x2048x128_0_0_0,
      k0_pay8 (F := Ideal) (slab X ![0, 0, 0] inb_S4x2048x128_S1x2048x128_0_0_0)⟩]

/-- Each of them is its part of the scratch. -/
theorem wrote_pieces (X : Vec Ideal S4x2048x128 .f32) :
    ∀ p ∈ wrote X, ∀ x : p.1.shape.Idx, (p.2 x : EReal) = X (p.1.emb x) := by
  intro p hp
  simp only [wrote, List.mem_cons, List.not_mem_nil, or_false] at hp
  rcases hp with rfl | rfl | rfl | rfl <;> intro x <;> obtain ⟨r, l, rfl⟩ := one x
  · exact pay11_apply (slab X ![3, 0, 0] inb_S4x2048x128_S1x2048x128_3_0_0) r l
  · exact pay10_apply (slab X ![2, 0, 0] inb_S4x2048x128_S1x2048x128_2_0_0) r l
  · exact pay9_apply (slab X ![1, 0, 0] inb_S4x2048x128_S1x2048x128_1_0_0) r l
  · exact pay8_apply (slab X ![0, 0, 0] inb_S4x2048x128_S1x2048x128_0_0_0) r l

/-- They cover the block. -/
theorem wrote_cover (X : Vec Ideal S4x2048x128 .f32) (y : S4x2048x128.Idx) : ∃ p ∈ wrote X, y ∈ p.1.set :=
  View.cover_of_tiledL (wrote X) S1x2048x128.size (by sl_kernel_rfl) y

/-- A later point writes out what the scratch held. -/
theorem written (c : Dev nD) (t : Fin cfg0.N) (h : ¬t.val % 25 = 0) (y : S4x2048x128.Idx) :
    ((outsAt0 m c t.val t.isLt).1 y : EReal)
      = (outsAt0 m c (t.val - 1) (Nat.lt_of_le_of_lt (Nat.sub_le _ _) t.isLt)).2 y := by
  rw [outsAt0_B m c t h]
  frame_out
  generalize (outsAt0 m c (t.val - 1) _).2 = X
  have e : ∀ hw, View.read (Elt Ideal) (View.whole cc0_scratch0) (Memref.IsWhole.unread hw X) = X := fun hw =>
    read_unread_whole cc0_scratch0 hw X
  rw [e]
  exact View.canon_apply_of_pieces (fun y => X y) (wrote X) (wrote_pieces X) y (wrote_cover X y)

/-! ## The input blocks are the arguments' -/

theorem idx0 : ∀ t : Fin grid0.N, win0_0.index t = ![min t.val 23 / 3, 0] := by decide +kernel
theorem idx1 : ∀ t : Fin grid0.N, win0_1.index t = ![0, min t.val 23 % 3 * 3] := by decide +kernel
theorem idx2 : ∀ t : Fin grid0.N, win0_2.index t = ![(t.val - 1) % 3, (t.val - 1) / 3, 0] := by decide +kernel

section
variable {m}
variable (c : Dev nD) (t : Fin cfg0.N)

theorem h_at (r : Fin 2048) (d : Fin 1024) (R : Fin 16384) (hR : R.val = 2048 * (min t.val 23 / 3) + r.val) :
    iblk m c 0 t (ix2 r d) = m ((c : Thread nD τ).loc main_arg0) (ix2 R d) := by
  blk_ext [iblk, V, idx0 t]

theorem w_at (d : Fin 1024) (k : Fin 512) (K : Fin 4608) (hK : K.val = 512 * (min t.val 23 % 3 * 3) + k.val) :
    iblk m c 1 t (ix2 d k) = m ((c : Thread nD τ).loc main_arg1) (ix2 d K) := by
  blk_ext [iblk, V, idx1 t]

theorem taken_at (r : Fin 2048) (k : Fin 512) (R : Fin 16384) (K : Fin 4608) (hR : R.val = 2048 * (min t.val 23 / 3) + r.val)
    (hK : K.val = 512 * (min t.val 23 % 3 * 3) + k.val) :
    (taken m c t (ix2 r k) : EReal)
      = prod (m ((c : Thread nD τ).loc main_arg0)) (m ((c : Thread nD τ).loc main_arg1)) R K := by
  unfold taken
  rw [pay7_apply]
  exact Finset.sum_congr rfl fun d _ => by rw [h_at c t r d R hR, w_at c t d k K hK]

end

/-! ## The array -/

/-- The result as an array. -/
def outOf (c : Dev nD) : Vec Ideal S12x16384x128 .bf16 := fun y =>
  out (m ((c : Thread nD τ).loc main_arg0)) (m ((c : Thread nD τ).loc main_arg1)) (y 0) (y 1) (y 2)

/-- The first point writes nothing back. -/
theorem flush_pos : ∀ t : Fin cfg0.N, (cfg0.win 2).flush t = true → 1 ≤ t.val := by decide +kernel

/-- What a later point leaves in the output block: the rows and columns the point before it took. -/
theorem left_at (c : Dev nD) (t : Fin cfg0.N) (ht : 1 ≤ t.val) (j : Fin 4) (r : Fin 2048) (l : Fin 128) (J : Fin 12) (R : Fin 16384)
    (hJ : J.val = 4 * ((t.val - 1) % 3) + j.val) (hR : R.val = 2048 * ((t.val - 1) / 3) + r.val) :
    ((outsAt0 m c t.val t.isLt).1 (ix3 j r l) : EReal) = outOf m c (ix3 J R l) := by
  have h25 : t.val < 25 := t.isLt
  rw [written m c t (by omega)]
  have e := congrFun (scratch m c ⟨t.val - 1, by omega⟩) (ix3 j r l)
  refine e.trans ((taken_at c _ r ⟨j.val * 128 + l.val, by omega⟩ R (col J l) ?_ ?_).trans rfl)
  · show R.val = 2048 * (min (t.val - 1) 23 / 3) + r.val
    rw [show min (t.val - 1) 23 = t.val - 1 by omega]
    exact hR
  · show J.val / 4 * 1536 + (J.val % 4 * 128 + l.val) = 512 * (min (t.val - 1) 23 % 3 * 3) + (j.val * 128 + l.val)
    omega

/-- THE KERNEL'S RESULT ARRAY after the run. -/
theorem array (c : Dev nD) : (dats m 0 c).arrAt 2 cfg0.N = outOf m c := by
  refine (dats m 0 c).arrAt_eq_of_covers 2 _ (by decide +kernel) fun t hf y => ?_
  have ht : t.val < 25 := t.isLt
  have h1 := flush_pos t hf
  blk_simp
  rw [after0_2 m c t]
  obtain ⟨j, r, l, rfl⟩ : ∃ (j : Fin 4) (r : Fin 2048) (l : Fin 128), y = ix3 j r l :=
    ⟨y 0, y 1, y 2, by ext e; fin_cases e <;> rfl⟩
  refine (left_at m c t h1 j r l ⟨4 * ((t.val - 1) % 3) + j.val, by omega⟩ ⟨2048 * ((t.val - 1) / 3) + r.val, by omega⟩ rfl
    rfl).trans ?_
  blk_ext [idx2 t]

end Cert.Dil

end
-- ==== Proof.DilatedRef.lean ====
/- The dilated projection's reference, its operations grouped into steps over whole arrays, each step read at an index. -/
module

public import proofs.«01_k».proof.Proof.Gen.DilatedReferenceIdeal.Run
public import proofs.«01_k».proof.Proof.DilatedSpec
public import Idealize.ShloMosaic.Lib.Pointwise
public import Idealize.ShloMosaic.Lib.Tactic.CleanTypes

@[expose] public section

set_option maxRecDepth 16384

noncomputable section

namespace Cert.DilRef

open Cert.DilatedReferenceIdeal Cert.DilatedReferenceIdeal.Gen Idealize.ShloMosaic Idealize.ShloMosaic.TcCoe Idealize.ShloMosaic.Pointwise
open Cert.Dil (col out)

section Steps
variable {F : FTy → Type} [FloatOps F]

/-- The product. -/
def product (H : FVec F S16384x1024 .bf16) (W : FVec F S1024x4608 .bf16) : FVec F S16384x4608 .f32 :=
  Host.dotGeneral dot_S16384x1024_S1024x4608_S16384x4608_1_0_0_1_n_n none (extf .f32 H bitsLt_bf16_f32) (extf .f32 W bitsLt_bf16_f32)

/-- The first group's columns of the product. -/
def group (Z : FVec F S16384x4608 .f32) : FVec F S16384x3x512 .f32 :=
  Host.slice S16384x3x512 ![0, 0, 0] ![1, 3, 1] (shapeCast S16384x9x512 Z shapeCasts_S16384x4608_S16384x9x512)
    slicesBy_S16384x9x512_S16384x3x512_0s1_0s3_0s1

/-- Their slabs of 128. -/
def slabs (Z : FVec F S16384x3x512 .f32) : FVec F S12x16384x128 .bf16 :=
  truncf .bf16 (transpose S12x16384x128 [1, 0, 2] (shapeCast S16384x12x128 Z shapeCasts_S16384x3x512_S16384x12x128)
    transposes_S16384x12x128_S12x16384x128_1_0_2) bitsLt_bf16_f32

end Steps

theorem product_apply (H : FVec Ideal S16384x1024 .bf16) (W : FVec Ideal S1024x4608 .bf16) (r : Fin 16384) (f : Fin 4608) :
    (product H W (ix2 r f) : EReal) = ∑ d : Fin 1024, (H (ix2 r d) : EReal) * W (ix2 d f) := by
  pointwise [product]

theorem group_apply (Z : FVec Ideal S16384x4608 .f32) (r : Fin 16384) (p : Fin 3) (k : Fin 512) :
    (group Z (ix3 r p k) : EReal) = Z (ix2 r ⟨3 * p.val * 512 + k.val, by omega⟩) := by
  pointwise [group]

theorem slabs_apply (Z : FVec Ideal S16384x3x512 .f32) (j : Fin 12) (r : Fin 16384) (l : Fin 128) :
    (slabs Z (ix3 j r l) : EReal) = Z (ix3 r ⟨j.val / 4, by omega⟩ ⟨j.val % 4 * 128 + l.val, by omega⟩) := by
  pointwise [slabs]

/-- THE REFERENCE'S RESULT. -/
theorem result_at (H : FVec Ideal S16384x1024 .bf16) (W : FVec Ideal S1024x4608 .bf16) (j : Fin 12) (r : Fin 16384) (l : Fin 128) :
    (slabs (group (product H W)) (ix3 j r l) : EReal) = out H W j r l := by
  rw [slabs_apply, group_apply, product_apply]
  have e : (⟨3 * (j.val / 4) * 512 + (j.val % 4 * 128 + l.val), by omega⟩ : Fin 4608) = col j l := by
    apply Fin.ext
    show 3 * (j.val / 4) * 512 + (j.val % 4 * 128 + l.val) = j.val / 4 * 1536 + (j.val % 4 * 128 + l.val)
    omega
  rw [e]
  rfl

end Cert.DilRef

end
-- ==== Proof.DilatedClaims.lean ====
/- The claims on the dilated branch's projection: the frames, and the equation: kernel and reference both end with the slabs of the
   product of the arrays they were launched with. -/
module

public import proofs.«01_k».proof.Defs
public import proofs.«01_k».proof.Proof.Gen.Dilated.Frame
public import proofs.«01_k».proof.Proof.DilatedArray
public import proofs.«01_k».proof.Proof.DilatedRef
public import Idealize.ShloMosaic.Lib.Quiescent

@[expose] public section

noncomputable section

open Idealize.ShloMosaic Idealize.ShloMosaic.TcCoe Idealize.SL.Sem Idealize.ShloMosaic.Pointwise

namespace Cert.Proof.Dilated

theorem frame_p : Cert.quiescent_Dilated := fun m ρ _ => Cert.Dilated.Gen.frame m ρ
theorem frame_pi : Cert.quiescent_DilatedIdeal := fun m ρ _ => Cert.DilatedIdeal.Gen.frame m ρ
theorem frame_ri : Cert.quiescent_DilatedReferenceIdeal := fun m ρ _ =>
  (θ_run Cert.DilatedReferenceIdeal.defs _ _).mono (fun r h => ⟨fun c => (h c).2,
      Idealize.ShloMosaic.sem_eq_zero_of_no_sems (by decide) r.2⟩)
    (Cert.DilatedReferenceIdeal.Value.run (F := Ideal) m ρ)

/-- The ideal kernel is the kernel's own text. -/
theorem preserves : Cert.preserves_Dilated_DilatedIdeal := trivial

/-- Kernel and reference, over the extended reals, end with equal results. -/
theorem algebraic : Cert.algebraic_DilatedIdeal_DilatedReferenceIdeal := by
  intro m ρ m' ρ' _ hagree
  refine ⟨fun c => Cert.Dil.outOf m c,
    (θ_run Cert.DilatedIdeal.defs _ _).mono (fun _ h c => ⟨(h c).1.trans (Cert.Dil.array m c), (h c).2⟩)
      (Cert.DilatedIdeal.Value.run_blocks (F := Ideal) m ρ), ?_⟩
  refine (θ_run Cert.DilatedReferenceIdeal.defs _ _).mono (fun _ h c => ⟨(h c).1.trans ?_, (h c).2⟩)
    (Cert.DilatedReferenceIdeal.Value.run (F := Ideal) m' ρ')
  obtain ⟨e0, e1⟩ := hagree c
  rw [e0, e1]
  funext y
  obtain ⟨j, r, l, rfl⟩ : ∃ (j : Fin 12) (r : Fin 16384) (l : Fin 128), y = ix3 j r l :=
    ⟨y 0, y 1, y 2, by ext e; fin_cases e <;> rfl⟩
  exact Cert.DilRef.result_at _ _ j r l

end Cert.Proof.Dilated

end
-- ==== Proof.lean ====
module

public import proofs.«01_k».proof.Defs
public import proofs.«01_k».proof.Proof.Claims
public import proofs.«01_k».proof.Proof.ExpertsClaims
public import proofs.«01_k».proof.Proof.DenseClaims
public import proofs.«01_k».proof.Proof.MergeClaims
public import proofs.«01_k».proof.Proof.DilatedClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Experts.Gen.facts,
    Cert.ExpertsIdeal.Gen.facts, Cert.ExpertsReferenceIdeal.Gen.facts, Cert.Dense.Gen.facts,
    Cert.DenseIdeal.Gen.facts, Cert.DenseReferenceIdeal.Gen.facts, Cert.Merge.Gen.facts,
    Cert.MergeIdeal.Gen.facts, Cert.MergeReferenceIdeal.Gen.facts, Cert.Dilated.Gen.facts,
    Cert.DilatedIdeal.Gen.facts, Cert.DilatedReferenceIdeal.Gen.facts, Cert.Pre_finite_scores.Gen.facts, Cert.Pre_table_ranges.Gen.facts,
    Attention.frame_p, Attention.frame_pi, Attention.frame_pi_pre, Attention.frame_ri, Attention.frame_ri_pre,
    Experts.frame_p, Experts.frame_pi, Experts.frame_ri, Experts.frame_ri_pre,
    Dense.frame_p, Dense.frame_pi, Dense.frame_ri, Merge.frame_p, Merge.frame_pi, Merge.frame_ri,
    Dilated.frame_p, Dilated.frame_pi, Dilated.frame_ri,
    Attention.preserves, Attention.algebraic, Experts.preserves, Experts.algebraic, Dense.preserves, Dense.algebraic,
    Merge.preserves, Merge.algebraic, Dilated.preserves, Dilated.algebraic⟩

end Cert.Proof

end
